-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def preserves_Kernel_KernelIdeal : Prop :=
  IdealRules.named_const.Statement Cert.KernelIdeal.κ "inv_fp8_max" .f32 0x3B124925#32 ((1 / 448 : ℝ) : EReal)
  ∧ IdealRules.named_const.Statement Cert.KernelIdeal.κ "score_over_softcap" .f32 0x3AE7B46A#32 (((Real.sqrt 128)⁻¹ * (1 / 50) : ℝ) : EReal)
  ∧ IdealRules.named_const.Statement Cert.KernelIdeal.κ "softcap_log2_e" .f32 0x429044FE#32 ((50 * (Real.log 2)⁻¹ : ℝ) : EReal)

def preserves_Reference_ReferenceIdeal : Prop :=
  IdealRules.named_const.Statement Cert.ReferenceIdeal.κ "inv_fp8_max" .f32 0x3B124925#32 ((1 / 448 : ℝ) : EReal)
  ∧ IdealRules.named_const.Statement Cert.ReferenceIdeal.κ "score_scale" .f32 0x3DB504F3#32 (((Real.sqrt 128)⁻¹ : ℝ) : EReal)

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Reference (hReference := hReference)
    ∧ preserves_Kernel_KernelIdeal
    ∧ preserves_Reference_ReferenceIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S16x1x16x128 : Shape := ⟨4, ![16, 1, 16, 128]⟩
abbrev S16x1x1x128 : Shape := ⟨4, ![16, 1, 1, 128]⟩
abbrev S16x32768x1x128 : Shape := ⟨4, ![16, 32768, 1, 128]⟩
abbrev S16x32768x1 : Shape := ⟨3, ![16, 32768, 1]⟩
abbrev S16 : Shape := ⟨1, ![16]⟩
abbrev S16x128 : Shape := ⟨2, ![16, 128]⟩
abbrev S_ : Shape := ⟨0, ![]⟩

class Facts : Prop where
  shapeCasts_S16x1x1x128_S16x128 : S16x1x1x128.ShapeCasts S16x128
  bitsLt_bf16_f32 : FTy.bits .bf16 < FTy.bits .f32
  reducesTo_S16x128_S16_d1 : S16x128.ReducesTo [1] S16
  h_S_ : 0 < S_.numel
  bcast_S_S16 : S_.BroadcastsInDim S16 (![] : Fin 0 → Fin S16.rank)

variable [Facts]

def fn_part1 {F : FTy → Type} [FloatOps F] (main_v11 : IVec S16 1) (main_v15 : FVec F S16 .f32) (main_v17 : IVec S16 1) : IVec S16 1 :=
  let main_cst_5 : FVec F S_ .f32 := constant S_ .f32 0x04600000#32
  let main_v18 : FVec F S16 .f32 := broadcastInDim S16 ![] bcast_S_S16 main_cst_5
  let main_v19 : IVec S16 1 := cmpf .oge main_v15 main_v18
  let main_v20 : IVec S16 1 := ori main_v17 main_v19
  let main_cst_6 : FVec F S_ .f32 := constant S_ .f32 0x7F7F0000#32
  let main_v21 : FVec F S16 .f32 := broadcastInDim S16 ![] bcast_S_S16 main_cst_6
  let main_v22 : IVec S16 1 := cmpf .ole main_v15 main_v21
  let main_v23 : IVec S16 1 := andi main_v20 main_v22
  let main_v24 : IVec S16 1 := andi main_v11 main_v23
  main_v24

def fn {F : FTy → Type} [FloatOps F] (main_arg0 : FVec F S16x1x16x128 .bf16) (main_arg1 : FVec F S16x1x1x128 .bf16) (main_arg2 : FVec F S16x1x1x128 .bf16) (main_arg3 : FVec F S16x32768x1x128 .fp8e4m3) (main_arg4 : FVec F S16x32768x1x128 .fp8e4m3) (main_arg5 : FVec F S16x32768x1 .f32) (main_arg6 : FVec F S16x32768x1 .f32) (main_arg7 : IVec S16 32) : IVec S16 1 :=
  let main_v0 : FVec F S16x128 .bf16 := shapeCast S16x128 main_arg1 shapeCasts_S16x1x1x128_S16x128
  let main_v1 : FVec F S16x128 .f32 := (extf .f32 · bitsLt_bf16_f32) main_v0
  let main_v2 : FVec F S16x128 .f32 := Host.absf main_v1
  let main_cst : FVec F S_ .f32 := constant S_ .f32 0xFF800000#32
  let main_v3 : FVec F S16 .f32 := (fun x v => Host.reduce FloatOps.maximumf x v reducesTo_S16x128_S16_d1 h_S_) main_v2 main_cst
  let main_cst_0 : FVec F S_ .f32 := constant S_ .f32 0x00000000#32
  let main_v4 : FVec F S16 .f32 := broadcastInDim S16 ![] bcast_S_S16 main_cst_0
  let main_v5 : IVec S16 1 := cmpf .oeq main_v3 main_v4
  let main_cst_1 : FVec F S_ .f32 := constant S_ .f32 0x04600000#32
  let main_v6 : FVec F S16 .f32 := broadcastInDim S16 ![] bcast_S_S16 main_cst_1
  let main_v7 : IVec S16 1 := cmpf .oge main_v3 main_v6
  let main_v8 : IVec S16 1 := ori main_v5 main_v7
  let main_cst_2 : FVec F S_ .f32 := constant S_ .f32 0x7F7F0000#32
  let main_v9 : FVec F S16 .f32 := broadcastInDim S16 ![] bcast_S_S16 main_cst_2
  let main_v10 : IVec S16 1 := cmpf .ole main_v3 main_v9
  let main_v11 : IVec S16 1 := andi main_v8 main_v10
  let main_v12 : FVec F S16x128 .bf16 := shapeCast S16x128 main_arg2 shapeCasts_S16x1x1x128_S16x128
  let main_v13 : FVec F S16x128 .f32 := (extf .f32 · bitsLt_bf16_f32) main_v12
  let main_v14 : FVec F S16x128 .f32 := Host.absf main_v13
  let main_cst_3 : FVec F S_ .f32 := constant S_ .f32 0xFF800000#32
  let main_v15 : FVec F S16 .f32 := (fun x v => Host.reduce FloatOps.maximumf x v reducesTo_S16x128_S16_d1 h_S_) main_v14 main_cst_3
  let main_cst_4 : FVec F S_ .f32 := constant S_ .f32 0x00000000#32
  let main_v16 : FVec F S16 .f32 := broadcastInDim S16 ![] bcast_S_S16 main_cst_4
  let main_v17 : IVec S16 1 := cmpf .oeq main_v15 main_v16
  fn_part1 (F := F) main_v11 main_v15 main_v17
-- ==== Kernel.lean ====
abbrev S16x1x16x128 : Shape := ⟨4, ![16, 1, 16, 128]⟩
abbrev S16x1x1x128 : Shape := ⟨4, ![16, 1, 1, 128]⟩
abbrev S16x32768x1x128 : Shape := ⟨4, ![16, 32768, 1, 128]⟩
abbrev S16x32768x1 : Shape := ⟨3, ![16, 32768, 1]⟩
abbrev S16 : Shape := ⟨1, ![16]⟩
abbrev S16x16x128 : Shape := ⟨3, ![16, 16, 128]⟩
abbrev S16x128 : Shape := ⟨2, ![16, 128]⟩
abbrev S16x32768x128 : Shape := ⟨3, ![16, 32768, 128]⟩
abbrev S16x1x32768 : Shape := ⟨3, ![16, 1, 32768]⟩
abbrev S1x16 : Shape := ⟨2, ![1, 16]⟩
abbrev S16x1152x128 : Shape := ⟨3, ![16, 1152, 128]⟩
abbrev S16x1x1152 : Shape := ⟨3, ![16, 1, 1152]⟩
abbrev S_ : Shape := ⟨0, ![]⟩
abbrev S3 : Shape := ⟨1, ![3]⟩
abbrev S5 : Shape := ⟨1, ![5]⟩
abbrev S1 : Shape := ⟨1, ![1]⟩
abbrev S1x1152x128 : Shape := ⟨3, ![1, 1152, 128]⟩
abbrev S1152x128 : Shape := ⟨2, ![1152, 128]⟩
abbrev S1x1x1152 : Shape := ⟨3, ![1, 1, 1152]⟩
abbrev S1x1152 : Shape := ⟨2, ![1, 1152]⟩
abbrev S16x1 : Shape := ⟨2, ![16, 1]⟩
abbrev S128 : Shape := ⟨1, ![128]⟩
abbrev S1x128 : Shape := ⟨2, ![1, 128]⟩
abbrev S1x16x128 : Shape := ⟨3, ![1, 16, 128]⟩
abbrev S16x256 : Shape := ⟨2, ![16, 256]⟩
abbrev S32x256 : Shape := ⟨2, ![32, 256]⟩
abbrev S1152x256 : Shape := ⟨2, ![1152, 256]⟩
abbrev S32x1152 : Shape := ⟨2, ![32, 1152]⟩
abbrev S1x1x128 : Shape := ⟨3, ![1, 1, 128]⟩
abbrev S16x1152 : Shape := ⟨2, ![16, 1152]⟩

abbrev nBuf : Space → Nat
  | .hbm => 20
  | .vmem => 16
  | .smem => 1
  | _ => 0

abbrev bufTy : (tb : Table) → Fin (tcTables nBuf tb) → BufTy
  | .hbm, ⟨0, _⟩ => ⟨S16x1x16x128, .bf16⟩
  | .hbm, ⟨1, _⟩ => ⟨S16x1x1x128, .bf16⟩
  | .hbm, ⟨2, _⟩ => ⟨S16x1x1x128, .bf16⟩
  | .hbm, ⟨3, _⟩ => ⟨S16x32768x1x128, .fp8e4m3⟩
  | .hbm, ⟨4, _⟩ => ⟨S16x32768x1x128, .fp8e4m3⟩
  | .hbm, ⟨5, _⟩ => ⟨S16x32768x1, .f32⟩
  | .hbm, ⟨6, _⟩ => ⟨S16x32768x1, .f32⟩
  | .hbm, ⟨7, _⟩ => ⟨S16, .i32⟩
  | .hbm, ⟨8, _⟩ => ⟨S16x16x128, .bf16⟩
  | .hbm, ⟨9, _⟩ => ⟨S16x128, .bf16⟩
  | .hbm, ⟨10, _⟩ => ⟨S16x128, .bf16⟩
  | .hbm, ⟨11, _⟩ => ⟨S16x32768x128, .fp8e4m3⟩
  | .hbm, ⟨12, _⟩ => ⟨S16x32768x128, .fp8e4m3⟩
  | .hbm, ⟨13, _⟩ => ⟨S16x1x32768, .f32⟩
  | .hbm, ⟨14, _⟩ => ⟨S16x1x32768, .f32⟩
  | .hbm, ⟨15, _⟩ => ⟨S16x16x128, .bf16⟩
  | .hbm, ⟨16, _⟩ => ⟨S16x128, .fp8e4m3⟩
  | .hbm, ⟨17, _⟩ => ⟨S1x16, .f32⟩
  | .hbm, ⟨18, _⟩ => ⟨S16x128, .fp8e4m3⟩
  | .hbm, ⟨19, _⟩ => ⟨S1x16, .f32⟩
  | .local _ .vmem, ⟨0, _⟩ => ⟨S16x16x128, .bf16⟩
  | .local _ .vmem, ⟨1, _⟩ => ⟨S16x128, .bf16⟩
  | .local _ .vmem, ⟨2, _⟩ => ⟨S16x128, .bf16⟩
  | .local _ .vmem, ⟨3, _⟩ => ⟨S16x1152x128, .fp8e4m3⟩
  | .local _ .vmem, ⟨4, _⟩ => ⟨S16x1152x128, .fp8e4m3⟩
  | .local _ .vmem, ⟨5, _⟩ => ⟨S16x1x1152, .f32⟩
  | .local _ .vmem, ⟨6, _⟩ => ⟨S16x1x1152, .f32⟩
  | .local _ .vmem, ⟨7, _⟩ => ⟨S16x16x128, .bf16⟩
  | .local _ .vmem, ⟨8, _⟩ => ⟨S16x128, .fp8e4m3⟩
  | .local _ .vmem, ⟨9, _⟩ => ⟨S1x16, .f32⟩
  | .local _ .vmem, ⟨10, _⟩ => ⟨S16x128, .fp8e4m3⟩
  | .local _ .vmem, ⟨11, _⟩ => ⟨S1x16, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | .local _ .smem, ⟨0, _⟩ => ⟨S16, .i32⟩
  | _, _ => ⟨S16x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

def k0_mult1 (v11_r0 : BitVec 32) : BitVec 32 :=
  let c31616_i32_r0 : BitVec 32 := 31616#32
  let c0_i32_0_r0 : BitVec 32 := 0#32
  let c_m128_i32_r0 : BitVec 32 := 4294967168#32
  let v12_r0 : BitVec 32 := Scalar.andi v11_r0 c_m128_i32_r0
  let c1024_i32_r0 : BitVec 32 := 1024#32
  let v13_r0 : BitVec 32 := Scalar.subi v12_r0 c1024_i32_r0
  let v14_r0 : BitVec 32 := Scalar.maxsi c0_i32_0_r0 v13_r0
  let v15_r0 : BitVec 32 := Scalar.minsi c31616_i32_r0 v14_r0
  v15_r0

def k0_mult2 (v17_r0 : BitVec 32) : BitVec 32 :=
  let c31616_i32_4_r0 : BitVec 32 := 31616#32
  let c0_i32_3_r0 : BitVec 32 := 0#32
  let c_m128_i32_1_r0 : BitVec 32 := 4294967168#32
  let v18_r0 : BitVec 32 := Scalar.andi v17_r0 c_m128_i32_1_r0
  let c1024_i32_2_r0 : BitVec 32 := 1024#32
  let v19_r0 : BitVec 32 := Scalar.subi v18_r0 c1024_i32_2_r0
  let v20_r0 : BitVec 32 := Scalar.maxsi c0_i32_3_r0 v19_r0
  let v21_r0 : BitVec 32 := Scalar.minsi c31616_i32_4_r0 v20_r0
  v21_r0

def k0_mult3 (v23_r0 : BitVec 32) : BitVec 32 :=
  let c31616_i32_8_r0 : BitVec 32 := 31616#32
  let c0_i32_7_r0 : BitVec 32 := 0#32
  let c_m128_i32_5_r0 : BitVec 32 := 4294967168#32
  let v24_r0 : BitVec 32 := Scalar.andi v23_r0 c_m128_i32_5_r0
  let c1024_i32_6_r0 : BitVec 32 := 1024#32
  let v25_r0 : BitVec 32 := Scalar.subi v24_r0 c1024_i32_6_r0
  let v26_r0 : BitVec 32 := Scalar.maxsi c0_i32_7_r0 v25_r0
  let v27_r0 : BitVec 32 := Scalar.minsi c31616_i32_8_r0 v26_r0
  v27_r0

def k0_mult4 (v29_r0 : BitVec 32) : BitVec 32 :=
  let c31616_i32_12_r0 : BitVec 32 := 31616#32
  let c0_i32_11_r0 : BitVec 32 := 0#32
  let c_m128_i32_9_r0 : BitVec 32 := 4294967168#32
  let v30_r0 : BitVec 32 := Scalar.andi v29_r0 c_m128_i32_9_r0
  let c1024_i32_10_r0 : BitVec 32 := 1024#32
  let v31_r0 : BitVec 32 := Scalar.subi v30_r0 c1024_i32_10_r0
  let v32_r0 : BitVec 32 := Scalar.maxsi c0_i32_11_r0 v31_r0
  let v33_r0 : BitVec 32 := Scalar.minsi c31616_i32_12_r0 v32_r0
  v33_r0

def k0_mult5 (v35_r0 : BitVec 32) : BitVec 32 :=
  let c31616_i32_16_r0 : BitVec 32 := 31616#32
  let c0_i32_15_r0 : BitVec 32 := 0#32
  let c_m128_i32_13_r0 : BitVec 32 := 4294967168#32
  let v36_r0 : BitVec 32 := Scalar.andi v35_r0 c_m128_i32_13_r0
  let c1024_i32_14_r0 : BitVec 32 := 1024#32
  let v37_r0 : BitVec 32 := Scalar.subi v36_r0 c1024_i32_14_r0
  let v38_r0 : BitVec 32 := Scalar.maxsi c0_i32_15_r0 v37_r0
  let v39_r0 : BitVec 32 := Scalar.minsi c31616_i32_16_r0 v38_r0
  v39_r0

def k0_mult6 (v41_r0 : BitVec 32) : BitVec 32 :=
  let c31616_i32_20_r0 : BitVec 32 := 31616#32
  let c0_i32_19_r0 : BitVec 32 := 0#32
  let c_m128_i32_17_r0 : BitVec 32 := 4294967168#32
  let v42_r0 : BitVec 32 := Scalar.andi v41_r0 c_m128_i32_17_r0
  let c1024_i32_18_r0 : BitVec 32 := 1024#32
  let v43_r0 : BitVec 32 := Scalar.subi v42_r0 c1024_i32_18_r0
  let v44_r0 : BitVec 32 := Scalar.maxsi c0_i32_19_r0 v43_r0
  let v45_r0 : BitVec 32 := Scalar.minsi c31616_i32_20_r0 v44_r0
  v45_r0

def k0_mult7 (v47_r0 : BitVec 32) : BitVec 32 :=
  let c31616_i32_24_r0 : BitVec 32 := 31616#32
  let c0_i32_23_r0 : BitVec 32 := 0#32
  let c_m128_i32_21_r0 : BitVec 32 := 4294967168#32
  let v48_r0 : BitVec 32 := Scalar.andi v47_r0 c_m128_i32_21_r0
  let c1024_i32_22_r0 : BitVec 32 := 1024#32
  let v49_r0 : BitVec 32 := Scalar.subi v48_r0 c1024_i32_22_r0
  let v50_r0 : BitVec 32 := Scalar.maxsi c0_i32_23_r0 v49_r0
  let v51_r0 : BitVec 32 := Scalar.minsi c31616_i32_24_r0 v50_r0
  v51_r0

def k0_mult8 (v53_r0 : BitVec 32) : BitVec 32 :=
  let c31616_i32_28_r0 : BitVec 32 := 31616#32
  let c0_i32_27_r0 : BitVec 32 := 0#32
  let c_m128_i32_25_r0 : BitVec 32 := 4294967168#32
  let v54_r0 : BitVec 32 := Scalar.andi v53_r0 c_m128_i32_25_r0
  let c1024_i32_26_r0 : BitVec 32 := 1024#32
  let v55_r0 : BitVec 32 := Scalar.subi v54_r0 c1024_i32_26_r0
  let v56_r0 : BitVec 32 := Scalar.maxsi c0_i32_27_r0 v55_r0
  let v57_r0 : BitVec 32 := Scalar.minsi c31616_i32_28_r0 v56_r0
  v57_r0

def k0_mult9 (v59_r0 : BitVec 32) : BitVec 32 :=
  let c31616_i32_32_r0 : BitVec 32 := 31616#32
  let c0_i32_31_r0 : BitVec 32 := 0#32
  let c_m128_i32_29_r0 : BitVec 32 := 4294967168#32
  let v60_r0 : BitVec 32 := Scalar.andi v59_r0 c_m128_i32_29_r0
  let c1024_i32_30_r0 : BitVec 32 := 1024#32
  let v61_r0 : BitVec 32 := Scalar.subi v60_r0 c1024_i32_30_r0
  let v62_r0 : BitVec 32 := Scalar.maxsi c0_i32_31_r0 v61_r0
  let v63_r0 : BitVec 32 := Scalar.minsi c31616_i32_32_r0 v62_r0
  v63_r0

def k0_mult10 (v65_r0 : BitVec 32) : BitVec 32 :=
  let c31616_i32_36_r0 : BitVec 32 := 31616#32
  let c0_i32_35_r0 : BitVec 32 := 0#32
  let c_m128_i32_33_r0 : BitVec 32 := 4294967168#32
  let v66_r0 : BitVec 32 := Scalar.andi v65_r0 c_m128_i32_33_r0
  let c1024_i32_34_r0 : BitVec 32 := 1024#32
  let v67_r0 : BitVec 32 := Scalar.subi v66_r0 c1024_i32_34_r0
  let v68_r0 : BitVec 32 := Scalar.maxsi c0_i32_35_r0 v67_r0
  let v69_r0 : BitVec 32 := Scalar.minsi c31616_i32_36_r0 v68_r0
  v69_r0

def k0_mult11 (v71_r0 : BitVec 32) : BitVec 32 :=
  let c31616_i32_40_r0 : BitVec 32 := 31616#32
  let c0_i32_39_r0 : BitVec 32 := 0#32
  let c_m128_i32_37_r0 : BitVec 32 := 4294967168#32
  let v72_r0 : BitVec 32 := Scalar.andi v71_r0 c_m128_i32_37_r0
  let c1024_i32_38_r0 : BitVec 32 := 1024#32
  let v73_r0 : BitVec 32 := Scalar.subi v72_r0 c1024_i32_38_r0
  let v74_r0 : BitVec 32 := Scalar.maxsi c0_i32_39_r0 v73_r0
  let v75_r0 : BitVec 32 := Scalar.minsi c31616_i32_40_r0 v74_r0
  v75_r0

def k0_mult12 (v77_r0 : BitVec 32) : BitVec 32 :=
  let c31616_i32_44_r0 : BitVec 32 := 31616#32
  let c0_i32_43_r0 : BitVec 32 := 0#32
  let c_m128_i32_41_r0 : BitVec 32 := 4294967168#32
  let v78_r0 : BitVec 32 := Scalar.andi v77_r0 c_m128_i32_41_r0
  let c1024_i32_42_r0 : BitVec 32 := 1024#32
  let v79_r0 : BitVec 32 := Scalar.subi v78_r0 c1024_i32_42_r0
  let v80_r0 : BitVec 32 := Scalar.maxsi c0_i32_43_r0 v79_r0
  let v81_r0 : BitVec 32 := Scalar.minsi c31616_i32_44_r0 v80_r0
  v81_r0

def k0_mult13 (v83_r0 : BitVec 32) : BitVec 32 :=
  let c31616_i32_48_r0 : BitVec 32 := 31616#32
  let c0_i32_47_r0 : BitVec 32 := 0#32
  let c_m128_i32_45_r0 : BitVec 32 := 4294967168#32
  let v84_r0 : BitVec 32 := Scalar.andi v83_r0 c_m128_i32_45_r0
  let c1024_i32_46_r0 : BitVec 32 := 1024#32
  let v85_r0 : BitVec 32 := Scalar.subi v84_r0 c1024_i32_46_r0
  let v86_r0 : BitVec 32 := Scalar.maxsi c0_i32_47_r0 v85_r0
  let v87_r0 : BitVec 32 := Scalar.minsi c31616_i32_48_r0 v86_r0
  v87_r0

def k0_mult14 (v89_r0 : BitVec 32) : BitVec 32 :=
  let c31616_i32_52_r0 : BitVec 32 := 31616#32
  let c0_i32_51_r0 : BitVec 32 := 0#32
  let c_m128_i32_49_r0 : BitVec 32 := 4294967168#32
  let v90_r0 : BitVec 32 := Scalar.andi v89_r0 c_m128_i32_49_r0
  let c1024_i32_50_r0 : BitVec 32 := 1024#32
  let v91_r0 : BitVec 32 := Scalar.subi v90_r0 c1024_i32_50_r0
  let v92_r0 : BitVec 32 := Scalar.maxsi c0_i32_51_r0 v91_r0
  let v93_r0 : BitVec 32 := Scalar.minsi c31616_i32_52_r0 v92_r0
  v93_r0

def k0_mult15 (v95_r0 : BitVec 32) : BitVec 32 :=
  let c31616_i32_56_r0 : BitVec 32 := 31616#32
  let c0_i32_55_r0 : BitVec 32 := 0#32
  let c_m128_i32_53_r0 : BitVec 32 := 4294967168#32
  let v96_r0 : BitVec 32 := Scalar.andi v95_r0 c_m128_i32_53_r0
  let c1024_i32_54_r0 : BitVec 32 := 1024#32
  let v97_r0 : BitVec 32 := Scalar.subi v96_r0 c1024_i32_54_r0
  let v98_r0 : BitVec 32 := Scalar.maxsi c0_i32_55_r0 v97_r0
  let v99_r0 : BitVec 32 := Scalar.minsi c31616_i32_56_r0 v98_r0
  v99_r0

def k0_mult16 (v101_r0 : BitVec 32) : BitVec 32 :=
  let c31616_i32_60_r0 : BitVec 32 := 31616#32
  let c0_i32_59_r0 : BitVec 32 := 0#32
  let c_m128_i32_57_r0 : BitVec 32 := 4294967168#32
  let v102_r0 : BitVec 32 := Scalar.andi v101_r0 c_m128_i32_57_r0
  let c1024_i32_58_r0 : BitVec 32 := 1024#32
  let v103_r0 : BitVec 32 := Scalar.subi v102_r0 c1024_i32_58_r0
  let v104_r0 : BitVec 32 := Scalar.maxsi c0_i32_59_r0 v103_r0
  let v105_r0 : BitVec 32 := Scalar.minsi c31616_i32_60_r0 v104_r0
  v105_r0

def k0_off1 (v11_r0 : BitVec 32) : Fin 3 → Nat :=
  let c0_i32_61_r0 : BitVec 32 := 0#32
  let c31616_i32_r0 : BitVec 32 := 31616#32
  let c0_i32_0_r0 : BitVec 32 := 0#32
  let c_m128_i32_r0 : BitVec 32 := 4294967168#32
  let v12_r0 : BitVec 32 := Scalar.andi v11_r0 c_m128_i32_r0
  let c1024_i32_r0 : BitVec 32 := 1024#32
  let v13_r0 : BitVec 32 := Scalar.subi v12_r0 c1024_i32_r0
  let v14_r0 : BitVec 32 := Scalar.maxsi c0_i32_0_r0 v13_r0
  let v15_r0 : BitVec 32 := Scalar.minsi c31616_i32_r0 v14_r0
  let v16_r0 : BitVec 32 := v15_r0
  let c0_i32_66_r0 : BitVec 32 := 0#32
  ![0, v16_r0.toNat, 0]
def k0_off2 (v11_r0 : BitVec 32) : Fin 3 → Nat :=
  let c0_i32_67_r0 : BitVec 32 := 0#32
  let c0_i32_72_r0 : BitVec 32 := 0#32
  let c31616_i32_r0 : BitVec 32 := 31616#32
  let c0_i32_0_r0 : BitVec 32 := 0#32
  let c_m128_i32_r0 : BitVec 32 := 4294967168#32
  let v12_r0 : BitVec 32 := Scalar.andi v11_r0 c_m128_i32_r0
  let c1024_i32_r0 : BitVec 32 := 1024#32
  let v13_r0 : BitVec 32 := Scalar.subi v12_r0 c1024_i32_r0
  let v14_r0 : BitVec 32 := Scalar.maxsi c0_i32_0_r0 v13_r0
  let v15_r0 : BitVec 32 := Scalar.minsi c31616_i32_r0 v14_r0
  let v16_r0 : BitVec 32 := v15_r0
  ![0, 0, v16_r0.toNat]

def k0_chk1 (v11_r0 : BitVec 32) : Prop :=
  (128 ∣ (k0_mult1 v11_r0).toNat) ∧
  (∀ a, (k0_off1 v11_r0) a + S1x1152x128.size a ≤ S16x32768x128.size a) ∧
  (∀ (hinb : ∀ a, (k0_off1 v11_r0) a + S1x1152x128.size a ≤ S16x32768x128.size a), (Rect.unit (s := S16x32768x128) (k0_off1 v11_r0) S1x1152x128.size hinb).WholeWords (EltTy.packing .fp8e4m3)) ∧
  (∀ a, (k0_off2 v11_r0) a + S1x1x1152.size a ≤ S16x1x32768.size a)
theorem k0_mult1_dvd : ∀ (v11_r0 : BitVec 32) (k0_hw1 : k0_chk1 v11_r0), 128 ∣ (k0_mult1 v11_r0).toNat := fun v11_r0 k0_hw1 => k0_hw1.1
theorem k0_off1_inb : ∀ (v11_r0 : BitVec 32) (k0_hw1 : k0_chk1 v11_r0), ∀ a, (k0_off1 v11_r0) a + S1x1152x128.size a ≤ S16x32768x128.size a := fun v11_r0 k0_hw1 => k0_hw1.2.1
theorem k0_off1_wordsfp8e4m3 : ∀ (v11_r0 : BitVec 32) (k0_hw1 : k0_chk1 v11_r0), (Rect.unit (s := S16x32768x128) (k0_off1 v11_r0) S1x1152x128.size (k0_off1_inb v11_r0 k0_hw1)).WholeWords (EltTy.packing .fp8e4m3) := fun v11_r0 k0_hw1 => k0_hw1.2.2.1 (k0_off1_inb v11_r0 k0_hw1)
theorem k0_off2_inb : ∀ (v11_r0 : BitVec 32) (k0_hw1 : k0_chk1 v11_r0), ∀ a, (k0_off2 v11_r0) a + S1x1x1152.size a ≤ S16x1x32768.size a := fun v11_r0 k0_hw1 => k0_hw1.2.2.2

def k0_off3 (v17_r0 : BitVec 32) : Fin 3 → Nat :=
  let c1_i32_73_r0 : BitVec 32 := 1#32
  let c31616_i32_4_r0 : BitVec 32 := 31616#32
  let c0_i32_3_r0 : BitVec 32 := 0#32
  let c_m128_i32_1_r0 : BitVec 32 := 4294967168#32
  let v18_r0 : BitVec 32 := Scalar.andi v17_r0 c_m128_i32_1_r0
  let c1024_i32_2_r0 : BitVec 32 := 1024#32
  let v19_r0 : BitVec 32 := Scalar.subi v18_r0 c1024_i32_2_r0
  let v20_r0 : BitVec 32 := Scalar.maxsi c0_i32_3_r0 v19_r0
  let v21_r0 : BitVec 32 := Scalar.minsi c31616_i32_4_r0 v20_r0
  let v22_r0 : BitVec 32 := v21_r0
  let c0_i32_78_r0 : BitVec 32 := 0#32
  ![1, v22_r0.toNat, 0]
def k0_off4 (v17_r0 : BitVec 32) : Fin 3 → Nat :=
  let c1_i32_79_r0 : BitVec 32 := 1#32
  let c0_i32_84_r0 : BitVec 32 := 0#32
  let c31616_i32_4_r0 : BitVec 32 := 31616#32
  let c0_i32_3_r0 : BitVec 32 := 0#32
  let c_m128_i32_1_r0 : BitVec 32 := 4294967168#32
  let v18_r0 : BitVec 32 := Scalar.andi v17_r0 c_m128_i32_1_r0
  let c1024_i32_2_r0 : BitVec 32 := 1024#32
  let v19_r0 : BitVec 32 := Scalar.subi v18_r0 c1024_i32_2_r0
  let v20_r0 : BitVec 32 := Scalar.maxsi c0_i32_3_r0 v19_r0
  let v21_r0 : BitVec 32 := Scalar.minsi c31616_i32_4_r0 v20_r0
  let v22_r0 : BitVec 32 := v21_r0
  ![1, 0, v22_r0.toNat]

def k0_chk2 (v17_r0 : BitVec 32) : Prop :=
  (128 ∣ (k0_mult2 v17_r0).toNat) ∧
  (∀ a, (k0_off3 v17_r0) a + S1x1152x128.size a ≤ S16x32768x128.size a) ∧
  (∀ (hinb : ∀ a, (k0_off3 v17_r0) a + S1x1152x128.size a ≤ S16x32768x128.size a), (Rect.unit (s := S16x32768x128) (k0_off3 v17_r0) S1x1152x128.size hinb).WholeWords (EltTy.packing .fp8e4m3)) ∧
  (∀ a, (k0_off4 v17_r0) a + S1x1x1152.size a ≤ S16x1x32768.size a)
theorem k0_mult2_dvd : ∀ (v17_r0 : BitVec 32) (k0_hw2 : k0_chk2 v17_r0), 128 ∣ (k0_mult2 v17_r0).toNat := fun v17_r0 k0_hw2 => k0_hw2.1
theorem k0_off3_inb : ∀ (v17_r0 : BitVec 32) (k0_hw2 : k0_chk2 v17_r0), ∀ a, (k0_off3 v17_r0) a + S1x1152x128.size a ≤ S16x32768x128.size a := fun v17_r0 k0_hw2 => k0_hw2.2.1
theorem k0_off3_wordsfp8e4m3 : ∀ (v17_r0 : BitVec 32) (k0_hw2 : k0_chk2 v17_r0), (Rect.unit (s := S16x32768x128) (k0_off3 v17_r0) S1x1152x128.size (k0_off3_inb v17_r0 k0_hw2)).WholeWords (EltTy.packing .fp8e4m3) := fun v17_r0 k0_hw2 => k0_hw2.2.2.1 (k0_off3_inb v17_r0 k0_hw2)
theorem k0_off4_inb : ∀ (v17_r0 : BitVec 32) (k0_hw2 : k0_chk2 v17_r0), ∀ a, (k0_off4 v17_r0) a + S1x1x1152.size a ≤ S16x1x32768.size a := fun v17_r0 k0_hw2 => k0_hw2.2.2.2

def k0_off5 (v23_r0 : BitVec 32) : Fin 3 → Nat :=
  let c2_i32_85_r0 : BitVec 32 := 2#32
  let c31616_i32_8_r0 : BitVec 32 := 31616#32
  let c0_i32_7_r0 : BitVec 32 := 0#32
  let c_m128_i32_5_r0 : BitVec 32 := 4294967168#32
  let v24_r0 : BitVec 32 := Scalar.andi v23_r0 c_m128_i32_5_r0
  let c1024_i32_6_r0 : BitVec 32 := 1024#32
  let v25_r0 : BitVec 32 := Scalar.subi v24_r0 c1024_i32_6_r0
  let v26_r0 : BitVec 32 := Scalar.maxsi c0_i32_7_r0 v25_r0
  let v27_r0 : BitVec 32 := Scalar.minsi c31616_i32_8_r0 v26_r0
  let v28_r0 : BitVec 32 := v27_r0
  let c0_i32_90_r0 : BitVec 32 := 0#32
  ![2, v28_r0.toNat, 0]
def k0_off6 (v23_r0 : BitVec 32) : Fin 3 → Nat :=
  let c2_i32_91_r0 : BitVec 32 := 2#32
  let c0_i32_96_r0 : BitVec 32 := 0#32
  let c31616_i32_8_r0 : BitVec 32 := 31616#32
  let c0_i32_7_r0 : BitVec 32 := 0#32
  let c_m128_i32_5_r0 : BitVec 32 := 4294967168#32
  let v24_r0 : BitVec 32 := Scalar.andi v23_r0 c_m128_i32_5_r0
  let c1024_i32_6_r0 : BitVec 32 := 1024#32
  let v25_r0 : BitVec 32 := Scalar.subi v24_r0 c1024_i32_6_r0
  let v26_r0 : BitVec 32 := Scalar.maxsi c0_i32_7_r0 v25_r0
  let v27_r0 : BitVec 32 := Scalar.minsi c31616_i32_8_r0 v26_r0
  let v28_r0 : BitVec 32 := v27_r0
  ![2, 0, v28_r0.toNat]

def k0_chk3 (v23_r0 : BitVec 32) : Prop :=
  (128 ∣ (k0_mult3 v23_r0).toNat) ∧
  (∀ a, (k0_off5 v23_r0) a + S1x1152x128.size a ≤ S16x32768x128.size a) ∧
  (∀ (hinb : ∀ a, (k0_off5 v23_r0) a + S1x1152x128.size a ≤ S16x32768x128.size a), (Rect.unit (s := S16x32768x128) (k0_off5 v23_r0) S1x1152x128.size hinb).WholeWords (EltTy.packing .fp8e4m3)) ∧
  (∀ a, (k0_off6 v23_r0) a + S1x1x1152.size a ≤ S16x1x32768.size a)
theorem k0_mult3_dvd : ∀ (v23_r0 : BitVec 32) (k0_hw3 : k0_chk3 v23_r0), 128 ∣ (k0_mult3 v23_r0).toNat := fun v23_r0 k0_hw3 => k0_hw3.1
theorem k0_off5_inb : ∀ (v23_r0 : BitVec 32) (k0_hw3 : k0_chk3 v23_r0), ∀ a, (k0_off5 v23_r0) a + S1x1152x128.size a ≤ S16x32768x128.size a := fun v23_r0 k0_hw3 => k0_hw3.2.1
theorem k0_off5_wordsfp8e4m3 : ∀ (v23_r0 : BitVec 32) (k0_hw3 : k0_chk3 v23_r0), (Rect.unit (s := S16x32768x128) (k0_off5 v23_r0) S1x1152x128.size (k0_off5_inb v23_r0 k0_hw3)).WholeWords (EltTy.packing .fp8e4m3) := fun v23_r0 k0_hw3 => k0_hw3.2.2.1 (k0_off5_inb v23_r0 k0_hw3)
theorem k0_off6_inb : ∀ (v23_r0 : BitVec 32) (k0_hw3 : k0_chk3 v23_r0), ∀ a, (k0_off6 v23_r0) a + S1x1x1152.size a ≤ S16x1x32768.size a := fun v23_r0 k0_hw3 => k0_hw3.2.2.2

def k0_off7 (v29_r0 : BitVec 32) : Fin 3 → Nat :=
  let c3_i32_r0 : BitVec 32 := 3#32
  let c31616_i32_12_r0 : BitVec 32 := 31616#32
  let c0_i32_11_r0 : BitVec 32 := 0#32
  let c_m128_i32_9_r0 : BitVec 32 := 4294967168#32
  let v30_r0 : BitVec 32 := Scalar.andi v29_r0 c_m128_i32_9_r0
  let c1024_i32_10_r0 : BitVec 32 := 1024#32
  let v31_r0 : BitVec 32 := Scalar.subi v30_r0 c1024_i32_10_r0
  let v32_r0 : BitVec 32 := Scalar.maxsi c0_i32_11_r0 v31_r0
  let v33_r0 : BitVec 32 := Scalar.minsi c31616_i32_12_r0 v32_r0
  let v34_r0 : BitVec 32 := v33_r0
  let c0_i32_101_r0 : BitVec 32 := 0#32
  ![3, v34_r0.toNat, 0]
def k0_off8 (v29_r0 : BitVec 32) : Fin 3 → Nat :=
  let c3_i32_102_r0 : BitVec 32 := 3#32
  let c0_i32_107_r0 : BitVec 32 := 0#32
  let c31616_i32_12_r0 : BitVec 32 := 31616#32
  let c0_i32_11_r0 : BitVec 32 := 0#32
  let c_m128_i32_9_r0 : BitVec 32 := 4294967168#32
  let v30_r0 : BitVec 32 := Scalar.andi v29_r0 c_m128_i32_9_r0
  let c1024_i32_10_r0 : BitVec 32 := 1024#32
  let v31_r0 : BitVec 32 := Scalar.subi v30_r0 c1024_i32_10_r0
  let v32_r0 : BitVec 32 := Scalar.maxsi c0_i32_11_r0 v31_r0
  let v33_r0 : BitVec 32 := Scalar.minsi c31616_i32_12_r0 v32_r0
  let v34_r0 : BitVec 32 := v33_r0
  ![3, 0, v34_r0.toNat]

def k0_chk4 (v29_r0 : BitVec 32) : Prop :=
  (128 ∣ (k0_mult4 v29_r0).toNat) ∧
  (∀ a, (k0_off7 v29_r0) a + S1x1152x128.size a ≤ S16x32768x128.size a) ∧
  (∀ (hinb : ∀ a, (k0_off7 v29_r0) a + S1x1152x128.size a ≤ S16x32768x128.size a), (Rect.unit (s := S16x32768x128) (k0_off7 v29_r0) S1x1152x128.size hinb).WholeWords (EltTy.packing .fp8e4m3)) ∧
  (∀ a, (k0_off8 v29_r0) a + S1x1x1152.size a ≤ S16x1x32768.size a)
theorem k0_mult4_dvd : ∀ (v29_r0 : BitVec 32) (k0_hw4 : k0_chk4 v29_r0), 128 ∣ (k0_mult4 v29_r0).toNat := fun v29_r0 k0_hw4 => k0_hw4.1
theorem k0_off7_inb : ∀ (v29_r0 : BitVec 32) (k0_hw4 : k0_chk4 v29_r0), ∀ a, (k0_off7 v29_r0) a + S1x1152x128.size a ≤ S16x32768x128.size a := fun v29_r0 k0_hw4 => k0_hw4.2.1
theorem k0_off7_wordsfp8e4m3 : ∀ (v29_r0 : BitVec 32) (k0_hw4 : k0_chk4 v29_r0), (Rect.unit (s := S16x32768x128) (k0_off7 v29_r0) S1x1152x128.size (k0_off7_inb v29_r0 k0_hw4)).WholeWords (EltTy.packing .fp8e4m3) := fun v29_r0 k0_hw4 => k0_hw4.2.2.1 (k0_off7_inb v29_r0 k0_hw4)
theorem k0_off8_inb : ∀ (v29_r0 : BitVec 32) (k0_hw4 : k0_chk4 v29_r0), ∀ a, (k0_off8 v29_r0) a + S1x1x1152.size a ≤ S16x1x32768.size a := fun v29_r0 k0_hw4 => k0_hw4.2.2.2

def k0_off9 (v35_r0 : BitVec 32) : Fin 3 → Nat :=
  let c4_i32_r0 : BitVec 32 := 4#32
  let c31616_i32_16_r0 : BitVec 32 := 31616#32
  let c0_i32_15_r0 : BitVec 32 := 0#32
  let c_m128_i32_13_r0 : BitVec 32 := 4294967168#32
  let v36_r0 : BitVec 32 := Scalar.andi v35_r0 c_m128_i32_13_r0
  let c1024_i32_14_r0 : BitVec 32 := 1024#32
  let v37_r0 : BitVec 32 := Scalar.subi v36_r0 c1024_i32_14_r0
  let v38_r0 : BitVec 32 := Scalar.maxsi c0_i32_15_r0 v37_r0
  let v39_r0 : BitVec 32 := Scalar.minsi c31616_i32_16_r0 v38_r0
  let v40_r0 : BitVec 32 := v39_r0
  let c0_i32_112_r0 : BitVec 32 := 0#32
  ![4, v40_r0.toNat, 0]
def k0_off10 (v35_r0 : BitVec 32) : Fin 3 → Nat :=
  let c4_i32_113_r0 : BitVec 32 := 4#32
  let c0_i32_118_r0 : BitVec 32 := 0#32
  let c31616_i32_16_r0 : BitVec 32 := 31616#32
  let c0_i32_15_r0 : BitVec 32 := 0#32
  let c_m128_i32_13_r0 : BitVec 32 := 4294967168#32
  let v36_r0 : BitVec 32 := Scalar.andi v35_r0 c_m128_i32_13_r0
  let c1024_i32_14_r0 : BitVec 32 := 1024#32
  let v37_r0 : BitVec 32 := Scalar.subi v36_r0 c1024_i32_14_r0
  let v38_r0 : BitVec 32 := Scalar.maxsi c0_i32_15_r0 v37_r0
  let v39_r0 : BitVec 32 := Scalar.minsi c31616_i32_16_r0 v38_r0
  let v40_r0 : BitVec 32 := v39_r0
  ![4, 0, v40_r0.toNat]

def k0_chk5 (v35_r0 : BitVec 32) : Prop :=
  (128 ∣ (k0_mult5 v35_r0).toNat) ∧
  (∀ a, (k0_off9 v35_r0) a + S1x1152x128.size a ≤ S16x32768x128.size a) ∧
  (∀ (hinb : ∀ a, (k0_off9 v35_r0) a + S1x1152x128.size a ≤ S16x32768x128.size a), (Rect.unit (s := S16x32768x128) (k0_off9 v35_r0) S1x1152x128.size hinb).WholeWords (EltTy.packing .fp8e4m3)) ∧
  (∀ a, (k0_off10 v35_r0) a + S1x1x1152.size a ≤ S16x1x32768.size a)
theorem k0_mult5_dvd : ∀ (v35_r0 : BitVec 32) (k0_hw5 : k0_chk5 v35_r0), 128 ∣ (k0_mult5 v35_r0).toNat := fun v35_r0 k0_hw5 => k0_hw5.1
theorem k0_off9_inb : ∀ (v35_r0 : BitVec 32) (k0_hw5 : k0_chk5 v35_r0), ∀ a, (k0_off9 v35_r0) a + S1x1152x128.size a ≤ S16x32768x128.size a := fun v35_r0 k0_hw5 => k0_hw5.2.1
theorem k0_off9_wordsfp8e4m3 : ∀ (v35_r0 : BitVec 32) (k0_hw5 : k0_chk5 v35_r0), (Rect.unit (s := S16x32768x128) (k0_off9 v35_r0) S1x1152x128.size (k0_off9_inb v35_r0 k0_hw5)).WholeWords (EltTy.packing .fp8e4m3) := fun v35_r0 k0_hw5 => k0_hw5.2.2.1 (k0_off9_inb v35_r0 k0_hw5)
theorem k0_off10_inb : ∀ (v35_r0 : BitVec 32) (k0_hw5 : k0_chk5 v35_r0), ∀ a, (k0_off10 v35_r0) a + S1x1x1152.size a ≤ S16x1x32768.size a := fun v35_r0 k0_hw5 => k0_hw5.2.2.2

def k0_off11 (v41_r0 : BitVec 32) : Fin 3 → Nat :=
  let c5_i32_r0 : BitVec 32 := 5#32
  let c31616_i32_20_r0 : BitVec 32 := 31616#32
  let c0_i32_19_r0 : BitVec 32 := 0#32
  let c_m128_i32_17_r0 : BitVec 32 := 4294967168#32
  let v42_r0 : BitVec 32 := Scalar.andi v41_r0 c_m128_i32_17_r0
  let c1024_i32_18_r0 : BitVec 32 := 1024#32
  let v43_r0 : BitVec 32 := Scalar.subi v42_r0 c1024_i32_18_r0
  let v44_r0 : BitVec 32 := Scalar.maxsi c0_i32_19_r0 v43_r0
  let v45_r0 : BitVec 32 := Scalar.minsi c31616_i32_20_r0 v44_r0
  let v46_r0 : BitVec 32 := v45_r0
  let c0_i32_123_r0 : BitVec 32 := 0#32
  ![5, v46_r0.toNat, 0]
def k0_off12 (v41_r0 : BitVec 32) : Fin 3 → Nat :=
  let c5_i32_124_r0 : BitVec 32 := 5#32
  let c0_i32_129_r0 : BitVec 32 := 0#32
  let c31616_i32_20_r0 : BitVec 32 := 31616#32
  let c0_i32_19_r0 : BitVec 32 := 0#32
  let c_m128_i32_17_r0 : BitVec 32 := 4294967168#32
  let v42_r0 : BitVec 32 := Scalar.andi v41_r0 c_m128_i32_17_r0
  let c1024_i32_18_r0 : BitVec 32 := 1024#32
  let v43_r0 : BitVec 32 := Scalar.subi v42_r0 c1024_i32_18_r0
  let v44_r0 : BitVec 32 := Scalar.maxsi c0_i32_19_r0 v43_r0
  let v45_r0 : BitVec 32 := Scalar.minsi c31616_i32_20_r0 v44_r0
  let v46_r0 : BitVec 32 := v45_r0
  ![5, 0, v46_r0.toNat]

def k0_chk6 (v41_r0 : BitVec 32) : Prop :=
  (128 ∣ (k0_mult6 v41_r0).toNat) ∧
  (∀ a, (k0_off11 v41_r0) a + S1x1152x128.size a ≤ S16x32768x128.size a) ∧
  (∀ (hinb : ∀ a, (k0_off11 v41_r0) a + S1x1152x128.size a ≤ S16x32768x128.size a), (Rect.unit (s := S16x32768x128) (k0_off11 v41_r0) S1x1152x128.size hinb).WholeWords (EltTy.packing .fp8e4m3)) ∧
  (∀ a, (k0_off12 v41_r0) a + S1x1x1152.size a ≤ S16x1x32768.size a)
theorem k0_mult6_dvd : ∀ (v41_r0 : BitVec 32) (k0_hw6 : k0_chk6 v41_r0), 128 ∣ (k0_mult6 v41_r0).toNat := fun v41_r0 k0_hw6 => k0_hw6.1
theorem k0_off11_inb : ∀ (v41_r0 : BitVec 32) (k0_hw6 : k0_chk6 v41_r0), ∀ a, (k0_off11 v41_r0) a + S1x1152x128.size a ≤ S16x32768x128.size a := fun v41_r0 k0_hw6 => k0_hw6.2.1
theorem k0_off11_wordsfp8e4m3 : ∀ (v41_r0 : BitVec 32) (k0_hw6 : k0_chk6 v41_r0), (Rect.unit (s := S16x32768x128) (k0_off11 v41_r0) S1x1152x128.size (k0_off11_inb v41_r0 k0_hw6)).WholeWords (EltTy.packing .fp8e4m3) := fun v41_r0 k0_hw6 => k0_hw6.2.2.1 (k0_off11_inb v41_r0 k0_hw6)
theorem k0_off12_inb : ∀ (v41_r0 : BitVec 32) (k0_hw6 : k0_chk6 v41_r0), ∀ a, (k0_off12 v41_r0) a + S1x1x1152.size a ≤ S16x1x32768.size a := fun v41_r0 k0_hw6 => k0_hw6.2.2.2

def k0_off13 (v47_r0 : BitVec 32) : Fin 3 → Nat :=
  let c6_i32_r0 : BitVec 32 := 6#32
  let c31616_i32_24_r0 : BitVec 32 := 31616#32
  let c0_i32_23_r0 : BitVec 32 := 0#32
  let c_m128_i32_21_r0 : BitVec 32 := 4294967168#32
  let v48_r0 : BitVec 32 := Scalar.andi v47_r0 c_m128_i32_21_r0
  let c1024_i32_22_r0 : BitVec 32 := 1024#32
  let v49_r0 : BitVec 32 := Scalar.subi v48_r0 c1024_i32_22_r0
  let v50_r0 : BitVec 32 := Scalar.maxsi c0_i32_23_r0 v49_r0
  let v51_r0 : BitVec 32 := Scalar.minsi c31616_i32_24_r0 v50_r0
  let v52_r0 : BitVec 32 := v51_r0
  let c0_i32_134_r0 : BitVec 32 := 0#32
  ![6, v52_r0.toNat, 0]
def k0_off14 (v47_r0 : BitVec 32) : Fin 3 → Nat :=
  let c6_i32_135_r0 : BitVec 32 := 6#32
  let c0_i32_140_r0 : BitVec 32 := 0#32
  let c31616_i32_24_r0 : BitVec 32 := 31616#32
  let c0_i32_23_r0 : BitVec 32 := 0#32
  let c_m128_i32_21_r0 : BitVec 32 := 4294967168#32
  let v48_r0 : BitVec 32 := Scalar.andi v47_r0 c_m128_i32_21_r0
  let c1024_i32_22_r0 : BitVec 32 := 1024#32
  let v49_r0 : BitVec 32 := Scalar.subi v48_r0 c1024_i32_22_r0
  let v50_r0 : BitVec 32 := Scalar.maxsi c0_i32_23_r0 v49_r0
  let v51_r0 : BitVec 32 := Scalar.minsi c31616_i32_24_r0 v50_r0
  let v52_r0 : BitVec 32 := v51_r0
  ![6, 0, v52_r0.toNat]

def k0_chk7 (v47_r0 : BitVec 32) : Prop :=
  (128 ∣ (k0_mult7 v47_r0).toNat) ∧
  (∀ a, (k0_off13 v47_r0) a + S1x1152x128.size a ≤ S16x32768x128.size a) ∧
  (∀ (hinb : ∀ a, (k0_off13 v47_r0) a + S1x1152x128.size a ≤ S16x32768x128.size a), (Rect.unit (s := S16x32768x128) (k0_off13 v47_r0) S1x1152x128.size hinb).WholeWords (EltTy.packing .fp8e4m3)) ∧
  (∀ a, (k0_off14 v47_r0) a + S1x1x1152.size a ≤ S16x1x32768.size a)
theorem k0_mult7_dvd : ∀ (v47_r0 : BitVec 32) (k0_hw7 : k0_chk7 v47_r0), 128 ∣ (k0_mult7 v47_r0).toNat := fun v47_r0 k0_hw7 => k0_hw7.1
theorem k0_off13_inb : ∀ (v47_r0 : BitVec 32) (k0_hw7 : k0_chk7 v47_r0), ∀ a, (k0_off13 v47_r0) a + S1x1152x128.size a ≤ S16x32768x128.size a := fun v47_r0 k0_hw7 => k0_hw7.2.1
theorem k0_off13_wordsfp8e4m3 : ∀ (v47_r0 : BitVec 32) (k0_hw7 : k0_chk7 v47_r0), (Rect.unit (s := S16x32768x128) (k0_off13 v47_r0) S1x1152x128.size (k0_off13_inb v47_r0 k0_hw7)).WholeWords (EltTy.packing .fp8e4m3) := fun v47_r0 k0_hw7 => k0_hw7.2.2.1 (k0_off13_inb v47_r0 k0_hw7)
theorem k0_off14_inb : ∀ (v47_r0 : BitVec 32) (k0_hw7 : k0_chk7 v47_r0), ∀ a, (k0_off14 v47_r0) a + S1x1x1152.size a ≤ S16x1x32768.size a := fun v47_r0 k0_hw7 => k0_hw7.2.2.2

def k0_off15 (v53_r0 : BitVec 32) : Fin 3 → Nat :=
  let c7_i32_r0 : BitVec 32 := 7#32
  let c31616_i32_28_r0 : BitVec 32 := 31616#32
  let c0_i32_27_r0 : BitVec 32 := 0#32
  let c_m128_i32_25_r0 : BitVec 32 := 4294967168#32
  let v54_r0 : BitVec 32 := Scalar.andi v53_r0 c_m128_i32_25_r0
  let c1024_i32_26_r0 : BitVec 32 := 1024#32
  let v55_r0 : BitVec 32 := Scalar.subi v54_r0 c1024_i32_26_r0
  let v56_r0 : BitVec 32 := Scalar.maxsi c0_i32_27_r0 v55_r0
  let v57_r0 : BitVec 32 := Scalar.minsi c31616_i32_28_r0 v56_r0
  let v58_r0 : BitVec 32 := v57_r0
  let c0_i32_145_r0 : BitVec 32 := 0#32
  ![7, v58_r0.toNat, 0]
def k0_off16 (v53_r0 : BitVec 32) : Fin 3 → Nat :=
  let c7_i32_146_r0 : BitVec 32 := 7#32
  let c0_i32_151_r0 : BitVec 32 := 0#32
  let c31616_i32_28_r0 : BitVec 32 := 31616#32
  let c0_i32_27_r0 : BitVec 32 := 0#32
  let c_m128_i32_25_r0 : BitVec 32 := 4294967168#32
  let v54_r0 : BitVec 32 := Scalar.andi v53_r0 c_m128_i32_25_r0
  let c1024_i32_26_r0 : BitVec 32 := 1024#32
  let v55_r0 : BitVec 32 := Scalar.subi v54_r0 c1024_i32_26_r0
  let v56_r0 : BitVec 32 := Scalar.maxsi c0_i32_27_r0 v55_r0
  let v57_r0 : BitVec 32 := Scalar.minsi c31616_i32_28_r0 v56_r0
  let v58_r0 : BitVec 32 := v57_r0
  ![7, 0, v58_r0.toNat]

def k0_chk8 (v53_r0 : BitVec 32) : Prop :=
  (128 ∣ (k0_mult8 v53_r0).toNat) ∧
  (∀ a, (k0_off15 v53_r0) a + S1x1152x128.size a ≤ S16x32768x128.size a) ∧
  (∀ (hinb : ∀ a, (k0_off15 v53_r0) a + S1x1152x128.size a ≤ S16x32768x128.size a), (Rect.unit (s := S16x32768x128) (k0_off15 v53_r0) S1x1152x128.size hinb).WholeWords (EltTy.packing .fp8e4m3)) ∧
  (∀ a, (k0_off16 v53_r0) a + S1x1x1152.size a ≤ S16x1x32768.size a)
theorem k0_mult8_dvd : ∀ (v53_r0 : BitVec 32) (k0_hw8 : k0_chk8 v53_r0), 128 ∣ (k0_mult8 v53_r0).toNat := fun v53_r0 k0_hw8 => k0_hw8.1
theorem k0_off15_inb : ∀ (v53_r0 : BitVec 32) (k0_hw8 : k0_chk8 v53_r0), ∀ a, (k0_off15 v53_r0) a + S1x1152x128.size a ≤ S16x32768x128.size a := fun v53_r0 k0_hw8 => k0_hw8.2.1
theorem k0_off15_wordsfp8e4m3 : ∀ (v53_r0 : BitVec 32) (k0_hw8 : k0_chk8 v53_r0), (Rect.unit (s := S16x32768x128) (k0_off15 v53_r0) S1x1152x128.size (k0_off15_inb v53_r0 k0_hw8)).WholeWords (EltTy.packing .fp8e4m3) := fun v53_r0 k0_hw8 => k0_hw8.2.2.1 (k0_off15_inb v53_r0 k0_hw8)
theorem k0_off16_inb : ∀ (v53_r0 : BitVec 32) (k0_hw8 : k0_chk8 v53_r0), ∀ a, (k0_off16 v53_r0) a + S1x1x1152.size a ≤ S16x1x32768.size a := fun v53_r0 k0_hw8 => k0_hw8.2.2.2

def k0_off17 (v59_r0 : BitVec 32) : Fin 3 → Nat :=
  let c8_i32_r0 : BitVec 32 := 8#32
  let c31616_i32_32_r0 : BitVec 32 := 31616#32
  let c0_i32_31_r0 : BitVec 32 := 0#32
  let c_m128_i32_29_r0 : BitVec 32 := 4294967168#32
  let v60_r0 : BitVec 32 := Scalar.andi v59_r0 c_m128_i32_29_r0
  let c1024_i32_30_r0 : BitVec 32 := 1024#32
  let v61_r0 : BitVec 32 := Scalar.subi v60_r0 c1024_i32_30_r0
  let v62_r0 : BitVec 32 := Scalar.maxsi c0_i32_31_r0 v61_r0
  let v63_r0 : BitVec 32 := Scalar.minsi c31616_i32_32_r0 v62_r0
  let v64_r0 : BitVec 32 := v63_r0
  let c0_i32_156_r0 : BitVec 32 := 0#32
  ![8, v64_r0.toNat, 0]
def k0_off18 (v59_r0 : BitVec 32) : Fin 3 → Nat :=
  let c8_i32_157_r0 : BitVec 32 := 8#32
  let c0_i32_162_r0 : BitVec 32 := 0#32
  let c31616_i32_32_r0 : BitVec 32 := 31616#32
  let c0_i32_31_r0 : BitVec 32 := 0#32
  let c_m128_i32_29_r0 : BitVec 32 := 4294967168#32
  let v60_r0 : BitVec 32 := Scalar.andi v59_r0 c_m128_i32_29_r0
  let c1024_i32_30_r0 : BitVec 32 := 1024#32
  let v61_r0 : BitVec 32 := Scalar.subi v60_r0 c1024_i32_30_r0
  let v62_r0 : BitVec 32 := Scalar.maxsi c0_i32_31_r0 v61_r0
  let v63_r0 : BitVec 32 := Scalar.minsi c31616_i32_32_r0 v62_r0
  let v64_r0 : BitVec 32 := v63_r0
  ![8, 0, v64_r0.toNat]

def k0_chk9 (v59_r0 : BitVec 32) : Prop :=
  (128 ∣ (k0_mult9 v59_r0).toNat) ∧
  (∀ a, (k0_off17 v59_r0) a + S1x1152x128.size a ≤ S16x32768x128.size a) ∧
  (∀ (hinb : ∀ a, (k0_off17 v59_r0) a + S1x1152x128.size a ≤ S16x32768x128.size a), (Rect.unit (s := S16x32768x128) (k0_off17 v59_r0) S1x1152x128.size hinb).WholeWords (EltTy.packing .fp8e4m3)) ∧
  (∀ a, (k0_off18 v59_r0) a + S1x1x1152.size a ≤ S16x1x32768.size a)
theorem k0_mult9_dvd : ∀ (v59_r0 : BitVec 32) (k0_hw9 : k0_chk9 v59_r0), 128 ∣ (k0_mult9 v59_r0).toNat := fun v59_r0 k0_hw9 => k0_hw9.1
theorem k0_off17_inb : ∀ (v59_r0 : BitVec 32) (k0_hw9 : k0_chk9 v59_r0), ∀ a, (k0_off17 v59_r0) a + S1x1152x128.size a ≤ S16x32768x128.size a := fun v59_r0 k0_hw9 => k0_hw9.2.1
theorem k0_off17_wordsfp8e4m3 : ∀ (v59_r0 : BitVec 32) (k0_hw9 : k0_chk9 v59_r0), (Rect.unit (s := S16x32768x128) (k0_off17 v59_r0) S1x1152x128.size (k0_off17_inb v59_r0 k0_hw9)).WholeWords (EltTy.packing .fp8e4m3) := fun v59_r0 k0_hw9 => k0_hw9.2.2.1 (k0_off17_inb v59_r0 k0_hw9)
theorem k0_off18_inb : ∀ (v59_r0 : BitVec 32) (k0_hw9 : k0_chk9 v59_r0), ∀ a, (k0_off18 v59_r0) a + S1x1x1152.size a ≤ S16x1x32768.size a := fun v59_r0 k0_hw9 => k0_hw9.2.2.2

def k0_off19 (v65_r0 : BitVec 32) : Fin 3 → Nat :=
  let c9_i32_r0 : BitVec 32 := 9#32
  let c31616_i32_36_r0 : BitVec 32 := 31616#32
  let c0_i32_35_r0 : BitVec 32 := 0#32
  let c_m128_i32_33_r0 : BitVec 32 := 4294967168#32
  let v66_r0 : BitVec 32 := Scalar.andi v65_r0 c_m128_i32_33_r0
  let c1024_i32_34_r0 : BitVec 32 := 1024#32
  let v67_r0 : BitVec 32 := Scalar.subi v66_r0 c1024_i32_34_r0
  let v68_r0 : BitVec 32 := Scalar.maxsi c0_i32_35_r0 v67_r0
  let v69_r0 : BitVec 32 := Scalar.minsi c31616_i32_36_r0 v68_r0
  let v70_r0 : BitVec 32 := v69_r0
  let c0_i32_167_r0 : BitVec 32 := 0#32
  ![9, v70_r0.toNat, 0]
def k0_off20 (v65_r0 : BitVec 32) : Fin 3 → Nat :=
  let c9_i32_168_r0 : BitVec 32 := 9#32
  let c0_i32_173_r0 : BitVec 32 := 0#32
  let c31616_i32_36_r0 : BitVec 32 := 31616#32
  let c0_i32_35_r0 : BitVec 32 := 0#32
  let c_m128_i32_33_r0 : BitVec 32 := 4294967168#32
  let v66_r0 : BitVec 32 := Scalar.andi v65_r0 c_m128_i32_33_r0
  let c1024_i32_34_r0 : BitVec 32 := 1024#32
  let v67_r0 : BitVec 32 := Scalar.subi v66_r0 c1024_i32_34_r0
  let v68_r0 : BitVec 32 := Scalar.maxsi c0_i32_35_r0 v67_r0
  let v69_r0 : BitVec 32 := Scalar.minsi c31616_i32_36_r0 v68_r0
  let v70_r0 : BitVec 32 := v69_r0
  ![9, 0, v70_r0.toNat]

def k0_chk10 (v65_r0 : BitVec 32) : Prop :=
  (128 ∣ (k0_mult10 v65_r0).toNat) ∧
  (∀ a, (k0_off19 v65_r0) a + S1x1152x128.size a ≤ S16x32768x128.size a) ∧
  (∀ (hinb : ∀ a, (k0_off19 v65_r0) a + S1x1152x128.size a ≤ S16x32768x128.size a), (Rect.unit (s := S16x32768x128) (k0_off19 v65_r0) S1x1152x128.size hinb).WholeWords (EltTy.packing .fp8e4m3)) ∧
  (∀ a, (k0_off20 v65_r0) a + S1x1x1152.size a ≤ S16x1x32768.size a)
theorem k0_mult10_dvd : ∀ (v65_r0 : BitVec 32) (k0_hw10 : k0_chk10 v65_r0), 128 ∣ (k0_mult10 v65_r0).toNat := fun v65_r0 k0_hw10 => k0_hw10.1
theorem k0_off19_inb : ∀ (v65_r0 : BitVec 32) (k0_hw10 : k0_chk10 v65_r0), ∀ a, (k0_off19 v65_r0) a + S1x1152x128.size a ≤ S16x32768x128.size a := fun v65_r0 k0_hw10 => k0_hw10.2.1
theorem k0_off19_wordsfp8e4m3 : ∀ (v65_r0 : BitVec 32) (k0_hw10 : k0_chk10 v65_r0), (Rect.unit (s := S16x32768x128) (k0_off19 v65_r0) S1x1152x128.size (k0_off19_inb v65_r0 k0_hw10)).WholeWords (EltTy.packing .fp8e4m3) := fun v65_r0 k0_hw10 => k0_hw10.2.2.1 (k0_off19_inb v65_r0 k0_hw10)
theorem k0_off20_inb : ∀ (v65_r0 : BitVec 32) (k0_hw10 : k0_chk10 v65_r0), ∀ a, (k0_off20 v65_r0) a + S1x1x1152.size a ≤ S16x1x32768.size a := fun v65_r0 k0_hw10 => k0_hw10.2.2.2

def k0_off21 (v71_r0 : BitVec 32) : Fin 3 → Nat :=
  let c10_i32_r0 : BitVec 32 := 10#32
  let c31616_i32_40_r0 : BitVec 32 := 31616#32
  let c0_i32_39_r0 : BitVec 32 := 0#32
  let c_m128_i32_37_r0 : BitVec 32 := 4294967168#32
  let v72_r0 : BitVec 32 := Scalar.andi v71_r0 c_m128_i32_37_r0
  let c1024_i32_38_r0 : BitVec 32 := 1024#32
  let v73_r0 : BitVec 32 := Scalar.subi v72_r0 c1024_i32_38_r0
  let v74_r0 : BitVec 32 := Scalar.maxsi c0_i32_39_r0 v73_r0
  let v75_r0 : BitVec 32 := Scalar.minsi c31616_i32_40_r0 v74_r0
  let v76_r0 : BitVec 32 := v75_r0
  let c0_i32_178_r0 : BitVec 32 := 0#32
  ![10, v76_r0.toNat, 0]
def k0_off22 (v71_r0 : BitVec 32) : Fin 3 → Nat :=
  let c10_i32_179_r0 : BitVec 32 := 10#32
  let c0_i32_184_r0 : BitVec 32 := 0#32
  let c31616_i32_40_r0 : BitVec 32 := 31616#32
  let c0_i32_39_r0 : BitVec 32 := 0#32
  let c_m128_i32_37_r0 : BitVec 32 := 4294967168#32
  let v72_r0 : BitVec 32 := Scalar.andi v71_r0 c_m128_i32_37_r0
  let c1024_i32_38_r0 : BitVec 32 := 1024#32
  let v73_r0 : BitVec 32 := Scalar.subi v72_r0 c1024_i32_38_r0
  let v74_r0 : BitVec 32 := Scalar.maxsi c0_i32_39_r0 v73_r0
  let v75_r0 : BitVec 32 := Scalar.minsi c31616_i32_40_r0 v74_r0
  let v76_r0 : BitVec 32 := v75_r0
  ![10, 0, v76_r0.toNat]

def k0_chk11 (v71_r0 : BitVec 32) : Prop :=
  (128 ∣ (k0_mult11 v71_r0).toNat) ∧
  (∀ a, (k0_off21 v71_r0) a + S1x1152x128.size a ≤ S16x32768x128.size a) ∧
  (∀ (hinb : ∀ a, (k0_off21 v71_r0) a + S1x1152x128.size a ≤ S16x32768x128.size a), (Rect.unit (s := S16x32768x128) (k0_off21 v71_r0) S1x1152x128.size hinb).WholeWords (EltTy.packing .fp8e4m3)) ∧
  (∀ a, (k0_off22 v71_r0) a + S1x1x1152.size a ≤ S16x1x32768.size a)
theorem k0_mult11_dvd : ∀ (v71_r0 : BitVec 32) (k0_hw11 : k0_chk11 v71_r0), 128 ∣ (k0_mult11 v71_r0).toNat := fun v71_r0 k0_hw11 => k0_hw11.1
theorem k0_off21_inb : ∀ (v71_r0 : BitVec 32) (k0_hw11 : k0_chk11 v71_r0), ∀ a, (k0_off21 v71_r0) a + S1x1152x128.size a ≤ S16x32768x128.size a := fun v71_r0 k0_hw11 => k0_hw11.2.1
theorem k0_off21_wordsfp8e4m3 : ∀ (v71_r0 : BitVec 32) (k0_hw11 : k0_chk11 v71_r0), (Rect.unit (s := S16x32768x128) (k0_off21 v71_r0) S1x1152x128.size (k0_off21_inb v71_r0 k0_hw11)).WholeWords (EltTy.packing .fp8e4m3) := fun v71_r0 k0_hw11 => k0_hw11.2.2.1 (k0_off21_inb v71_r0 k0_hw11)
theorem k0_off22_inb : ∀ (v71_r0 : BitVec 32) (k0_hw11 : k0_chk11 v71_r0), ∀ a, (k0_off22 v71_r0) a + S1x1x1152.size a ≤ S16x1x32768.size a := fun v71_r0 k0_hw11 => k0_hw11.2.2.2

def k0_off23 (v77_r0 : BitVec 32) : Fin 3 → Nat :=
  let c11_i32_r0 : BitVec 32 := 11#32
  let c31616_i32_44_r0 : BitVec 32 := 31616#32
  let c0_i32_43_r0 : BitVec 32 := 0#32
  let c_m128_i32_41_r0 : BitVec 32 := 4294967168#32
  let v78_r0 : BitVec 32 := Scalar.andi v77_r0 c_m128_i32_41_r0
  let c1024_i32_42_r0 : BitVec 32 := 1024#32
  let v79_r0 : BitVec 32 := Scalar.subi v78_r0 c1024_i32_42_r0
  let v80_r0 : BitVec 32 := Scalar.maxsi c0_i32_43_r0 v79_r0
  let v81_r0 : BitVec 32 := Scalar.minsi c31616_i32_44_r0 v80_r0
  let v82_r0 : BitVec 32 := v81_r0
  let c0_i32_189_r0 : BitVec 32 := 0#32
  ![11, v82_r0.toNat, 0]
def k0_off24 (v77_r0 : BitVec 32) : Fin 3 → Nat :=
  let c11_i32_190_r0 : BitVec 32 := 11#32
  let c0_i32_195_r0 : BitVec 32 := 0#32
  let c31616_i32_44_r0 : BitVec 32 := 31616#32
  let c0_i32_43_r0 : BitVec 32 := 0#32
  let c_m128_i32_41_r0 : BitVec 32 := 4294967168#32
  let v78_r0 : BitVec 32 := Scalar.andi v77_r0 c_m128_i32_41_r0
  let c1024_i32_42_r0 : BitVec 32 := 1024#32
  let v79_r0 : BitVec 32 := Scalar.subi v78_r0 c1024_i32_42_r0
  let v80_r0 : BitVec 32 := Scalar.maxsi c0_i32_43_r0 v79_r0
  let v81_r0 : BitVec 32 := Scalar.minsi c31616_i32_44_r0 v80_r0
  let v82_r0 : BitVec 32 := v81_r0
  ![11, 0, v82_r0.toNat]

def k0_chk12 (v77_r0 : BitVec 32) : Prop :=
  (128 ∣ (k0_mult12 v77_r0).toNat) ∧
  (∀ a, (k0_off23 v77_r0) a + S1x1152x128.size a ≤ S16x32768x128.size a) ∧
  (∀ (hinb : ∀ a, (k0_off23 v77_r0) a + S1x1152x128.size a ≤ S16x32768x128.size a), (Rect.unit (s := S16x32768x128) (k0_off23 v77_r0) S1x1152x128.size hinb).WholeWords (EltTy.packing .fp8e4m3)) ∧
  (∀ a, (k0_off24 v77_r0) a + S1x1x1152.size a ≤ S16x1x32768.size a)
theorem k0_mult12_dvd : ∀ (v77_r0 : BitVec 32) (k0_hw12 : k0_chk12 v77_r0), 128 ∣ (k0_mult12 v77_r0).toNat := fun v77_r0 k0_hw12 => k0_hw12.1
theorem k0_off23_inb : ∀ (v77_r0 : BitVec 32) (k0_hw12 : k0_chk12 v77_r0), ∀ a, (k0_off23 v77_r0) a + S1x1152x128.size a ≤ S16x32768x128.size a := fun v77_r0 k0_hw12 => k0_hw12.2.1
theorem k0_off23_wordsfp8e4m3 : ∀ (v77_r0 : BitVec 32) (k0_hw12 : k0_chk12 v77_r0), (Rect.unit (s := S16x32768x128) (k0_off23 v77_r0) S1x1152x128.size (k0_off23_inb v77_r0 k0_hw12)).WholeWords (EltTy.packing .fp8e4m3) := fun v77_r0 k0_hw12 => k0_hw12.2.2.1 (k0_off23_inb v77_r0 k0_hw12)
theorem k0_off24_inb : ∀ (v77_r0 : BitVec 32) (k0_hw12 : k0_chk12 v77_r0), ∀ a, (k0_off24 v77_r0) a + S1x1x1152.size a ≤ S16x1x32768.size a := fun v77_r0 k0_hw12 => k0_hw12.2.2.2

def k0_off25 (v83_r0 : BitVec 32) : Fin 3 → Nat :=
  let c12_i32_r0 : BitVec 32 := 12#32
  let c31616_i32_48_r0 : BitVec 32 := 31616#32
  let c0_i32_47_r0 : BitVec 32 := 0#32
  let c_m128_i32_45_r0 : BitVec 32 := 4294967168#32
  let v84_r0 : BitVec 32 := Scalar.andi v83_r0 c_m128_i32_45_r0
  let c1024_i32_46_r0 : BitVec 32 := 1024#32
  let v85_r0 : BitVec 32 := Scalar.subi v84_r0 c1024_i32_46_r0
  let v86_r0 : BitVec 32 := Scalar.maxsi c0_i32_47_r0 v85_r0
  let v87_r0 : BitVec 32 := Scalar.minsi c31616_i32_48_r0 v86_r0
  let v88_r0 : BitVec 32 := v87_r0
  let c0_i32_200_r0 : BitVec 32 := 0#32
  ![12, v88_r0.toNat, 0]
def k0_off26 (v83_r0 : BitVec 32) : Fin 3 → Nat :=
  let c12_i32_201_r0 : BitVec 32 := 12#32
  let c0_i32_206_r0 : BitVec 32 := 0#32
  let c31616_i32_48_r0 : BitVec 32 := 31616#32
  let c0_i32_47_r0 : BitVec 32 := 0#32
  let c_m128_i32_45_r0 : BitVec 32 := 4294967168#32
  let v84_r0 : BitVec 32 := Scalar.andi v83_r0 c_m128_i32_45_r0
  let c1024_i32_46_r0 : BitVec 32 := 1024#32
  let v85_r0 : BitVec 32 := Scalar.subi v84_r0 c1024_i32_46_r0
  let v86_r0 : BitVec 32 := Scalar.maxsi c0_i32_47_r0 v85_r0
  let v87_r0 : BitVec 32 := Scalar.minsi c31616_i32_48_r0 v86_r0
  let v88_r0 : BitVec 32 := v87_r0
  ![12, 0, v88_r0.toNat]

def k0_chk13 (v83_r0 : BitVec 32) : Prop :=
  (128 ∣ (k0_mult13 v83_r0).toNat) ∧
  (∀ a, (k0_off25 v83_r0) a + S1x1152x128.size a ≤ S16x32768x128.size a) ∧
  (∀ (hinb : ∀ a, (k0_off25 v83_r0) a + S1x1152x128.size a ≤ S16x32768x128.size a), (Rect.unit (s := S16x32768x128) (k0_off25 v83_r0) S1x1152x128.size hinb).WholeWords (EltTy.packing .fp8e4m3)) ∧
  (∀ a, (k0_off26 v83_r0) a + S1x1x1152.size a ≤ S16x1x32768.size a)
theorem k0_mult13_dvd : ∀ (v83_r0 : BitVec 32) (k0_hw13 : k0_chk13 v83_r0), 128 ∣ (k0_mult13 v83_r0).toNat := fun v83_r0 k0_hw13 => k0_hw13.1
theorem k0_off25_inb : ∀ (v83_r0 : BitVec 32) (k0_hw13 : k0_chk13 v83_r0), ∀ a, (k0_off25 v83_r0) a + S1x1152x128.size a ≤ S16x32768x128.size a := fun v83_r0 k0_hw13 => k0_hw13.2.1
theorem k0_off25_wordsfp8e4m3 : ∀ (v83_r0 : BitVec 32) (k0_hw13 : k0_chk13 v83_r0), (Rect.unit (s := S16x32768x128) (k0_off25 v83_r0) S1x1152x128.size (k0_off25_inb v83_r0 k0_hw13)).WholeWords (EltTy.packing .fp8e4m3) := fun v83_r0 k0_hw13 => k0_hw13.2.2.1 (k0_off25_inb v83_r0 k0_hw13)
theorem k0_off26_inb : ∀ (v83_r0 : BitVec 32) (k0_hw13 : k0_chk13 v83_r0), ∀ a, (k0_off26 v83_r0) a + S1x1x1152.size a ≤ S16x1x32768.size a := fun v83_r0 k0_hw13 => k0_hw13.2.2.2

def k0_off27 (v89_r0 : BitVec 32) : Fin 3 → Nat :=
  let c13_i32_r0 : BitVec 32 := 13#32
  let c31616_i32_52_r0 : BitVec 32 := 31616#32
  let c0_i32_51_r0 : BitVec 32 := 0#32
  let c_m128_i32_49_r0 : BitVec 32 := 4294967168#32
  let v90_r0 : BitVec 32 := Scalar.andi v89_r0 c_m128_i32_49_r0
  let c1024_i32_50_r0 : BitVec 32 := 1024#32
  let v91_r0 : BitVec 32 := Scalar.subi v90_r0 c1024_i32_50_r0
  let v92_r0 : BitVec 32 := Scalar.maxsi c0_i32_51_r0 v91_r0
  let v93_r0 : BitVec 32 := Scalar.minsi c31616_i32_52_r0 v92_r0
  let v94_r0 : BitVec 32 := v93_r0
  let c0_i32_211_r0 : BitVec 32 := 0#32
  ![13, v94_r0.toNat, 0]
def k0_off28 (v89_r0 : BitVec 32) : Fin 3 → Nat :=
  let c13_i32_212_r0 : BitVec 32 := 13#32
  let c0_i32_217_r0 : BitVec 32 := 0#32
  let c31616_i32_52_r0 : BitVec 32 := 31616#32
  let c0_i32_51_r0 : BitVec 32 := 0#32
  let c_m128_i32_49_r0 : BitVec 32 := 4294967168#32
  let v90_r0 : BitVec 32 := Scalar.andi v89_r0 c_m128_i32_49_r0
  let c1024_i32_50_r0 : BitVec 32 := 1024#32
  let v91_r0 : BitVec 32 := Scalar.subi v90_r0 c1024_i32_50_r0
  let v92_r0 : BitVec 32 := Scalar.maxsi c0_i32_51_r0 v91_r0
  let v93_r0 : BitVec 32 := Scalar.minsi c31616_i32_52_r0 v92_r0
  let v94_r0 : BitVec 32 := v93_r0
  ![13, 0, v94_r0.toNat]

def k0_chk14 (v89_r0 : BitVec 32) : Prop :=
  (128 ∣ (k0_mult14 v89_r0).toNat) ∧
  (∀ a, (k0_off27 v89_r0) a + S1x1152x128.size a ≤ S16x32768x128.size a) ∧
  (∀ (hinb : ∀ a, (k0_off27 v89_r0) a + S1x1152x128.size a ≤ S16x32768x128.size a), (Rect.unit (s := S16x32768x128) (k0_off27 v89_r0) S1x1152x128.size hinb).WholeWords (EltTy.packing .fp8e4m3)) ∧
  (∀ a, (k0_off28 v89_r0) a + S1x1x1152.size a ≤ S16x1x32768.size a)
theorem k0_mult14_dvd : ∀ (v89_r0 : BitVec 32) (k0_hw14 : k0_chk14 v89_r0), 128 ∣ (k0_mult14 v89_r0).toNat := fun v89_r0 k0_hw14 => k0_hw14.1
theorem k0_off27_inb : ∀ (v89_r0 : BitVec 32) (k0_hw14 : k0_chk14 v89_r0), ∀ a, (k0_off27 v89_r0) a + S1x1152x128.size a ≤ S16x32768x128.size a := fun v89_r0 k0_hw14 => k0_hw14.2.1
theorem k0_off27_wordsfp8e4m3 : ∀ (v89_r0 : BitVec 32) (k0_hw14 : k0_chk14 v89_r0), (Rect.unit (s := S16x32768x128) (k0_off27 v89_r0) S1x1152x128.size (k0_off27_inb v89_r0 k0_hw14)).WholeWords (EltTy.packing .fp8e4m3) := fun v89_r0 k0_hw14 => k0_hw14.2.2.1 (k0_off27_inb v89_r0 k0_hw14)
theorem k0_off28_inb : ∀ (v89_r0 : BitVec 32) (k0_hw14 : k0_chk14 v89_r0), ∀ a, (k0_off28 v89_r0) a + S1x1x1152.size a ≤ S16x1x32768.size a := fun v89_r0 k0_hw14 => k0_hw14.2.2.2

def k0_off29 (v95_r0 : BitVec 32) : Fin 3 → Nat :=
  let c14_i32_r0 : BitVec 32 := 14#32
  let c31616_i32_56_r0 : BitVec 32 := 31616#32
  let c0_i32_55_r0 : BitVec 32 := 0#32
  let c_m128_i32_53_r0 : BitVec 32 := 4294967168#32
  let v96_r0 : BitVec 32 := Scalar.andi v95_r0 c_m128_i32_53_r0
  let c1024_i32_54_r0 : BitVec 32 := 1024#32
  let v97_r0 : BitVec 32 := Scalar.subi v96_r0 c1024_i32_54_r0
  let v98_r0 : BitVec 32 := Scalar.maxsi c0_i32_55_r0 v97_r0
  let v99_r0 : BitVec 32 := Scalar.minsi c31616_i32_56_r0 v98_r0
  let v100_r0 : BitVec 32 := v99_r0
  let c0_i32_222_r0 : BitVec 32 := 0#32
  ![14, v100_r0.toNat, 0]
def k0_off30 (v95_r0 : BitVec 32) : Fin 3 → Nat :=
  let c14_i32_223_r0 : BitVec 32 := 14#32
  let c0_i32_228_r0 : BitVec 32 := 0#32
  let c31616_i32_56_r0 : BitVec 32 := 31616#32
  let c0_i32_55_r0 : BitVec 32 := 0#32
  let c_m128_i32_53_r0 : BitVec 32 := 4294967168#32
  let v96_r0 : BitVec 32 := Scalar.andi v95_r0 c_m128_i32_53_r0
  let c1024_i32_54_r0 : BitVec 32 := 1024#32
  let v97_r0 : BitVec 32 := Scalar.subi v96_r0 c1024_i32_54_r0
  let v98_r0 : BitVec 32 := Scalar.maxsi c0_i32_55_r0 v97_r0
  let v99_r0 : BitVec 32 := Scalar.minsi c31616_i32_56_r0 v98_r0
  let v100_r0 : BitVec 32 := v99_r0
  ![14, 0, v100_r0.toNat]

def k0_chk15 (v95_r0 : BitVec 32) : Prop :=
  (128 ∣ (k0_mult15 v95_r0).toNat) ∧
  (∀ a, (k0_off29 v95_r0) a + S1x1152x128.size a ≤ S16x32768x128.size a) ∧
  (∀ (hinb : ∀ a, (k0_off29 v95_r0) a + S1x1152x128.size a ≤ S16x32768x128.size a), (Rect.unit (s := S16x32768x128) (k0_off29 v95_r0) S1x1152x128.size hinb).WholeWords (EltTy.packing .fp8e4m3)) ∧
  (∀ a, (k0_off30 v95_r0) a + S1x1x1152.size a ≤ S16x1x32768.size a)
theorem k0_mult15_dvd : ∀ (v95_r0 : BitVec 32) (k0_hw15 : k0_chk15 v95_r0), 128 ∣ (k0_mult15 v95_r0).toNat := fun v95_r0 k0_hw15 => k0_hw15.1
theorem k0_off29_inb : ∀ (v95_r0 : BitVec 32) (k0_hw15 : k0_chk15 v95_r0), ∀ a, (k0_off29 v95_r0) a + S1x1152x128.size a ≤ S16x32768x128.size a := fun v95_r0 k0_hw15 => k0_hw15.2.1
theorem k0_off29_wordsfp8e4m3 : ∀ (v95_r0 : BitVec 32) (k0_hw15 : k0_chk15 v95_r0), (Rect.unit (s := S16x32768x128) (k0_off29 v95_r0) S1x1152x128.size (k0_off29_inb v95_r0 k0_hw15)).WholeWords (EltTy.packing .fp8e4m3) := fun v95_r0 k0_hw15 => k0_hw15.2.2.1 (k0_off29_inb v95_r0 k0_hw15)
theorem k0_off30_inb : ∀ (v95_r0 : BitVec 32) (k0_hw15 : k0_chk15 v95_r0), ∀ a, (k0_off30 v95_r0) a + S1x1x1152.size a ≤ S16x1x32768.size a := fun v95_r0 k0_hw15 => k0_hw15.2.2.2

def k0_off31 (v101_r0 : BitVec 32) : Fin 3 → Nat :=
  let c15_i32_r0 : BitVec 32 := 15#32
  let c31616_i32_60_r0 : BitVec 32 := 31616#32
  let c0_i32_59_r0 : BitVec 32 := 0#32
  let c_m128_i32_57_r0 : BitVec 32 := 4294967168#32
  let v102_r0 : BitVec 32 := Scalar.andi v101_r0 c_m128_i32_57_r0
  let c1024_i32_58_r0 : BitVec 32 := 1024#32
  let v103_r0 : BitVec 32 := Scalar.subi v102_r0 c1024_i32_58_r0
  let v104_r0 : BitVec 32 := Scalar.maxsi c0_i32_59_r0 v103_r0
  let v105_r0 : BitVec 32 := Scalar.minsi c31616_i32_60_r0 v104_r0
  let v106_r0 : BitVec 32 := v105_r0
  let c0_i32_233_r0 : BitVec 32 := 0#32
  ![15, v106_r0.toNat, 0]
def k0_off32 (v101_r0 : BitVec 32) : Fin 3 → Nat :=
  let c15_i32_234_r0 : BitVec 32 := 15#32
  let c0_i32_239_r0 : BitVec 32 := 0#32
  let c31616_i32_60_r0 : BitVec 32 := 31616#32
  let c0_i32_59_r0 : BitVec 32 := 0#32
  let c_m128_i32_57_r0 : BitVec 32 := 4294967168#32
  let v102_r0 : BitVec 32 := Scalar.andi v101_r0 c_m128_i32_57_r0
  let c1024_i32_58_r0 : BitVec 32 := 1024#32
  let v103_r0 : BitVec 32 := Scalar.subi v102_r0 c1024_i32_58_r0
  let v104_r0 : BitVec 32 := Scalar.maxsi c0_i32_59_r0 v103_r0
  let v105_r0 : BitVec 32 := Scalar.minsi c31616_i32_60_r0 v104_r0
  let v106_r0 : BitVec 32 := v105_r0
  ![15, 0, v106_r0.toNat]

def k0_chk16 (v101_r0 : BitVec 32) : Prop :=
  (128 ∣ (k0_mult16 v101_r0).toNat) ∧
  (∀ a, (k0_off31 v101_r0) a + S1x1152x128.size a ≤ S16x32768x128.size a) ∧
  (∀ (hinb : ∀ a, (k0_off31 v101_r0) a + S1x1152x128.size a ≤ S16x32768x128.size a), (Rect.unit (s := S16x32768x128) (k0_off31 v101_r0) S1x1152x128.size hinb).WholeWords (EltTy.packing .fp8e4m3)) ∧
  (∀ a, (k0_off32 v101_r0) a + S1x1x1152.size a ≤ S16x1x32768.size a)
theorem k0_mult16_dvd : ∀ (v101_r0 : BitVec 32) (k0_hw16 : k0_chk16 v101_r0), 128 ∣ (k0_mult16 v101_r0).toNat := fun v101_r0 k0_hw16 => k0_hw16.1
theorem k0_off31_inb : ∀ (v101_r0 : BitVec 32) (k0_hw16 : k0_chk16 v101_r0), ∀ a, (k0_off31 v101_r0) a + S1x1152x128.size a ≤ S16x32768x128.size a := fun v101_r0 k0_hw16 => k0_hw16.2.1
theorem k0_off31_wordsfp8e4m3 : ∀ (v101_r0 : BitVec 32) (k0_hw16 : k0_chk16 v101_r0), (Rect.unit (s := S16x32768x128) (k0_off31 v101_r0) S1x1152x128.size (k0_off31_inb v101_r0 k0_hw16)).WholeWords (EltTy.packing .fp8e4m3) := fun v101_r0 k0_hw16 => k0_hw16.2.2.1 (k0_off31_inb v101_r0 k0_hw16)
theorem k0_off32_inb : ∀ (v101_r0 : BitVec 32) (k0_hw16 : k0_chk16 v101_r0), ∀ a, (k0_off32 v101_r0) a + S1x1x1152.size a ≤ S16x1x32768.size a := fun v101_r0 k0_hw16 => k0_hw16.2.2.2
-- ==== KernelIdeal.lean ====
variable {F : FTy → Type} [FloatOps F] [Named F]
def κ : String → Option EReal := fun
  | "inv_fp8_max" => some ((1 / 448 : ℝ) : EReal)
  | "score_over_softcap" => some (((Real.sqrt 128)⁻¹ * (1 / 50) : ℝ) : EReal)
  | "softcap_log2_e" => some ((50 * (Real.log 2)⁻¹ : ℝ) : EReal)
  | _ => none
-- ==== ReferenceIdeal.lean ====
variable {F : FTy → Type} [FloatOps F] [Named F]
def κ : String → Option EReal := fun
  | "inv_fp8_max" => some ((1 / 448 : ℝ) : EReal)
  | "score_scale" => some (((Real.sqrt 128)⁻¹ : ℝ) : EReal)
  | _ => none
-- ==== Reference.lean ====
abbrev S16x1x16x128 : Shape := ⟨4, ![16, 1, 16, 128]⟩
abbrev S16x1x1x128 : Shape := ⟨4, ![16, 1, 1, 128]⟩
abbrev S16x32768x1x128 : Shape := ⟨4, ![16, 32768, 1, 128]⟩
abbrev S16x32768x1 : Shape := ⟨3, ![16, 32768, 1]⟩
abbrev S16 : Shape := ⟨1, ![16]⟩
abbrev S16x16x128 : Shape := ⟨3, ![16, 16, 128]⟩
abbrev S16x1x128 : Shape := ⟨3, ![16, 1, 128]⟩
abbrev S16x32768x128 : Shape := ⟨3, ![16, 32768, 128]⟩
abbrev S16x1x32768 : Shape := ⟨3, ![16, 1, 32768]⟩
abbrev S16x1x1 : Shape := ⟨3, ![16, 1, 1]⟩
abbrev S16x128 : Shape := ⟨2, ![16, 128]⟩
abbrev S1x16 : Shape := ⟨2, ![1, 16]⟩
abbrev S16x1 : Shape := ⟨2, ![16, 1]⟩
abbrev S16x16x32768 : Shape := ⟨3, ![16, 16, 32768]⟩
abbrev S16x16x1 : Shape := ⟨3, ![16, 16, 1]⟩
abbrev S1x1x32768 : Shape := ⟨3, ![1, 1, 32768]⟩
abbrev S16x16 : Shape := ⟨2, ![16, 16]⟩

abbrev nBuf : Space → Nat
  | .hbm => 21
  | .vmem => 13
  | .smem => 0
  | _ => 0

abbrev bufTy : (tb : Table) → Fin (tcTables nBuf tb) → BufTy
  | .hbm, ⟨0, _⟩ => ⟨S16x1x16x128, .bf16⟩
  | .hbm, ⟨1, _⟩ => ⟨S16x1x1x128, .bf16⟩
  | .hbm, ⟨2, _⟩ => ⟨S16x1x1x128, .bf16⟩
  | .hbm, ⟨3, _⟩ => ⟨S16x32768x1x128, .fp8e4m3⟩
  | .hbm, ⟨4, _⟩ => ⟨S16x32768x1x128, .fp8e4m3⟩
  | .hbm, ⟨5, _⟩ => ⟨S16x32768x1, .f32⟩
  | .hbm, ⟨6, _⟩ => ⟨S16x32768x1, .f32⟩
  | .hbm, ⟨7, _⟩ => ⟨S16, .i32⟩
  | .hbm, ⟨8, _⟩ => ⟨S16x16x128, .bf16⟩
  | .hbm, ⟨9, _⟩ => ⟨S16x1x128, .bf16⟩
  | .hbm, ⟨10, _⟩ => ⟨S16x1x128, .bf16⟩
  | .hbm, ⟨11, _⟩ => ⟨S16x32768x128, .fp8e4m3⟩
  | .hbm, ⟨12, _⟩ => ⟨S16x32768x128, .fp8e4m3⟩
  | .hbm, ⟨13, _⟩ => ⟨S16x1x32768, .f32⟩
  | .hbm, ⟨14, _⟩ => ⟨S16x1x32768, .f32⟩
  | .hbm, ⟨15, _⟩ => ⟨S16x1x1, .i32⟩
  | .hbm, ⟨16, _⟩ => ⟨S16x16x128, .bf16⟩
  | .hbm, ⟨17, _⟩ => ⟨S16x128, .fp8e4m3⟩
  | .hbm, ⟨18, _⟩ => ⟨S1x16, .f32⟩
  | .hbm, ⟨19, _⟩ => ⟨S16x128, .fp8e4m3⟩
  | .hbm, ⟨20, _⟩ => ⟨S1x16, .f32⟩
  | .local _ .vmem, ⟨0, _⟩ => ⟨S16x16x128, .bf16⟩
  | .local _ .vmem, ⟨1, _⟩ => ⟨S16x1x128, .bf16⟩
  | .local _ .vmem, ⟨2, _⟩ => ⟨S16x1x128, .bf16⟩
  | .local _ .vmem, ⟨3, _⟩ => ⟨S16x32768x128, .fp8e4m3⟩
  | .local _ .vmem, ⟨4, _⟩ => ⟨S16x32768x128, .fp8e4m3⟩
  | .local _ .vmem, ⟨5, _⟩ => ⟨S16x1x32768, .f32⟩
  | .local _ .vmem, ⟨6, _⟩ => ⟨S16x1x32768, .f32⟩
  | .local _ .vmem, ⟨7, _⟩ => ⟨S16x1x1, .i32⟩
  | .local _ .vmem, ⟨8, _⟩ => ⟨S16x16x128, .bf16⟩
  | .local _ .vmem, ⟨9, _⟩ => ⟨S16x128, .fp8e4m3⟩
  | .local _ .vmem, ⟨10, _⟩ => ⟨S1x16, .f32⟩
  | .local _ .vmem, ⟨11, _⟩ => ⟨S16x128, .fp8e4m3⟩
  | .local _ .vmem, ⟨12, _⟩ => ⟨S1x16, .f32⟩
  | _, _ => ⟨S16x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S16x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32768x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32768x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1x32768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Words.lean ====
/-
  The first row of the cache a sequence of length `w` reads: `w` rounded down to a multiple of 128, less 1024, clipped to
  `0 .. 31616`, in wrapping 32-bit words. Whatever the word, it is a multiple of 128 at most 31616, so the 1152 rows from
  it on lie inside the 32768 of the cache.
-/
module

public import Idealize.ShloMosaic.PureOps
public import Idealize.ShloMosaic.Lib.Affine

@[expose] public section

namespace Decode

open Idealize.ShloMosaic

/-- The first row read at length `w`. -/
def first (w : BitVec 32) : BitVec 32 :=
  Scalar.minsi 31616#32 (Scalar.maxsi 0#32 (Scalar.subi (Scalar.andi w 4294967168#32) 1024#32))

/-- Clearing the low seven bits rounds down to a multiple of 128. -/
theorem and_toNat (w : BitVec 32) : (w &&& 4294967168#32).toNat = 128 * (w.toNat / 128) := by
  have hm : ∀ i : Fin 32, (4294967168#32 : BitVec 32).getLsbD i.val = decide (7 ≤ i.val) := by decide
  have h : w &&& 4294967168#32 = (w >>> 7) <<< 7 := by
    apply BitVec.eq_of_getLsbD_eq
    intro i hi
    rw [BitVec.getLsbD_and, hm ⟨i, hi⟩, BitVec.getLsbD_shiftLeft, BitVec.getLsbD_ushiftRight]
    by_cases h7 : 7 ≤ i
    · rw [show 7 + (i - 7) = i from by omega]; simp [h7, hi]
    · simp [h7]
  rw [h, BitVec.toNat_shiftLeft, BitVec.toNat_ushiftRight, Nat.shiftLeft_eq, Nat.shiftRight_eq_div_pow]
  have := w.isLt
  omega

theorem and_toInt (w : BitVec 32) : (w &&& 4294967168#32).toInt = 128 * (w.toInt / 128) := by
  have h := and_toNat w
  have h2 := w.isLt
  rw [BitVec.toInt_eq_toNat_cond, BitVec.toInt_eq_toNat_cond, h]
  split <;> split <;> omega

/-- The word `first` clips: the length rounded down less 1024, as the integer it wraps to. -/
theorem sub_toInt (w : BitVec 32) : (Scalar.subi (Scalar.andi w 4294967168#32) 1024#32).toInt
    = (128 * (w.toInt / 128) - 1024).bmod (2 ^ 32) := by
  show ((w &&& 4294967168#32) - 1024#32).toInt = _
  rw [BitVec.toInt_sub, and_toInt]; rfl

theorem maxsi_toInt (x y : BitVec 32) : (Scalar.maxsi x y).toInt = max x.toInt y.toInt := by
  unfold Scalar.maxsi IntOp.maxsi
  simp only [BitVec.slt_eq_decide, decide_eq_true_eq]
  split <;> omega

theorem minsi_toInt (x y : BitVec 32) : (Scalar.minsi x y).toInt = min x.toInt y.toInt := by
  unfold Scalar.minsi IntOp.minsi
  simp only [BitVec.slt_eq_decide, decide_eq_true_eq]
  split <;> omega

theorem first_toInt (w : BitVec 32) : (first w).toInt = min 31616 (max 0 ((128 * (w.toInt / 128) - 1024).bmod (2 ^ 32))) := by
  unfold first
  rw [minsi_toInt, maxsi_toInt, sub_toInt]; rfl

theorem first_dvd_int (w : BitVec 32) : (128 : Int) ∣ (first w).toInt := by
  rw [first_toInt, Int.bmod_def]; omega

theorem first_toNat (w : BitVec 32) : ((first w).toNat : Int) = (first w).toInt := by
  have h := first_toInt w
  have h0 : 0 ≤ (first w).toInt := by rw [h]; omega
  rw [BitVec.toInt_eq_toNat_cond] at h0 ⊢
  have := (first w).isLt
  split at h0 <;> split <;> omega

theorem first_le (w : BitVec 32) : (first w).toNat ≤ 31616 := by
  have h := first_toNat w
  have := first_toInt w
  omega

theorem first_dvd (w : BitVec 32) : 128 ∣ (first w).toNat := by
  have h := first_toNat w
  have := first_dvd_int w
  omega

end Decode
-- ==== Proof.OperandsK.lean ====
/-
  What the decode kernel's body works on, named once: its operands, its 41 DMA cells, the sixteen windows of the two caches
  and of their scales that it reads (one per sequence, at the row `Decode.first` of the sequence's length) and the sixteen
  slabs of scratch they land in.
-/
module

public import proofs.«01_k».proof.Proof.Gen.Kernel.Frame
public import proofs.«01_k».proof.Proof.Words
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

/-- The lengths, the queries, the new keys and values, the two caches and their scales, left in HBM. -/
abbrev aLen : Memref sig .tc .hbm S16 .i32 := Memref.whole main_arg7
abbrev aX : Memref sig .tc .hbm S16x16x128 .bf16 := Memref.whole main_v0
abbrev aKn : Memref sig .tc .hbm S16x128 .bf16 := Memref.whole main_v1
abbrev aVn : Memref sig .tc .hbm S16x128 .bf16 := Memref.whole main_v2
abbrev aCk : Memref sig .tc .hbm S16x32768x128 .fp8e4m3 := Memref.whole main_v3
abbrev aCv : Memref sig .tc .hbm S16x32768x128 .fp8e4m3 := Memref.whole main_v4
abbrev aCks : Memref sig .tc .hbm S16x1x32768 .f32 := Memref.whole main_v5
abbrev aCvs : Memref sig .tc .hbm S16x1x32768 .f32 := Memref.whole main_v6
/-- The five results, left in HBM. -/
abbrev rOut : Memref sig .tc .hbm S16x16x128 .bf16 := Memref.whole main_v7_0
abbrev rKc : Memref sig .tc .hbm S16x128 .fp8e4m3 := Memref.whole main_v7_1
abbrev rKs : Memref sig .tc .hbm S1x16 .f32 := Memref.whole main_v7_2
abbrev rVc : Memref sig .tc .hbm S16x128 .fp8e4m3 := Memref.whole main_v7_3
abbrev rVs : Memref sig .tc .hbm S1x16 .f32 := Memref.whole main_v7_4
/-- The scratch: the lengths; queries, new keys, new values; the four slab buffers; what the results are copied out of; the
    quantised rows and their scales read as f32. -/
abbrev sLen : Memref sig .tc .smem S16 .i32 := Memref.whole cc0_scratch0
abbrev sX : Memref sig .tc .vmem S16x16x128 .bf16 := Memref.whole cc0_scratch1
abbrev sKn : Memref sig .tc .vmem S16x128 .bf16 := Memref.whole cc0_scratch2
abbrev sVn : Memref sig .tc .vmem S16x128 .bf16 := Memref.whole cc0_scratch3
abbrev sK : Memref sig .tc .vmem S16x1152x128 .fp8e4m3 := Memref.whole cc0_scratch4
abbrev sV : Memref sig .tc .vmem S16x1152x128 .fp8e4m3 := Memref.whole cc0_scratch5
abbrev sKs : Memref sig .tc .vmem S16x1x1152 .f32 := Memref.whole cc0_scratch6
abbrev sVs : Memref sig .tc .vmem S16x1x1152 .f32 := Memref.whole cc0_scratch7
abbrev sOut : Memref sig .tc .vmem S16x16x128 .bf16 := Memref.whole cc0_scratch8
abbrev sKc : Memref sig .tc .vmem S16x128 .fp8e4m3 := Memref.whole cc0_scratch9
abbrev sKrow : Memref sig .tc .vmem S1x16 .f32 := Memref.whole cc0_scratch10
abbrev sVc : Memref sig .tc .vmem S16x128 .fp8e4m3 := Memref.whole cc0_scratch11
abbrev sVrow : Memref sig .tc .vmem S1x16 .f32 := Memref.whole cc0_scratch12
abbrev sKf : Memref sig .tc .vmem S16x128 .f32 := Memref.whole cc0_scratch13
abbrev sKb : Memref sig .tc .vmem S16x128 .f32 := Memref.whole cc0_scratch14
abbrev sVf : Memref sig .tc .vmem S16x128 .f32 := Memref.whole cc0_scratch15
abbrev sVb : Memref sig .tc .vmem S16x128 .f32 := Memref.whole cc0_scratch16

abbrev Bf (c : Dev nD) {sp : Space} {S : Shape} {e : EltTy} (M : Memref sig .tc sp S e) : Type := Buf (Elt F) (M.view.loc (c : Thread nD τ))
/-- A whole buffer at `f`. -/
abbrev pt (c : Dev nD) {sp : Space} {S : Shape} {e : EltTy} (M : Memref sig .tc sp S e) (f : Bf (F := F) c M) : sProp 𝕄 :=
  M.view.loc (c : Thread nD τ) ↦{fullShare} f
/-- A window of a buffer, held by its own elements, at the buffer's contents `f`. -/
abbrev wpt (c : Dev nD) {sp : Space} {S : Shape} {e : EltTy} (M : Memref sig .tc sp S e) (f : Bf (F := F) c M) : sProp 𝕄 :=
  M.view.loc (c : Thread nD τ) ↦[M.view.set]{fullShare} f

/-! ## Every length passes the checks the body makes of it -/

/-- What the body checks of the word `w` of sequence `b`, as a statement about `Decode.first`. -/
def Chk (b : ℕ) (w : BitVec 32) : Prop :=
  (128 ∣ (Decode.first w).toNat) ∧
  (∀ a, (![b, (Decode.first w).toNat, 0] : Fin 3 → ℕ) a + S1x1152x128.size a ≤ S16x32768x128.size a) ∧
  (∀ (hinb : ∀ a, (![b, (Decode.first w).toNat, 0] : Fin 3 → ℕ) a + S1x1152x128.size a ≤ S16x32768x128.size a),
    (Rect.unit (s := S16x32768x128) ![b, (Decode.first w).toNat, 0] S1x1152x128.size hinb).WholeWords (EltTy.packing .fp8e4m3)) ∧
  (∀ a, (![b, 0, (Decode.first w).toNat] : Fin 3 → ℕ) a + S1x1x1152.size a ≤ S16x1x32768.size a)

theorem chk_all (b : ℕ) (hb : b < 16) (w : BitVec 32) : Chk b w := by
  have h := Decode.first_le w
  have hd := Decode.first_dvd w
  refine ⟨hd, fun a => ?_, fun hinb => ?_, fun a => ?_⟩
  · match a with
    | 0 => show b + 1 ≤ 16; omega
    | 1 => show (Decode.first w).toNat + 1152 ≤ 32768; omega
    | 2 => show 0 + 128 ≤ 128; omega
  · refine Or.inl (Or.inr ⟨by decide, rfl, Or.inl ⟨?_, ?_⟩⟩)
    · show 4 ∣ (Decode.first w).toNat
      omega
    · show 4 ∣ 1152
      decide
  · match a with
    | 0 => show b + 1 ≤ 16; omega
    | 1 => show 0 + 1 ≤ 1; omega
    | 2 => show (Decode.first w).toNat + 1152 ≤ 32768; omega

theorem k0_chk1_all (w : BitVec 32) : k0_chk1 w := chk_all 0 (by decide) w
theorem k0_chk2_all (w : BitVec 32) : k0_chk2 w := chk_all 1 (by decide) w
theorem k0_chk3_all (w : BitVec 32) : k0_chk3 w := chk_all 2 (by decide) w
theorem k0_chk4_all (w : BitVec 32) : k0_chk4 w := chk_all 3 (by decide) w
theorem k0_chk5_all (w : BitVec 32) : k0_chk5 w := chk_all 4 (by decide) w
theorem k0_chk6_all (w : BitVec 32) : k0_chk6 w := chk_all 5 (by decide) w
theorem k0_chk7_all (w : BitVec 32) : k0_chk7 w := chk_all 6 (by decide) w
theorem k0_chk8_all (w : BitVec 32) : k0_chk8 w := chk_all 7 (by decide) w
theorem k0_chk9_all (w : BitVec 32) : k0_chk9 w := chk_all 8 (by decide) w
theorem k0_chk10_all (w : BitVec 32) : k0_chk10 w := chk_all 9 (by decide) w
theorem k0_chk11_all (w : BitVec 32) : k0_chk11 w := chk_all 10 (by decide) w
theorem k0_chk12_all (w : BitVec 32) : k0_chk12 w := chk_all 11 (by decide) w
theorem k0_chk13_all (w : BitVec 32) : k0_chk13 w := chk_all 12 (by decide) w
theorem k0_chk14_all (w : BitVec 32) : k0_chk14 w := chk_all 13 (by decide) w
theorem k0_chk15_all (w : BitVec 32) : k0_chk15 w := chk_all 14 (by decide) w
theorem k0_chk16_all (w : BitVec 32) : k0_chk16 w := chk_all 15 (by decide) w

/-! ## The sixteen windows and slabs -/

/-- Slab `b` of a buffer of sixteen [1152, 128] slabs, and of a buffer of sixteen rows of 1152. -/
abbrev slab (M : Memref sig .tc .vmem S16x1152x128 .fp8e4m3) (b : ℕ) (h : ∀ a, (![b, 0, 0] : Fin 3 → ℕ) a + S1x1152x128.size a ≤ S16x1152x128.size a) :
    Memref sig .tc .vmem S1152x128 .fp8e4m3 :=
  (M.slice (Rect.unit (s := S16x1152x128) ![b, 0, 0] S1x1152x128.size h) (fun _ => rfl)).squeeze S1152x128 squeezes_S1x1152x128_S1152x128
abbrev row (M : Memref sig .tc .vmem S16x1x1152 .f32) (b : ℕ) (h : ∀ a, (![b, 0, 0] : Fin 3 → ℕ) a + S1x1x1152.size a ≤ S16x1x1152.size a) :
    Memref sig .tc .vmem S1x1152 .f32 :=
  (M.slice (Rect.unit (s := S16x1x1152) ![b, 0, 0] S1x1x1152.size h) (fun _ => rfl)).squeeze S1x1152 squeezes_S1x1x1152_S1x1152
/-- A window of 1152 rows of a cache, and of 1152 of its scales, at the offsets given. -/
abbrev win (M : Memref sig .tc .hbm S16x32768x128 .fp8e4m3) (o : Fin 3 → ℕ) (h : ∀ a, o a + S1x1152x128.size a ≤ S16x32768x128.size a) :
    Memref sig .tc .hbm S1152x128 .fp8e4m3 :=
  (M.slice (Rect.unit (s := S16x32768x128) o S1x1152x128.size h) (fun _ => rfl)).squeeze S1152x128 squeezes_S1x1152x128_S1152x128
abbrev swin (M : Memref sig .tc .hbm S16x1x32768 .f32) (o : Fin 3 → ℕ) (h : ∀ a, o a + S1x1x1152.size a ≤ S16x1x32768.size a) :
    Memref sig .tc .hbm S1x1152 .f32 :=
  (M.slice (Rect.unit (s := S16x1x32768) o S1x1x1152.size h) (fun _ => rfl)).squeeze S1x1152 squeezes_S1x1x1152_S1x1152

/-- The windows and slabs by the sequence's number, spelled as the body spells them. -/
abbrev kWin (M : Memref sig .tc .hbm S16x32768x128 .fp8e4m3) (w : Fin 16 → BitVec 32) : Fin 16 → Finset M.view.ty.Idx
  | 0 => (win M (k0_off1 (w 0)) (k0_off1_inb (w 0) (k0_chk1_all (w 0)))).view.set
  | 1 => (win M (k0_off3 (w 1)) (k0_off3_inb (w 1) (k0_chk2_all (w 1)))).view.set
  | 2 => (win M (k0_off5 (w 2)) (k0_off5_inb (w 2) (k0_chk3_all (w 2)))).view.set
  | 3 => (win M (k0_off7 (w 3)) (k0_off7_inb (w 3) (k0_chk4_all (w 3)))).view.set
  | 4 => (win M (k0_off9 (w 4)) (k0_off9_inb (w 4) (k0_chk5_all (w 4)))).view.set
  | 5 => (win M (k0_off11 (w 5)) (k0_off11_inb (w 5) (k0_chk6_all (w 5)))).view.set
  | 6 => (win M (k0_off13 (w 6)) (k0_off13_inb (w 6) (k0_chk7_all (w 6)))).view.set
  | 7 => (win M (k0_off15 (w 7)) (k0_off15_inb (w 7) (k0_chk8_all (w 7)))).view.set
  | 8 => (win M (k0_off17 (w 8)) (k0_off17_inb (w 8) (k0_chk9_all (w 8)))).view.set
  | 9 => (win M (k0_off19 (w 9)) (k0_off19_inb (w 9) (k0_chk10_all (w 9)))).view.set
  | 10 => (win M (k0_off21 (w 10)) (k0_off21_inb (w 10) (k0_chk11_all (w 10)))).view.set
  | 11 => (win M (k0_off23 (w 11)) (k0_off23_inb (w 11) (k0_chk12_all (w 11)))).view.set
  | 12 => (win M (k0_off25 (w 12)) (k0_off25_inb (w 12) (k0_chk13_all (w 12)))).view.set
  | 13 => (win M (k0_off27 (w 13)) (k0_off27_inb (w 13) (k0_chk14_all (w 13)))).view.set
  | 14 => (win M (k0_off29 (w 14)) (k0_off29_inb (w 14) (k0_chk15_all (w 14)))).view.set
  | 15 => (win M (k0_off31 (w 15)) (k0_off31_inb (w 15) (k0_chk16_all (w 15)))).view.set
  | ⟨_ + 16, h⟩ => absurd h (by omega)
abbrev sWin (M : Memref sig .tc .hbm S16x1x32768 .f32) (w : Fin 16 → BitVec 32) : Fin 16 → Finset M.view.ty.Idx
  | 0 => (swin M (k0_off2 (w 0)) (k0_off2_inb (w 0) (k0_chk1_all (w 0)))).view.set
  | 1 => (swin M (k0_off4 (w 1)) (k0_off4_inb (w 1) (k0_chk2_all (w 1)))).view.set
  | 2 => (swin M (k0_off6 (w 2)) (k0_off6_inb (w 2) (k0_chk3_all (w 2)))).view.set
  | 3 => (swin M (k0_off8 (w 3)) (k0_off8_inb (w 3) (k0_chk4_all (w 3)))).view.set
  | 4 => (swin M (k0_off10 (w 4)) (k0_off10_inb (w 4) (k0_chk5_all (w 4)))).view.set
  | 5 => (swin M (k0_off12 (w 5)) (k0_off12_inb (w 5) (k0_chk6_all (w 5)))).view.set
  | 6 => (swin M (k0_off14 (w 6)) (k0_off14_inb (w 6) (k0_chk7_all (w 6)))).view.set
  | 7 => (swin M (k0_off16 (w 7)) (k0_off16_inb (w 7) (k0_chk8_all (w 7)))).view.set
  | 8 => (swin M (k0_off18 (w 8)) (k0_off18_inb (w 8) (k0_chk9_all (w 8)))).view.set
  | 9 => (swin M (k0_off20 (w 9)) (k0_off20_inb (w 9) (k0_chk10_all (w 9)))).view.set
  | 10 => (swin M (k0_off22 (w 10)) (k0_off22_inb (w 10) (k0_chk11_all (w 10)))).view.set
  | 11 => (swin M (k0_off24 (w 11)) (k0_off24_inb (w 11) (k0_chk12_all (w 11)))).view.set
  | 12 => (swin M (k0_off26 (w 12)) (k0_off26_inb (w 12) (k0_chk13_all (w 12)))).view.set
  | 13 => (swin M (k0_off28 (w 13)) (k0_off28_inb (w 13) (k0_chk14_all (w 13)))).view.set
  | 14 => (swin M (k0_off30 (w 14)) (k0_off30_inb (w 14) (k0_chk15_all (w 14)))).view.set
  | 15 => (swin M (k0_off32 (w 15)) (k0_off32_inb (w 15) (k0_chk16_all (w 15)))).view.set
  | ⟨_ + 16, h⟩ => absurd h (by omega)
abbrev kSlab (M : Memref sig .tc .vmem S16x1152x128 .fp8e4m3) : Fin 16 → Finset M.view.ty.Idx
  | 0 => (slab M 0 inb_S16x1152x128_S1x1152x128_0_0_0).view.set
  | 1 => (slab M 1 inb_S16x1152x128_S1x1152x128_1_0_0).view.set
  | 2 => (slab M 2 inb_S16x1152x128_S1x1152x128_2_0_0).view.set
  | 3 => (slab M 3 inb_S16x1152x128_S1x1152x128_3_0_0).view.set
  | 4 => (slab M 4 inb_S16x1152x128_S1x1152x128_4_0_0).view.set
  | 5 => (slab M 5 inb_S16x1152x128_S1x1152x128_5_0_0).view.set
  | 6 => (slab M 6 inb_S16x1152x128_S1x1152x128_6_0_0).view.set
  | 7 => (slab M 7 inb_S16x1152x128_S1x1152x128_7_0_0).view.set
  | 8 => (slab M 8 inb_S16x1152x128_S1x1152x128_8_0_0).view.set
  | 9 => (slab M 9 inb_S16x1152x128_S1x1152x128_9_0_0).view.set
  | 10 => (slab M 10 inb_S16x1152x128_S1x1152x128_10_0_0).view.set
  | 11 => (slab M 11 inb_S16x1152x128_S1x1152x128_11_0_0).view.set
  | 12 => (slab M 12 inb_S16x1152x128_S1x1152x128_12_0_0).view.set
  | 13 => (slab M 13 inb_S16x1152x128_S1x1152x128_13_0_0).view.set
  | 14 => (slab M 14 inb_S16x1152x128_S1x1152x128_14_0_0).view.set
  | 15 => (slab M 15 inb_S16x1152x128_S1x1152x128_15_0_0).view.set
  | ⟨_ + 16, h⟩ => absurd h (by omega)
abbrev sRow (M : Memref sig .tc .vmem S16x1x1152 .f32) : Fin 16 → Finset M.view.ty.Idx
  | 0 => (row M 0 inb_S16x1x1152_S1x1x1152_0_0_0).view.set
  | 1 => (row M 1 inb_S16x1x1152_S1x1x1152_1_0_0).view.set
  | 2 => (row M 2 inb_S16x1x1152_S1x1x1152_2_0_0).view.set
  | 3 => (row M 3 inb_S16x1x1152_S1x1x1152_3_0_0).view.set
  | 4 => (row M 4 inb_S16x1x1152_S1x1x1152_4_0_0).view.set
  | 5 => (row M 5 inb_S16x1x1152_S1x1x1152_5_0_0).view.set
  | 6 => (row M 6 inb_S16x1x1152_S1x1x1152_6_0_0).view.set
  | 7 => (row M 7 inb_S16x1x1152_S1x1x1152_7_0_0).view.set
  | 8 => (row M 8 inb_S16x1x1152_S1x1x1152_8_0_0).view.set
  | 9 => (row M 9 inb_S16x1x1152_S1x1x1152_9_0_0).view.set
  | 10 => (row M 10 inb_S16x1x1152_S1x1x1152_10_0_0).view.set
  | 11 => (row M 11 inb_S16x1x1152_S1x1x1152_11_0_0).view.set
  | 12 => (row M 12 inb_S16x1x1152_S1x1x1152_12_0_0).view.set
  | 13 => (row M 13 inb_S16x1x1152_S1x1x1152_13_0_0).view.set
  | 14 => (row M 14 inb_S16x1x1152_S1x1x1152_14_0_0).view.set
  | 15 => (row M 15 inb_S16x1x1152_S1x1x1152_15_0_0).view.set
  | ⟨_ + 16, h⟩ => absurd h (by omega)

/-! ## A buffer in its sixteen pieces -/

/-- A separating conjunction of sixteen, written out. -/
abbrev sep16 (P : Fin 16 → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15)

theorem sep16_eq (P : Fin 16 → sProp 𝕄) : bigSep Finset.univ P = sep16 P := by
  rw [BI.bigSep_eq_bigSepL_of_eq [0, 1, 2, 3, 4, 5, 6, 7, 8, 9, 10, 11, 12, 13, 14, 15] (by decide) (by decide)]; rfl

section Pieces
variable {ℓ : Loc nD τ sig} (K : Fin 16 → Finset (Idx ℓ)) (hd : ∀ b b', b ≠ b' → Disjoint (K b) (K b'))

/-- What no piece covers. -/
def restOf : Finset (Idx ℓ) := Finset.univ \ Finset.univ.biUnion K

include hd in
/-- A whole buffer is its sixteen pieces, which are disjoint, and the rest. -/
theorem pieces (f : Buf (Elt F) ℓ) :
    (ℓ ↦{fullShare} f : sProp 𝕄) ⊣⊢ iprop(sep16 (fun b => ℓ ↦[K b]{fullShare} f) ∗ ℓ ↦[restOf K]{fullShare} f) := by
  have h := pointsTo_split_subset (Ix := Unit) (Name := ℕ) (U := Pipeline.UD sig nD τ) (Lvl := ℕ) (Val := Elt F) (q := fullShare) (f := f)
    (Finset.subset_univ (Finset.univ.biUnion K))
  rw [pointsTo_biUnion Finset.univ K (fun b _ b' _ hb => hd b b' hb), sep16_eq] at h
  exact h

include hd in
/-- Sixteen disjoint pieces at whatever each holds, and the rest, are a whole buffer. -/
theorem pieces_join (fs : Fin 16 → Buf (Elt F) ℓ) (f₀ : Buf (Elt F) ℓ) :
    (iprop(sep16 (fun b => ℓ ↦[K b]{fullShare} fs b) ∗ ℓ ↦[restOf K]{fullShare} f₀) : sProp 𝕄) ⊢ ∃ g : Buf (Elt F) ℓ, ℓ ↦{fullShare} g := by
  rw [← sep16_eq]
  iintro ⟨H, HR⟩
  ihave H' := (pointsTo_biUnion_join Finset.univ K fs f₀ (fun b _ b' _ hb => hd b b' hb)) $$ H
  icases H' with ⟨%g, -, Hg⟩
  ihave H2 := (pointsTo_join_subset (Finset.subset_univ (Finset.univ.biUnion K))) $$ [Hg HR]
  · isplitl [Hg]; · iexact Hg
    iexact HR
  iexists _; iexact H2

end Pieces

theorem kSlab_disj (M : Memref sig .tc .vmem S16x1152x128 .fp8e4m3) (b b' : Fin 16) (h : b ≠ b') :
    Disjoint (kSlab M b) (kSlab M b') := by
  have key : ∀ b : Fin 16, ∃ hb, kSlab M b = (M.view.slice (Rect.unit (s := S16x1152x128) ![b.val, 0, 0] S1x1152x128.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega
theorem sRow_disj (M : Memref sig .tc .vmem S16x1x1152 .f32) (b b' : Fin 16) (h : b ≠ b') :
    Disjoint (sRow M b) (sRow M b') := by
  have key : ∀ b : Fin 16, ∃ hb, sRow M b = (M.view.slice (Rect.unit (s := S16x1x1152) ![b.val, 0, 0] S1x1x1152.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega
theorem kWin_disj (M : Memref sig .tc .hbm S16x32768x128 .fp8e4m3) (w : Fin 16 → BitVec 32) (b b' : Fin 16) (h : b ≠ b') :
    Disjoint (kWin M w b) (kWin M w b') := by
  have key : ∀ b : Fin 16, ∃ hb, kWin M w b = (M.view.slice (Rect.unit (s := S16x32768x128) ![b.val, (Decode.first (w b)).toNat, 0] S1x1152x128.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega
theorem sWin_disj (M : Memref sig .tc .hbm S16x1x32768 .f32) (w : Fin 16 → BitVec 32) (b b' : Fin 16) (h : b ≠ b') :
    Disjoint (sWin M w b) (sWin M w b') := by
  have key : ∀ b : Fin 16, ∃ hb, sWin M w b = (M.view.slice (Rect.unit (s := S16x1x32768) ![b.val, 0, (Decode.first (w b)).toNat] S1x1x1152.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega

theorem kSlab_pieces (c : Dev nD) (M : Memref sig .tc .vmem S16x1152x128 .fp8e4m3) (f : Bf (F := F) c M) :
    (pt c M f : sProp 𝕄) ⊣⊢ iprop((wpt c (slab M 0 inb_S16x1152x128_S1x1152x128_0_0_0) f ∗ wpt c (slab M 1 inb_S16x1152x128_S1x1152x128_1_0_0) f ∗ wpt c (slab M 2 inb_S16x1152x128_S1x1152x128_2_0_0) f ∗ wpt c (slab M 3 inb_S16x1152x128_S1x1152x128_3_0_0) f ∗ wpt c (slab M 4 inb_S16x1152x128_S1x1152x128_4_0_0) f ∗ wpt c (slab M 5 inb_S16x1152x128_S1x1152x128_5_0_0) f ∗ wpt c (slab M 6 inb_S16x1152x128_S1x1152x128_6_0_0) f ∗ wpt c (slab M 7 inb_S16x1152x128_S1x1152x128_7_0_0) f ∗ wpt c (slab M 8 inb_S16x1152x128_S1x1152x128_8_0_0) f ∗ wpt c (slab M 9 inb_S16x1152x128_S1x1152x128_9_0_0) f ∗ wpt c (slab M 10 inb_S16x1152x128_S1x1152x128_10_0_0) f ∗ wpt c (slab M 11 inb_S16x1152x128_S1x1152x128_11_0_0) f ∗ wpt c (slab M 12 inb_S16x1152x128_S1x1152x128_12_0_0) f ∗ wpt c (slab M 13 inb_S16x1152x128_S1x1152x128_13_0_0) f ∗ wpt c (slab M 14 inb_S16x1152x128_S1x1152x128_14_0_0) f ∗ wpt c (slab M 15 inb_S16x1152x128_S1x1152x128_15_0_0) f)
      ∗ M.view.loc (c : Thread nD τ) ↦[restOf (ℓ := M.view.loc (c : Thread nD τ)) (kSlab M)]{fullShare} f) :=
  pieces (ℓ := M.view.loc (c : Thread nD τ)) (kSlab M) (kSlab_disj M) f

theorem kSlab_join (c : Dev nD) (M : Memref sig .tc .vmem S16x1152x128 .fp8e4m3) (fs : Fin 16 → Bf (F := F) c M) (f₀ : Bf (F := F) c M) :
    (iprop((wpt c (slab M 0 inb_S16x1152x128_S1x1152x128_0_0_0) (fs 0) ∗ wpt c (slab M 1 inb_S16x1152x128_S1x1152x128_1_0_0) (fs 1) ∗ wpt c (slab M 2 inb_S16x1152x128_S1x1152x128_2_0_0) (fs 2) ∗ wpt c (slab M 3 inb_S16x1152x128_S1x1152x128_3_0_0) (fs 3) ∗ wpt c (slab M 4 inb_S16x1152x128_S1x1152x128_4_0_0) (fs 4) ∗ wpt c (slab M 5 inb_S16x1152x128_S1x1152x128_5_0_0) (fs 5) ∗ wpt c (slab M 6 inb_S16x1152x128_S1x1152x128_6_0_0) (fs 6) ∗ wpt c (slab M 7 inb_S16x1152x128_S1x1152x128_7_0_0) (fs 7) ∗ wpt c (slab M 8 inb_S16x1152x128_S1x1152x128_8_0_0) (fs 8) ∗ wpt c (slab M 9 inb_S16x1152x128_S1x1152x128_9_0_0) (fs 9) ∗ wpt c (slab M 10 inb_S16x1152x128_S1x1152x128_10_0_0) (fs 10) ∗ wpt c (slab M 11 inb_S16x1152x128_S1x1152x128_11_0_0) (fs 11) ∗ wpt c (slab M 12 inb_S16x1152x128_S1x1152x128_12_0_0) (fs 12) ∗ wpt c (slab M 13 inb_S16x1152x128_S1x1152x128_13_0_0) (fs 13) ∗ wpt c (slab M 14 inb_S16x1152x128_S1x1152x128_14_0_0) (fs 14) ∗ wpt c (slab M 15 inb_S16x1152x128_S1x1152x128_15_0_0) (fs 15))
      ∗ M.view.loc (c : Thread nD τ) ↦[restOf (ℓ := M.view.loc (c : Thread nD τ)) (kSlab M)]{fullShare} f₀) : sProp 𝕄)
    ⊢ ∃ g : Bf (F := F) c M, pt c M g :=
  pieces_join (ℓ := M.view.loc (c : Thread nD τ)) (kSlab M) (kSlab_disj M) fs f₀

theorem sRow_pieces (c : Dev nD) (M : Memref sig .tc .vmem S16x1x1152 .f32) (f : Bf (F := F) c M) :
    (pt c M f : sProp 𝕄) ⊣⊢ iprop((wpt c (row M 0 inb_S16x1x1152_S1x1x1152_0_0_0) f ∗ wpt c (row M 1 inb_S16x1x1152_S1x1x1152_1_0_0) f ∗ wpt c (row M 2 inb_S16x1x1152_S1x1x1152_2_0_0) f ∗ wpt c (row M 3 inb_S16x1x1152_S1x1x1152_3_0_0) f ∗ wpt c (row M 4 inb_S16x1x1152_S1x1x1152_4_0_0) f ∗ wpt c (row M 5 inb_S16x1x1152_S1x1x1152_5_0_0) f ∗ wpt c (row M 6 inb_S16x1x1152_S1x1x1152_6_0_0) f ∗ wpt c (row M 7 inb_S16x1x1152_S1x1x1152_7_0_0) f ∗ wpt c (row M 8 inb_S16x1x1152_S1x1x1152_8_0_0) f ∗ wpt c (row M 9 inb_S16x1x1152_S1x1x1152_9_0_0) f ∗ wpt c (row M 10 inb_S16x1x1152_S1x1x1152_10_0_0) f ∗ wpt c (row M 11 inb_S16x1x1152_S1x1x1152_11_0_0) f ∗ wpt c (row M 12 inb_S16x1x1152_S1x1x1152_12_0_0) f ∗ wpt c (row M 13 inb_S16x1x1152_S1x1x1152_13_0_0) f ∗ wpt c (row M 14 inb_S16x1x1152_S1x1x1152_14_0_0) f ∗ wpt c (row M 15 inb_S16x1x1152_S1x1x1152_15_0_0) f)
      ∗ M.view.loc (c : Thread nD τ) ↦[restOf (ℓ := M.view.loc (c : Thread nD τ)) (sRow M)]{fullShare} f) :=
  pieces (ℓ := M.view.loc (c : Thread nD τ)) (sRow M) (sRow_disj M) f

theorem sRow_join (c : Dev nD) (M : Memref sig .tc .vmem S16x1x1152 .f32) (fs : Fin 16 → Bf (F := F) c M) (f₀ : Bf (F := F) c M) :
    (iprop((wpt c (row M 0 inb_S16x1x1152_S1x1x1152_0_0_0) (fs 0) ∗ wpt c (row M 1 inb_S16x1x1152_S1x1x1152_1_0_0) (fs 1) ∗ wpt c (row M 2 inb_S16x1x1152_S1x1x1152_2_0_0) (fs 2) ∗ wpt c (row M 3 inb_S16x1x1152_S1x1x1152_3_0_0) (fs 3) ∗ wpt c (row M 4 inb_S16x1x1152_S1x1x1152_4_0_0) (fs 4) ∗ wpt c (row M 5 inb_S16x1x1152_S1x1x1152_5_0_0) (fs 5) ∗ wpt c (row M 6 inb_S16x1x1152_S1x1x1152_6_0_0) (fs 6) ∗ wpt c (row M 7 inb_S16x1x1152_S1x1x1152_7_0_0) (fs 7) ∗ wpt c (row M 8 inb_S16x1x1152_S1x1x1152_8_0_0) (fs 8) ∗ wpt c (row M 9 inb_S16x1x1152_S1x1x1152_9_0_0) (fs 9) ∗ wpt c (row M 10 inb_S16x1x1152_S1x1x1152_10_0_0) (fs 10) ∗ wpt c (row M 11 inb_S16x1x1152_S1x1x1152_11_0_0) (fs 11) ∗ wpt c (row M 12 inb_S16x1x1152_S1x1x1152_12_0_0) (fs 12) ∗ wpt c (row M 13 inb_S16x1x1152_S1x1x1152_13_0_0) (fs 13) ∗ wpt c (row M 14 inb_S16x1x1152_S1x1x1152_14_0_0) (fs 14) ∗ wpt c (row M 15 inb_S16x1x1152_S1x1x1152_15_0_0) (fs 15))
      ∗ M.view.loc (c : Thread nD τ) ↦[restOf (ℓ := M.view.loc (c : Thread nD τ)) (sRow M)]{fullShare} f₀) : sProp 𝕄)
    ⊢ ∃ g : Bf (F := F) c M, pt c M g :=
  pieces_join (ℓ := M.view.loc (c : Thread nD τ)) (sRow M) (sRow_disj M) fs f₀

theorem kWin_pieces (c : Dev nD) (M : Memref sig .tc .hbm S16x32768x128 .fp8e4m3) (w0 w1 w2 w3 w4 w5 w6 w7 w8 w9 w10 w11 w12 w13 w14 w15 : BitVec 32) (f : Bf (F := F) c M) :
    (pt c M f : sProp 𝕄) ⊣⊢ iprop((wpt c (win M (k0_off1 w0) (k0_off1_inb w0 (k0_chk1_all w0))) f ∗ wpt c (win M (k0_off3 w1) (k0_off3_inb w1 (k0_chk2_all w1))) f ∗ wpt c (win M (k0_off5 w2) (k0_off5_inb w2 (k0_chk3_all w2))) f ∗ wpt c (win M (k0_off7 w3) (k0_off7_inb w3 (k0_chk4_all w3))) f ∗ wpt c (win M (k0_off9 w4) (k0_off9_inb w4 (k0_chk5_all w4))) f ∗ wpt c (win M (k0_off11 w5) (k0_off11_inb w5 (k0_chk6_all w5))) f ∗ wpt c (win M (k0_off13 w6) (k0_off13_inb w6 (k0_chk7_all w6))) f ∗ wpt c (win M (k0_off15 w7) (k0_off15_inb w7 (k0_chk8_all w7))) f ∗ wpt c (win M (k0_off17 w8) (k0_off17_inb w8 (k0_chk9_all w8))) f ∗ wpt c (win M (k0_off19 w9) (k0_off19_inb w9 (k0_chk10_all w9))) f ∗ wpt c (win M (k0_off21 w10) (k0_off21_inb w10 (k0_chk11_all w10))) f ∗ wpt c (win M (k0_off23 w11) (k0_off23_inb w11 (k0_chk12_all w11))) f ∗ wpt c (win M (k0_off25 w12) (k0_off25_inb w12 (k0_chk13_all w12))) f ∗ wpt c (win M (k0_off27 w13) (k0_off27_inb w13 (k0_chk14_all w13))) f ∗ wpt c (win M (k0_off29 w14) (k0_off29_inb w14 (k0_chk15_all w14))) f ∗ wpt c (win M (k0_off31 w15) (k0_off31_inb w15 (k0_chk16_all w15))) f)
      ∗ M.view.loc (c : Thread nD τ) ↦[restOf (ℓ := M.view.loc (c : Thread nD τ)) (kWin M ![w0, w1, w2, w3, w4, w5, w6, w7, w8, w9, w10, w11, w12, w13, w14, w15])]{fullShare} f) :=
  pieces (ℓ := M.view.loc (c : Thread nD τ)) (kWin M ![w0, w1, w2, w3, w4, w5, w6, w7, w8, w9, w10, w11, w12, w13, w14, w15]) (kWin_disj M ![w0, w1, w2, w3, w4, w5, w6, w7, w8, w9, w10, w11, w12, w13, w14, w15]) f

theorem sWin_pieces (c : Dev nD) (M : Memref sig .tc .hbm S16x1x32768 .f32) (w0 w1 w2 w3 w4 w5 w6 w7 w8 w9 w10 w11 w12 w13 w14 w15 : BitVec 32) (f : Bf (F := F) c M) :
    (pt c M f : sProp 𝕄) ⊣⊢ iprop((wpt c (swin M (k0_off2 w0) (k0_off2_inb w0 (k0_chk1_all w0))) f ∗ wpt c (swin M (k0_off4 w1) (k0_off4_inb w1 (k0_chk2_all w1))) f ∗ wpt c (swin M (k0_off6 w2) (k0_off6_inb w2 (k0_chk3_all w2))) f ∗ wpt c (swin M (k0_off8 w3) (k0_off8_inb w3 (k0_chk4_all w3))) f ∗ wpt c (swin M (k0_off10 w4) (k0_off10_inb w4 (k0_chk5_all w4))) f ∗ wpt c (swin M (k0_off12 w5) (k0_off12_inb w5 (k0_chk6_all w5))) f ∗ wpt c (swin M (k0_off14 w6) (k0_off14_inb w6 (k0_chk7_all w6))) f ∗ wpt c (swin M (k0_off16 w7) (k0_off16_inb w7 (k0_chk8_all w7))) f ∗ wpt c (swin M (k0_off18 w8) (k0_off18_inb w8 (k0_chk9_all w8))) f ∗ wpt c (swin M (k0_off20 w9) (k0_off20_inb w9 (k0_chk10_all w9))) f ∗ wpt c (swin M (k0_off22 w10) (k0_off22_inb w10 (k0_chk11_all w10))) f ∗ wpt c (swin M (k0_off24 w11) (k0_off24_inb w11 (k0_chk12_all w11))) f ∗ wpt c (swin M (k0_off26 w12) (k0_off26_inb w12 (k0_chk13_all w12))) f ∗ wpt c (swin M (k0_off28 w13) (k0_off28_inb w13 (k0_chk14_all w13))) f ∗ wpt c (swin M (k0_off30 w14) (k0_off30_inb w14 (k0_chk15_all w14))) f ∗ wpt c (swin M (k0_off32 w15) (k0_off32_inb w15 (k0_chk16_all w15))) f)
      ∗ M.view.loc (c : Thread nD τ) ↦[restOf (ℓ := M.view.loc (c : Thread nD τ)) (sWin M ![w0, w1, w2, w3, w4, w5, w6, w7, w8, w9, w10, w11, w12, w13, w14, w15])]{fullShare} f) :=
  pieces (ℓ := M.view.loc (c : Thread nD τ)) (sWin M ![w0, w1, w2, w3, w4, w5, w6, w7, w8, w9, w10, w11, w12, w13, w14, w15]) (sWin_disj M ![w0, w1, w2, w3, w4, w5, w6, w7, w8, w9, w10, w11, w12, w13, w14, w15]) f

/-! ## The two copies on one cell -/

/-- The words each of the two copies on a cell moves: a slab of a cache, then the scales of its rows. -/
abbrev amounts : Fin 2 → ℕ := ![4608, 144]

/-- What the two copies on a cell deliver: each one's destination at what it read, and its source back. -/
def deliv (c : Dev nD) (src : Memref sig .tc .hbm S1152x128 .fp8e4m3) (dst : Memref sig .tc .vmem S1152x128 .fp8e4m3)
    (ssrc : Memref sig .tc .hbm S1x1152 .f32) (sdst : Memref sig .tc .vmem S1x1152 .f32)
    (f : Bf (F := F) c src) (d : Bf (F := F) c dst) (fs : Bf (F := F) c ssrc) (ds : Bf (F := F) c sdst) : Fin 2 → sProp 𝕄
  | 0 => iprop((dst.view.loc (c : Thread nD τ) ↦[dst.view.set]{fullShare}
          dst.view.writes (Elt F) d [⟨Rect.whole _, ReadAs.same.apply (src.view.read (Elt F) f)⟩])
        ∗ (src.view.loc (c : Thread nD τ) ↦[src.view.set]{fullShare} f))
  | 1 => iprop((sdst.view.loc (c : Thread nD τ) ↦[sdst.view.set]{fullShare}
          sdst.view.writes (Elt F) ds [⟨Rect.whole _, ReadAs.same.apply (ssrc.view.read (Elt F) fs)⟩])
        ∗ (ssrc.view.loc (c : Thread nD τ) ↦[ssrc.view.set]{fullShare} fs))
instance deliv_storable (c : Dev nD) (src : Memref sig .tc .hbm S1152x128 .fp8e4m3) (dst : Memref sig .tc .vmem S1152x128 .fp8e4m3)
    (ssrc : Memref sig .tc .hbm S1x1152 .f32) (sdst : Memref sig .tc .vmem S1x1152 .f32)
    (f : Bf (F := F) c src) (d : Bf (F := F) c dst) (fs : Bf (F := F) c ssrc) (ds : Bf (F := F) c sdst) (t : Fin 2) :
    Storable (upEmb : UEmb _ 𝕄) (deliv c src dst ssrc sdst f d fs ds t) := by
  fin_cases t <;> simp only [deliv] <;> infer_instance

end Cert.Kernel.Hand

end
-- ==== Proof.RunK1.lean ====
/-
  The decode kernel's body run on its sixteen sequences, first stretch: the operands come in, the sixteen lengths are read,
  each cache and its scratch are cut into one window per sequence, each of the 32 cells carries a batch of two copies (a
  window of a cache and its scales), the copies start, and the new keys and values are quantised. The run continues in the
  next modules, up to `RunK7`, each of which takes up the goal where the one before stopped. `R` is whatever else is held.
-/
module

public import proofs.«01_k».proof.Proof.OperandsK
public import proofs.«01_k».proof.Proof.Gen.Kernel.Skeleton

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s1 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → iprop(pt c aLen faLen ∗ pt c aX faX ∗ pt c aKn faKn ∗ pt c aVn faVn ∗ pt c aCk faCk ∗ pt c aCv faCv ∗
    pt c aCks faCks ∗ pt c aCvs faCvs ∗ pt c rOut frOut ∗ pt c rKc frKc ∗ pt c rKs frKs ∗ pt c rVc frVc ∗
    pt c rVs frVs ∗ pt c sLen fsLen ∗ pt c sX fsX ∗ pt c sKn fsKn ∗ pt c sVn fsVn ∗ pt c sK fsK ∗ pt c sV fsV ∗
    pt c sKs fsKs ∗ pt c sVs fsVs ∗ pt c sOut fsOut ∗ pt c sKc fsKc ∗ pt c sKrow fsKrow ∗ pt c sVc fsVc ∗
    pt c sVrow fsVrow ∗ pt c sKf fsKf ∗ pt c sKb fsKb ∗ pt c sVf fsVf ∗ pt c sVb fsVb ∗
    semVal ((c : Thread nD τ), SemLoc.dma 0) 0 ∗ semVal ((c : Thread nD τ), SemLoc.dma 1) 0 ∗
    semVal ((c : Thread nD τ), SemLoc.dma 2) 0 ∗ semVal ((c : Thread nD τ), SemLoc.dma 3) 0 ∗
    semVal ((c : Thread nD τ), SemLoc.dma 4) 0 ∗ semVal ((c : Thread nD τ), SemLoc.dma 5) 0 ∗
    semVal ((c : Thread nD τ), SemLoc.dma 6) 0 ∗ semVal ((c : Thread nD τ), SemLoc.dma 7) 0 ∗
    semVal ((c : Thread nD τ), SemLoc.dma 8) 0 ∗ semVal ((c : Thread nD τ), SemLoc.dma 9) 0 ∗
    semVal ((c : Thread nD τ), SemLoc.dma 10) 0 ∗ semVal ((c : Thread nD τ), SemLoc.dma 11) 0 ∗
    semVal ((c : Thread nD τ), SemLoc.dma 12) 0 ∗ semVal ((c : Thread nD τ), SemLoc.dma 13) 0 ∗
    semVal ((c : Thread nD τ), SemLoc.dma 14) 0 ∗ semVal ((c : Thread nD τ), SemLoc.dma 15) 0 ∗
    semVal ((c : Thread nD τ), SemLoc.dma 16) 0 ∗ semVal ((c : Thread nD τ), SemLoc.dma 17) 0 ∗
    semVal ((c : Thread nD τ), SemLoc.dma 18) 0 ∗ semVal ((c : Thread nD τ), SemLoc.dma 19) 0 ∗
    semVal ((c : Thread nD τ), SemLoc.dma 20) 0 ∗ semVal ((c : Thread nD τ), SemLoc.dma 21) 0 ∗
    semVal ((c : Thread nD τ), SemLoc.dma 22) 0 ∗ semVal ((c : Thread nD τ), SemLoc.dma 23) 0 ∗
    semVal ((c : Thread nD τ), SemLoc.dma 24) 0 ∗ semVal ((c : Thread nD τ), SemLoc.dma 25) 0 ∗
    semVal ((c : Thread nD τ), SemLoc.dma 26) 0 ∗ semVal ((c : Thread nD τ), SemLoc.dma 27) 0 ∗
    semVal ((c : Thread nD τ), SemLoc.dma 28) 0 ∗ semVal ((c : Thread nD τ), SemLoc.dma 29) 0 ∗
    semVal ((c : Thread nD τ), SemLoc.dma 30) 0 ∗ semVal ((c : Thread nD τ), SemLoc.dma 31) 0 ∗
    semVal ((c : Thread nD τ), SemLoc.dma 32) 0 ∗ semVal ((c : Thread nD τ), SemLoc.dma 33) 0 ∗
    semVal ((c : Thread nD τ), SemLoc.dma 34) 0 ∗ semVal ((c : Thread nD τ), SemLoc.dma 35) 0 ∗
    semVal ((c : Thread nD τ), SemLoc.dma 36) 0 ∗ semVal ((c : Thread nD τ), SemLoc.dma 37) 0 ∗
    semVal ((c : Thread nD τ), SemLoc.dma 38) 0 ∗ semVal ((c : Thread nD τ), SemLoc.dma 39) 0 ∗
    semVal ((c : Thread nD τ), SemLoc.dma 40) 0 ∗ owes (c : Thread nD τ) 0 W ∗ R) ⊢
    wp frame (wpE (defs₀ (F := F)) Variants.none c none) Set.univ
    (cc0_window_decode aLen (Memref.isWhole_whole _) aX (Memref.isWhole_whole _) aKn (Memref.isWhole_whole _) aVn (Memref.isWhole_whole _) aCk (Memref.isWhole_whole _) aCv (Memref.isWhole_whole _) aCks (Memref.isWhole_whole _) aCvs (Memref.isWhole_whole _) rOut (Memref.isWhole_whole _) rKc (Memref.isWhole_whole _) rKs (Memref.isWhole_whole _) rVc (Memref.isWhole_whole _) rVs (Memref.isWhole_whole _) sLen (Memref.isWhole_whole _) sX (Memref.isWhole_whole _) sKn (Memref.isWhole_whole _) sVn (Memref.isWhole_whole _) sK (Memref.isWhole_whole _) sV (Memref.isWhole_whole _) sKs (Memref.isWhole_whole _) sVs (Memref.isWhole_whole _) sOut (Memref.isWhole_whole _) sKc (Memref.isWhole_whole _) sKrow (Memref.isWhole_whole _) sVc (Memref.isWhole_whole _) sVrow (Memref.isWhole_whole _) sKf (Memref.isWhole_whole _) sKb (Memref.isWhole_whole _) sVf (Memref.isWhole_whole _) sVb (Memref.isWhole_whole _)
    cc0_scoped0 cc0_scoped1 cc0_scoped2 cc0_scoped3 cc0_scoped4) K := by
  sl_stretch
  simp only [cc0_window_decode_eq_skeleton]; unfold cc0_window_decode_skel
  iintro ⟨HaLen, HaX, HaKn, HaVn, HaCk, HaCv, HaCks, HaCvs, HrOut, HrKc, HrKs, HrVc, HrVs, HsLen, HsX, HsKn, HsVn, HsK,
    HsV, HsKs, HsVs, HsOut, HsKc, HsKrow, HsVc, HsVrow, HsKf, HsKb, HsVf, HsVb, Hq0, Hq1, Hq2, Hq3, Hq4, Hq5,
    Hq6, Hq7, Hq8, Hq9, Hq10, Hq11, Hq12, Hq13, Hq14, Hq15, Hq16, Hq17, Hq18, Hq19, Hq20, Hq21, Hq22, Hq23, Hq24,
    Hq25, Hq26, Hq27, Hq28, Hq29, Hq30, Hq31, Hq32, Hq33, Hq34, Hq35, Hq36, Hq37, Hq38, Hq39, Hq40, HW, HR⟩
  have hchk1 : ∀ w, k0_chk1 w := k0_chk1_all
  have hchk2 : ∀ w, k0_chk2 w := k0_chk2_all
  have hchk3 : ∀ w, k0_chk3 w := k0_chk3_all
  have hchk4 : ∀ w, k0_chk4 w := k0_chk4_all
  have hchk5 : ∀ w, k0_chk5 w := k0_chk5_all
  have hchk6 : ∀ w, k0_chk6 w := k0_chk6_all
  have hchk7 : ∀ w, k0_chk7 w := k0_chk7_all
  have hchk8 : ∀ w, k0_chk8 w := k0_chk8_all
  have hchk9 : ∀ w, k0_chk9 w := k0_chk9_all
  have hchk10 : ∀ w, k0_chk10 w := k0_chk10_all
  have hchk11 : ∀ w, k0_chk11 w := k0_chk11_all
  have hchk12 : ∀ w, k0_chk12 w := k0_chk12_all
  have hchk13 : ∀ w, k0_chk13 w := k0_chk13_all
  have hchk14 : ∀ w, k0_chk14 w := k0_chk14_all
  have hchk15 : ∀ w, k0_chk15 w := k0_chk15_all
  have hchk16 : ∀ w, k0_chk16 w := k0_chk16_all
  set_option sl_exec.stopBefore "k0_part4" in sl_exec
  set_option sl_exec.maxSteps 8 in sl_exec
  generalize hw0 : s1.sl.r c faLen fsLen = w0
  generalize hw1 : s1.sl.r_1 c faLen fsLen = w1
  generalize hw2 : s1.sl.r_2 c faLen fsLen = w2
  generalize hw3 : s1.sl.r_3 c faLen fsLen = w3
  generalize hw4 : s1.sl.r_4 c faLen fsLen = w4
  generalize hw5 : s1.sl.r_5 c faLen fsLen = w5
  generalize hw6 : s1.sl.r_6 c faLen fsLen = w6
  generalize hw7 : s1.sl.r_7 c faLen fsLen = w7
  generalize hw8 : s1.sl.r_8 c faLen fsLen = w8
  generalize hw9 : s1.sl.r_9 c faLen fsLen = w9
  generalize hw10 : s1.sl.r_10 c faLen fsLen = w10
  generalize hw11 : s1.sl.r_11 c faLen fsLen = w11
  generalize hw12 : s1.sl.r_12 c faLen fsLen = w12
  generalize hw13 : s1.sl.r_13 c faLen fsLen = w13
  generalize hw14 : s1.sl.r_14 c faLen fsLen = w14
  generalize hw15 : s1.sl.r_15 c faLen fsLen = w15
  ihave HT := (kSlab_pieces (F := F) c sK fsK).1 $$ HsK
  icases HT with ⟨⟨Dk0, Dk1, Dk2, Dk3, Dk4, Dk5, Dk6, Dk7, Dk8, Dk9, Dk10, Dk11, Dk12, Dk13, Dk14, Dk15⟩, HRsK⟩
  ihave HT := (kSlab_pieces (F := F) c sV fsV).1 $$ HsV
  icases HT with ⟨⟨Dv0, Dv1, Dv2, Dv3, Dv4, Dv5, Dv6, Dv7, Dv8, Dv9, Dv10, Dv11, Dv12, Dv13, Dv14, Dv15⟩, HRsV⟩
  ihave HT := (sRow_pieces (F := F) c sKs fsKs).1 $$ HsKs
  icases HT with ⟨⟨Eks0, Eks1, Eks2, Eks3, Eks4, Eks5, Eks6, Eks7, Eks8, Eks9, Eks10, Eks11, Eks12, Eks13, Eks14, Eks15⟩, HRsKs⟩
  ihave HT := (sRow_pieces (F := F) c sVs fsVs).1 $$ HsVs
  icases HT with ⟨⟨Evs0, Evs1, Evs2, Evs3, Evs4, Evs5, Evs6, Evs7, Evs8, Evs9, Evs10, Evs11, Evs12, Evs13, Evs14, Evs15⟩, HRsVs⟩
  ihave HT := (kWin_pieces (F := F) c aCk w0 w1 w2 w3 w4 w5 w6 w7 w8 w9 w10 w11 w12 w13 w14 w15 faCk).1 $$ HaCk
  icases HT with ⟨⟨Sk0, Sk1, Sk2, Sk3, Sk4, Sk5, Sk6, Sk7, Sk8, Sk9, Sk10, Sk11, Sk12, Sk13, Sk14, Sk15⟩, HRaCk⟩
  ihave HT := (kWin_pieces (F := F) c aCv w0 w1 w2 w3 w4 w5 w6 w7 w8 w9 w10 w11 w12 w13 w14 w15 faCv).1 $$ HaCv
  icases HT with ⟨⟨Sv0, Sv1, Sv2, Sv3, Sv4, Sv5, Sv6, Sv7, Sv8, Sv9, Sv10, Sv11, Sv12, Sv13, Sv14, Sv15⟩, HRaCv⟩
  ihave HT := (sWin_pieces (F := F) c aCks w0 w1 w2 w3 w4 w5 w6 w7 w8 w9 w10 w11 w12 w13 w14 w15 faCks).1 $$ HaCks
  icases HT with ⟨⟨Tk0, Tk1, Tk2, Tk3, Tk4, Tk5, Tk6, Tk7, Tk8, Tk9, Tk10, Tk11, Tk12, Tk13, Tk14, Tk15⟩, HRaCks⟩
  ihave HT := (sWin_pieces (F := F) c aCvs w0 w1 w2 w3 w4 w5 w6 w7 w8 w9 w10 w11 w12 w13 w14 w15 faCvs).1 $$ HaCvs
  icases HT with ⟨⟨Tv0, Tv1, Tv2, Tv3, Tv4, Tv5, Tv6, Tv7, Tv8, Tv9, Tv10, Tv11, Tv12, Tv13, Tv14, Tv15⟩, HRaCvs⟩
  imod (Transfers.mixedBatch_alloc' (Lvl := ℕ) (countersEmb (U := Pipeline.UD sig nD τ)) (c : Thread nD τ) () amounts
    (deliv c (win aCk (k0_off1 w0) (k0_off1_inb w0 (k0_chk1_all w0))) (slab sK 0 inb_S16x1152x128_S1x1152x128_0_0_0)
      (swin aCks (k0_off2 w0) (k0_off2_inb w0 (k0_chk1_all w0))) (row sKs 0 inb_S16x1x1152_S1x1x1152_0_0_0) faCk fsK faCks fsKs)
    (sm := SemLoc.dma 4) (E := Set.univ)) $$ Hq4 with HBk0
  imod (Transfers.mixedBatch_alloc' (Lvl := ℕ) (countersEmb (U := Pipeline.UD sig nD τ)) (c : Thread nD τ) () amounts
    (deliv c (win aCk (k0_off3 w1) (k0_off3_inb w1 (k0_chk2_all w1))) (slab sK 1 inb_S16x1152x128_S1x1152x128_1_0_0)
      (swin aCks (k0_off4 w1) (k0_off4_inb w1 (k0_chk2_all w1))) (row sKs 1 inb_S16x1x1152_S1x1x1152_1_0_0) faCk fsK faCks fsKs)
    (sm := SemLoc.dma 5) (E := Set.univ)) $$ Hq5 with HBk1
  imod (Transfers.mixedBatch_alloc' (Lvl := ℕ) (countersEmb (U := Pipeline.UD sig nD τ)) (c : Thread nD τ) () amounts
    (deliv c (win aCk (k0_off5 w2) (k0_off5_inb w2 (k0_chk3_all w2))) (slab sK 2 inb_S16x1152x128_S1x1152x128_2_0_0)
      (swin aCks (k0_off6 w2) (k0_off6_inb w2 (k0_chk3_all w2))) (row sKs 2 inb_S16x1x1152_S1x1x1152_2_0_0) faCk fsK faCks fsKs)
    (sm := SemLoc.dma 6) (E := Set.univ)) $$ Hq6 with HBk2
  imod (Transfers.mixedBatch_alloc' (Lvl := ℕ) (countersEmb (U := Pipeline.UD sig nD τ)) (c : Thread nD τ) () amounts
    (deliv c (win aCk (k0_off7 w3) (k0_off7_inb w3 (k0_chk4_all w3))) (slab sK 3 inb_S16x1152x128_S1x1152x128_3_0_0)
      (swin aCks (k0_off8 w3) (k0_off8_inb w3 (k0_chk4_all w3))) (row sKs 3 inb_S16x1x1152_S1x1x1152_3_0_0) faCk fsK faCks fsKs)
    (sm := SemLoc.dma 7) (E := Set.univ)) $$ Hq7 with HBk3
  imod (Transfers.mixedBatch_alloc' (Lvl := ℕ) (countersEmb (U := Pipeline.UD sig nD τ)) (c : Thread nD τ) () amounts
    (deliv c (win aCk (k0_off9 w4) (k0_off9_inb w4 (k0_chk5_all w4))) (slab sK 4 inb_S16x1152x128_S1x1152x128_4_0_0)
      (swin aCks (k0_off10 w4) (k0_off10_inb w4 (k0_chk5_all w4))) (row sKs 4 inb_S16x1x1152_S1x1x1152_4_0_0) faCk fsK faCks fsKs)
    (sm := SemLoc.dma 8) (E := Set.univ)) $$ Hq8 with HBk4
  imod (Transfers.mixedBatch_alloc' (Lvl := ℕ) (countersEmb (U := Pipeline.UD sig nD τ)) (c : Thread nD τ) () amounts
    (deliv c (win aCk (k0_off11 w5) (k0_off11_inb w5 (k0_chk6_all w5))) (slab sK 5 inb_S16x1152x128_S1x1152x128_5_0_0)
      (swin aCks (k0_off12 w5) (k0_off12_inb w5 (k0_chk6_all w5))) (row sKs 5 inb_S16x1x1152_S1x1x1152_5_0_0) faCk fsK faCks fsKs)
    (sm := SemLoc.dma 9) (E := Set.univ)) $$ Hq9 with HBk5
  imod (Transfers.mixedBatch_alloc' (Lvl := ℕ) (countersEmb (U := Pipeline.UD sig nD τ)) (c : Thread nD τ) () amounts
    (deliv c (win aCk (k0_off13 w6) (k0_off13_inb w6 (k0_chk7_all w6))) (slab sK 6 inb_S16x1152x128_S1x1152x128_6_0_0)
      (swin aCks (k0_off14 w6) (k0_off14_inb w6 (k0_chk7_all w6))) (row sKs 6 inb_S16x1x1152_S1x1x1152_6_0_0) faCk fsK faCks fsKs)
    (sm := SemLoc.dma 10) (E := Set.univ)) $$ Hq10 with HBk6
  imod (Transfers.mixedBatch_alloc' (Lvl := ℕ) (countersEmb (U := Pipeline.UD sig nD τ)) (c : Thread nD τ) () amounts
    (deliv c (win aCk (k0_off15 w7) (k0_off15_inb w7 (k0_chk8_all w7))) (slab sK 7 inb_S16x1152x128_S1x1152x128_7_0_0)
      (swin aCks (k0_off16 w7) (k0_off16_inb w7 (k0_chk8_all w7))) (row sKs 7 inb_S16x1x1152_S1x1x1152_7_0_0) faCk fsK faCks fsKs)
    (sm := SemLoc.dma 11) (E := Set.univ)) $$ Hq11 with HBk7
  imod (Transfers.mixedBatch_alloc' (Lvl := ℕ) (countersEmb (U := Pipeline.UD sig nD τ)) (c : Thread nD τ) () amounts
    (deliv c (win aCk (k0_off17 w8) (k0_off17_inb w8 (k0_chk9_all w8))) (slab sK 8 inb_S16x1152x128_S1x1152x128_8_0_0)
      (swin aCks (k0_off18 w8) (k0_off18_inb w8 (k0_chk9_all w8))) (row sKs 8 inb_S16x1x1152_S1x1x1152_8_0_0) faCk fsK faCks fsKs)
    (sm := SemLoc.dma 12) (E := Set.univ)) $$ Hq12 with HBk8
  imod (Transfers.mixedBatch_alloc' (Lvl := ℕ) (countersEmb (U := Pipeline.UD sig nD τ)) (c : Thread nD τ) () amounts
    (deliv c (win aCk (k0_off19 w9) (k0_off19_inb w9 (k0_chk10_all w9))) (slab sK 9 inb_S16x1152x128_S1x1152x128_9_0_0)
      (swin aCks (k0_off20 w9) (k0_off20_inb w9 (k0_chk10_all w9))) (row sKs 9 inb_S16x1x1152_S1x1x1152_9_0_0) faCk fsK faCks fsKs)
    (sm := SemLoc.dma 13) (E := Set.univ)) $$ Hq13 with HBk9
  imod (Transfers.mixedBatch_alloc' (Lvl := ℕ) (countersEmb (U := Pipeline.UD sig nD τ)) (c : Thread nD τ) () amounts
    (deliv c (win aCk (k0_off21 w10) (k0_off21_inb w10 (k0_chk11_all w10))) (slab sK 10 inb_S16x1152x128_S1x1152x128_10_0_0)
      (swin aCks (k0_off22 w10) (k0_off22_inb w10 (k0_chk11_all w10))) (row sKs 10 inb_S16x1x1152_S1x1x1152_10_0_0) faCk fsK faCks fsKs)
    (sm := SemLoc.dma 14) (E := Set.univ)) $$ Hq14 with HBk10
  imod (Transfers.mixedBatch_alloc' (Lvl := ℕ) (countersEmb (U := Pipeline.UD sig nD τ)) (c : Thread nD τ) () amounts
    (deliv c (win aCk (k0_off23 w11) (k0_off23_inb w11 (k0_chk12_all w11))) (slab sK 11 inb_S16x1152x128_S1x1152x128_11_0_0)
      (swin aCks (k0_off24 w11) (k0_off24_inb w11 (k0_chk12_all w11))) (row sKs 11 inb_S16x1x1152_S1x1x1152_11_0_0) faCk fsK faCks fsKs)
    (sm := SemLoc.dma 15) (E := Set.univ)) $$ Hq15 with HBk11
  imod (Transfers.mixedBatch_alloc' (Lvl := ℕ) (countersEmb (U := Pipeline.UD sig nD τ)) (c : Thread nD τ) () amounts
    (deliv c (win aCk (k0_off25 w12) (k0_off25_inb w12 (k0_chk13_all w12))) (slab sK 12 inb_S16x1152x128_S1x1152x128_12_0_0)
      (swin aCks (k0_off26 w12) (k0_off26_inb w12 (k0_chk13_all w12))) (row sKs 12 inb_S16x1x1152_S1x1x1152_12_0_0) faCk fsK faCks fsKs)
    (sm := SemLoc.dma 16) (E := Set.univ)) $$ Hq16 with HBk12
  imod (Transfers.mixedBatch_alloc' (Lvl := ℕ) (countersEmb (U := Pipeline.UD sig nD τ)) (c : Thread nD τ) () amounts
    (deliv c (win aCk (k0_off27 w13) (k0_off27_inb w13 (k0_chk14_all w13))) (slab sK 13 inb_S16x1152x128_S1x1152x128_13_0_0)
      (swin aCks (k0_off28 w13) (k0_off28_inb w13 (k0_chk14_all w13))) (row sKs 13 inb_S16x1x1152_S1x1x1152_13_0_0) faCk fsK faCks fsKs)
    (sm := SemLoc.dma 17) (E := Set.univ)) $$ Hq17 with HBk13
  imod (Transfers.mixedBatch_alloc' (Lvl := ℕ) (countersEmb (U := Pipeline.UD sig nD τ)) (c : Thread nD τ) () amounts
    (deliv c (win aCk (k0_off29 w14) (k0_off29_inb w14 (k0_chk15_all w14))) (slab sK 14 inb_S16x1152x128_S1x1152x128_14_0_0)
      (swin aCks (k0_off30 w14) (k0_off30_inb w14 (k0_chk15_all w14))) (row sKs 14 inb_S16x1x1152_S1x1x1152_14_0_0) faCk fsK faCks fsKs)
    (sm := SemLoc.dma 18) (E := Set.univ)) $$ Hq18 with HBk14
  imod (Transfers.mixedBatch_alloc' (Lvl := ℕ) (countersEmb (U := Pipeline.UD sig nD τ)) (c : Thread nD τ) () amounts
    (deliv c (win aCk (k0_off31 w15) (k0_off31_inb w15 (k0_chk16_all w15))) (slab sK 15 inb_S16x1152x128_S1x1152x128_15_0_0)
      (swin aCks (k0_off32 w15) (k0_off32_inb w15 (k0_chk16_all w15))) (row sKs 15 inb_S16x1x1152_S1x1x1152_15_0_0) faCk fsK faCks fsKs)
    (sm := SemLoc.dma 19) (E := Set.univ)) $$ Hq19 with HBk15
  imod (Transfers.mixedBatch_alloc' (Lvl := ℕ) (countersEmb (U := Pipeline.UD sig nD τ)) (c : Thread nD τ) () amounts
    (deliv c (win aCv (k0_off1 w0) (k0_off1_inb w0 (k0_chk1_all w0))) (slab sV 0 inb_S16x1152x128_S1x1152x128_0_0_0)
      (swin aCvs (k0_off2 w0) (k0_off2_inb w0 (k0_chk1_all w0))) (row sVs 0 inb_S16x1x1152_S1x1x1152_0_0_0) faCv fsV faCvs fsVs)
    (sm := SemLoc.dma 20) (E := Set.univ)) $$ Hq20 with HBv0
  imod (Transfers.mixedBatch_alloc' (Lvl := ℕ) (countersEmb (U := Pipeline.UD sig nD τ)) (c : Thread nD τ) () amounts
    (deliv c (win aCv (k0_off3 w1) (k0_off3_inb w1 (k0_chk2_all w1))) (slab sV 1 inb_S16x1152x128_S1x1152x128_1_0_0)
      (swin aCvs (k0_off4 w1) (k0_off4_inb w1 (k0_chk2_all w1))) (row sVs 1 inb_S16x1x1152_S1x1x1152_1_0_0) faCv fsV faCvs fsVs)
    (sm := SemLoc.dma 21) (E := Set.univ)) $$ Hq21 with HBv1
  imod (Transfers.mixedBatch_alloc' (Lvl := ℕ) (countersEmb (U := Pipeline.UD sig nD τ)) (c : Thread nD τ) () amounts
    (deliv c (win aCv (k0_off5 w2) (k0_off5_inb w2 (k0_chk3_all w2))) (slab sV 2 inb_S16x1152x128_S1x1152x128_2_0_0)
      (swin aCvs (k0_off6 w2) (k0_off6_inb w2 (k0_chk3_all w2))) (row sVs 2 inb_S16x1x1152_S1x1x1152_2_0_0) faCv fsV faCvs fsVs)
    (sm := SemLoc.dma 22) (E := Set.univ)) $$ Hq22 with HBv2
  imod (Transfers.mixedBatch_alloc' (Lvl := ℕ) (countersEmb (U := Pipeline.UD sig nD τ)) (c : Thread nD τ) () amounts
    (deliv c (win aCv (k0_off7 w3) (k0_off7_inb w3 (k0_chk4_all w3))) (slab sV 3 inb_S16x1152x128_S1x1152x128_3_0_0)
      (swin aCvs (k0_off8 w3) (k0_off8_inb w3 (k0_chk4_all w3))) (row sVs 3 inb_S16x1x1152_S1x1x1152_3_0_0) faCv fsV faCvs fsVs)
    (sm := SemLoc.dma 23) (E := Set.univ)) $$ Hq23 with HBv3
  imod (Transfers.mixedBatch_alloc' (Lvl := ℕ) (countersEmb (U := Pipeline.UD sig nD τ)) (c : Thread nD τ) () amounts
    (deliv c (win aCv (k0_off9 w4) (k0_off9_inb w4 (k0_chk5_all w4))) (slab sV 4 inb_S16x1152x128_S1x1152x128_4_0_0)
      (swin aCvs (k0_off10 w4) (k0_off10_inb w4 (k0_chk5_all w4))) (row sVs 4 inb_S16x1x1152_S1x1x1152_4_0_0) faCv fsV faCvs fsVs)
    (sm := SemLoc.dma 24) (E := Set.univ)) $$ Hq24 with HBv4
  imod (Transfers.mixedBatch_alloc' (Lvl := ℕ) (countersEmb (U := Pipeline.UD sig nD τ)) (c : Thread nD τ) () amounts
    (deliv c (win aCv (k0_off11 w5) (k0_off11_inb w5 (k0_chk6_all w5))) (slab sV 5 inb_S16x1152x128_S1x1152x128_5_0_0)
      (swin aCvs (k0_off12 w5) (k0_off12_inb w5 (k0_chk6_all w5))) (row sVs 5 inb_S16x1x1152_S1x1x1152_5_0_0) faCv fsV faCvs fsVs)
    (sm := SemLoc.dma 25) (E := Set.univ)) $$ Hq25 with HBv5
  imod (Transfers.mixedBatch_alloc' (Lvl := ℕ) (countersEmb (U := Pipeline.UD sig nD τ)) (c : Thread nD τ) () amounts
    (deliv c (win aCv (k0_off13 w6) (k0_off13_inb w6 (k0_chk7_all w6))) (slab sV 6 inb_S16x1152x128_S1x1152x128_6_0_0)
      (swin aCvs (k0_off14 w6) (k0_off14_inb w6 (k0_chk7_all w6))) (row sVs 6 inb_S16x1x1152_S1x1x1152_6_0_0) faCv fsV faCvs fsVs)
    (sm := SemLoc.dma 26) (E := Set.univ)) $$ Hq26 with HBv6
  imod (Transfers.mixedBatch_alloc' (Lvl := ℕ) (countersEmb (U := Pipeline.UD sig nD τ)) (c : Thread nD τ) () amounts
    (deliv c (win aCv (k0_off15 w7) (k0_off15_inb w7 (k0_chk8_all w7))) (slab sV 7 inb_S16x1152x128_S1x1152x128_7_0_0)
      (swin aCvs (k0_off16 w7) (k0_off16_inb w7 (k0_chk8_all w7))) (row sVs 7 inb_S16x1x1152_S1x1x1152_7_0_0) faCv fsV faCvs fsVs)
    (sm := SemLoc.dma 27) (E := Set.univ)) $$ Hq27 with HBv7
  imod (Transfers.mixedBatch_alloc' (Lvl := ℕ) (countersEmb (U := Pipeline.UD sig nD τ)) (c : Thread nD τ) () amounts
    (deliv c (win aCv (k0_off17 w8) (k0_off17_inb w8 (k0_chk9_all w8))) (slab sV 8 inb_S16x1152x128_S1x1152x128_8_0_0)
      (swin aCvs (k0_off18 w8) (k0_off18_inb w8 (k0_chk9_all w8))) (row sVs 8 inb_S16x1x1152_S1x1x1152_8_0_0) faCv fsV faCvs fsVs)
    (sm := SemLoc.dma 28) (E := Set.univ)) $$ Hq28 with HBv8
  imod (Transfers.mixedBatch_alloc' (Lvl := ℕ) (countersEmb (U := Pipeline.UD sig nD τ)) (c : Thread nD τ) () amounts
    (deliv c (win aCv (k0_off19 w9) (k0_off19_inb w9 (k0_chk10_all w9))) (slab sV 9 inb_S16x1152x128_S1x1152x128_9_0_0)
      (swin aCvs (k0_off20 w9) (k0_off20_inb w9 (k0_chk10_all w9))) (row sVs 9 inb_S16x1x1152_S1x1x1152_9_0_0) faCv fsV faCvs fsVs)
    (sm := SemLoc.dma 29) (E := Set.univ)) $$ Hq29 with HBv9
  imod (Transfers.mixedBatch_alloc' (Lvl := ℕ) (countersEmb (U := Pipeline.UD sig nD τ)) (c : Thread nD τ) () amounts
    (deliv c (win aCv (k0_off21 w10) (k0_off21_inb w10 (k0_chk11_all w10))) (slab sV 10 inb_S16x1152x128_S1x1152x128_10_0_0)
      (swin aCvs (k0_off22 w10) (k0_off22_inb w10 (k0_chk11_all w10))) (row sVs 10 inb_S16x1x1152_S1x1x1152_10_0_0) faCv fsV faCvs fsVs)
    (sm := SemLoc.dma 30) (E := Set.univ)) $$ Hq30 with HBv10
  imod (Transfers.mixedBatch_alloc' (Lvl := ℕ) (countersEmb (U := Pipeline.UD sig nD τ)) (c : Thread nD τ) () amounts
    (deliv c (win aCv (k0_off23 w11) (k0_off23_inb w11 (k0_chk12_all w11))) (slab sV 11 inb_S16x1152x128_S1x1152x128_11_0_0)
      (swin aCvs (k0_off24 w11) (k0_off24_inb w11 (k0_chk12_all w11))) (row sVs 11 inb_S16x1x1152_S1x1x1152_11_0_0) faCv fsV faCvs fsVs)
    (sm := SemLoc.dma 31) (E := Set.univ)) $$ Hq31 with HBv11
  imod (Transfers.mixedBatch_alloc' (Lvl := ℕ) (countersEmb (U := Pipeline.UD sig nD τ)) (c : Thread nD τ) () amounts
    (deliv c (win aCv (k0_off25 w12) (k0_off25_inb w12 (k0_chk13_all w12))) (slab sV 12 inb_S16x1152x128_S1x1152x128_12_0_0)
      (swin aCvs (k0_off26 w12) (k0_off26_inb w12 (k0_chk13_all w12))) (row sVs 12 inb_S16x1x1152_S1x1x1152_12_0_0) faCv fsV faCvs fsVs)
    (sm := SemLoc.dma 32) (E := Set.univ)) $$ Hq32 with HBv12
  imod (Transfers.mixedBatch_alloc' (Lvl := ℕ) (countersEmb (U := Pipeline.UD sig nD τ)) (c : Thread nD τ) () amounts
    (deliv c (win aCv (k0_off27 w13) (k0_off27_inb w13 (k0_chk14_all w13))) (slab sV 13 inb_S16x1152x128_S1x1152x128_13_0_0)
      (swin aCvs (k0_off28 w13) (k0_off28_inb w13 (k0_chk14_all w13))) (row sVs 13 inb_S16x1x1152_S1x1x1152_13_0_0) faCv fsV faCvs fsVs)
    (sm := SemLoc.dma 33) (E := Set.univ)) $$ Hq33 with HBv13
  imod (Transfers.mixedBatch_alloc' (Lvl := ℕ) (countersEmb (U := Pipeline.UD sig nD τ)) (c : Thread nD τ) () amounts
    (deliv c (win aCv (k0_off29 w14) (k0_off29_inb w14 (k0_chk15_all w14))) (slab sV 14 inb_S16x1152x128_S1x1152x128_14_0_0)
      (swin aCvs (k0_off30 w14) (k0_off30_inb w14 (k0_chk15_all w14))) (row sVs 14 inb_S16x1x1152_S1x1x1152_14_0_0) faCv fsV faCvs fsVs)
    (sm := SemLoc.dma 34) (E := Set.univ)) $$ Hq34 with HBv14
  imod (Transfers.mixedBatch_alloc' (Lvl := ℕ) (countersEmb (U := Pipeline.UD sig nD τ)) (c : Thread nD τ) () amounts
    (deliv c (win aCv (k0_off31 w15) (k0_off31_inb w15 (k0_chk16_all w15))) (slab sV 15 inb_S16x1152x128_S1x1152x128_15_0_0)
      (swin aCvs (k0_off32 w15) (k0_off32_inb w15 (k0_chk16_all w15))) (row sVs 15 inb_S16x1x1152_S1x1x1152_15_0_0) faCv fsV faCvs fsVs)
    (sm := SemLoc.dma 35) (E := Set.univ)) $$ Hq35 with HBv15
  unfold deliv
  set_option sl_exec.stopBefore "k0_part31" in sl_exec_parts
  sl_seam

end Cert.Kernel.Hand
-- ==== Proof.RunK2.lean ====
/-
  The decode kernel's body run on its sixteen sequences, stretch 2: from `k0_part31` to `k0_part65`.
-/
module

public import proofs.«01_k».proof.Proof.RunK1

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s2 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s1 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part65" in sl_exec_parts
  sl_seam

end Cert.Kernel.Hand
-- ==== Proof.RunK3.lean ====
/-
  The decode kernel's body run on its sixteen sequences, stretch 3: from `k0_part65` to `k0_part99`.
-/
module

public import proofs.«01_k».proof.Proof.RunK2

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s3 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s2 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part99" in sl_exec_parts
  sl_seam

end Cert.Kernel.Hand
-- ==== Proof.RunK4.lean ====
/-
  The decode kernel's body run on its sixteen sequences, stretch 4: from `k0_part99` to `k0_part125`.
-/
module

public import proofs.«01_k».proof.Proof.RunK3

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s4 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s3 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part125" in sl_exec_parts
  sl_seam

end Cert.Kernel.Hand
-- ==== Proof.RunK5.lean ====
/-
  The decode kernel's body run on its sixteen sequences, stretch 5: from `k0_part125` to `k0_part138`.
-/
module

public import proofs.«01_k».proof.Proof.RunK4

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s5 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s4 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part138" in sl_exec_parts
  sl_seam

end Cert.Kernel.Hand
-- ==== Proof.RunK6.lean ====
/-
  The decode kernel's body run on its sixteen sequences, stretch 6: from `k0_part138` to `k0_part152`.
-/
module

public import proofs.«01_k».proof.Proof.RunK5

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s6 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s5 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part152" in sl_exec_parts
  sl_seam

end Cert.Kernel.Hand
-- ==== Proof.RunK7.lean ====
/-
  The decode kernel's body run on its sixteen sequences, stretch 7: from `k0_part152` to the output's copy, which it starts.
-/
module

public import proofs.«01_k».proof.Proof.RunK6

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def s7 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s6 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.maxSteps 21 in sl_exec_parts
  sl_seam

end Cert.Kernel.Hand
-- ==== Proof.RunK8.lean ====
/-
  The decode kernel's body run whole: what its seven stretches leave, put back together.  Every argument comes back as it
  went in, the five results at what their copies wrote, every semaphore at zero.
-/
module

public import proofs.«01_k».proof.Proof.RunK7

@[expose] public section

set_option maxRecDepth 16384
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The slabs put back together -/

theorem kSlab_whole (c : Dev nD) (M : Memref sig .tc .vmem S16x1152x128 .fp8e4m3) (f0 f1 f2 f3 f4 f5 f6 f7 f8 f9 f10 f11 f12 f13 f14 f15 f : Bf (F := F) c M) :
    (iprop((wpt c (slab M 0 inb_S16x1152x128_S1x1152x128_0_0_0) f0 ∗ wpt c (slab M 1 inb_S16x1152x128_S1x1152x128_1_0_0) f1 ∗ wpt c (slab M 2 inb_S16x1152x128_S1x1152x128_2_0_0) f2 ∗ wpt c (slab M 3 inb_S16x1152x128_S1x1152x128_3_0_0) f3 ∗ wpt c (slab M 4 inb_S16x1152x128_S1x1152x128_4_0_0) f4 ∗ wpt c (slab M 5 inb_S16x1152x128_S1x1152x128_5_0_0) f5 ∗ wpt c (slab M 6 inb_S16x1152x128_S1x1152x128_6_0_0) f6 ∗ wpt c (slab M 7 inb_S16x1152x128_S1x1152x128_7_0_0) f7 ∗ wpt c (slab M 8 inb_S16x1152x128_S1x1152x128_8_0_0) f8 ∗ wpt c (slab M 9 inb_S16x1152x128_S1x1152x128_9_0_0) f9 ∗ wpt c (slab M 10 inb_S16x1152x128_S1x1152x128_10_0_0) f10 ∗ wpt c (slab M 11 inb_S16x1152x128_S1x1152x128_11_0_0) f11 ∗ wpt c (slab M 12 inb_S16x1152x128_S1x1152x128_12_0_0) f12 ∗ wpt c (slab M 13 inb_S16x1152x128_S1x1152x128_13_0_0) f13 ∗ wpt c (slab M 14 inb_S16x1152x128_S1x1152x128_14_0_0) f14 ∗ wpt c (slab M 15 inb_S16x1152x128_S1x1152x128_15_0_0) f15)
      ∗ M.view.loc (c : Thread nD τ) ↦[restOf (ℓ := M.view.loc (c : Thread nD τ)) (kSlab M)]{fullShare} f) : sProp 𝕄)
    ⊢ ∃ g : Bf (F := F) c M, pt c M g :=
  kSlab_join c M ![f0, f1, f2, f3, f4, f5, f6, f7, f8, f9, f10, f11, f12, f13, f14, f15] f

theorem sRow_whole (c : Dev nD) (M : Memref sig .tc .vmem S16x1x1152 .f32) (f0 f1 f2 f3 f4 f5 f6 f7 f8 f9 f10 f11 f12 f13 f14 f15 f : Bf (F := F) c M) :
    (iprop((wpt c (row M 0 inb_S16x1x1152_S1x1x1152_0_0_0) f0 ∗ wpt c (row M 1 inb_S16x1x1152_S1x1x1152_1_0_0) f1 ∗ wpt c (row M 2 inb_S16x1x1152_S1x1x1152_2_0_0) f2 ∗ wpt c (row M 3 inb_S16x1x1152_S1x1x1152_3_0_0) f3 ∗ wpt c (row M 4 inb_S16x1x1152_S1x1x1152_4_0_0) f4 ∗ wpt c (row M 5 inb_S16x1x1152_S1x1x1152_5_0_0) f5 ∗ wpt c (row M 6 inb_S16x1x1152_S1x1x1152_6_0_0) f6 ∗ wpt c (row M 7 inb_S16x1x1152_S1x1x1152_7_0_0) f7 ∗ wpt c (row M 8 inb_S16x1x1152_S1x1x1152_8_0_0) f8 ∗ wpt c (row M 9 inb_S16x1x1152_S1x1x1152_9_0_0) f9 ∗ wpt c (row M 10 inb_S16x1x1152_S1x1x1152_10_0_0) f10 ∗ wpt c (row M 11 inb_S16x1x1152_S1x1x1152_11_0_0) f11 ∗ wpt c (row M 12 inb_S16x1x1152_S1x1x1152_12_0_0) f12 ∗ wpt c (row M 13 inb_S16x1x1152_S1x1x1152_13_0_0) f13 ∗ wpt c (row M 14 inb_S16x1x1152_S1x1x1152_14_0_0) f14 ∗ wpt c (row M 15 inb_S16x1x1152_S1x1x1152_15_0_0) f15)
      ∗ M.view.loc (c : Thread nD τ) ↦[restOf (ℓ := M.view.loc (c : Thread nD τ)) (sRow M)]{fullShare} f) : sProp 𝕄)
    ⊢ ∃ g : Bf (F := F) c M, pt c M g :=
  sRow_join c M ![f0, f1, f2, f3, f4, f5, f6, f7, f8, f9, f10, f11, f12, f13, f14, f15] f

/-! ## What the results hold at the end -/

def endOut (c : Dev nD) (faLen : Bf (F := F) c aLen) (faX : Bf (F := F) c aX) (faKn : Bf (F := F) c aKn) (faVn : Bf (F := F) c aVn) (faCk : Bf (F := F) c aCk) (faCv : Bf (F := F) c aCv) (faCks : Bf (F := F) c aCks) (faCvs : Bf (F := F) c aCvs) (fsLen : Bf (F := F) c sLen) (fsX : Bf (F := F) c sX) (fsKn : Bf (F := F) c sKn) (fsVn : Bf (F := F) c sVn) (fsOut : Bf (F := F) c sOut) (frOut : Bf (F := F) c rOut) : Bf (F := F) c rOut :=
  View.write (Elt F) rOut.view frOut (s7.sl.dma14 c faLen faX faKn faVn faCk faCv faCks faCvs fsLen fsX fsKn fsVn fsOut (s1.sl.r c faLen fsLen) (s1.sl.r_1 c faLen fsLen) (s1.sl.r_2 c faLen fsLen) (s1.sl.r_3 c faLen fsLen) (s1.sl.r_4 c faLen fsLen) (s1.sl.r_5 c faLen fsLen) (s1.sl.r_6 c faLen fsLen) (s1.sl.r_7 c faLen fsLen) (s1.sl.r_8 c faLen fsLen) (s1.sl.r_9 c faLen fsLen) (s1.sl.r_10 c faLen fsLen) (s1.sl.r_11 c faLen fsLen) (s1.sl.r_12 c faLen fsLen) (s1.sl.r_13 c faLen fsLen) (s1.sl.r_14 c faLen fsLen) (s1.sl.r_15 c faLen fsLen)) Finset.univ

def endKc (c : Dev nD) (faKn : Bf (F := F) c aKn) (fsKn : Bf (F := F) c sKn) (fsKc : Bf (F := F) c sKc) (frKc : Bf (F := F) c rKc) : Bf (F := F) c rKc :=
  View.write (Elt F) rKc.view frKc (s2.sl.dma0 c faKn fsKn fsKc) Finset.univ

def endKs (c : Dev nD) (faKn : Bf (F := F) c aKn) (fsKn : Bf (F := F) c sKn) (fsKrow : Bf (F := F) c sKrow) (frKs : Bf (F := F) c rKs) : Bf (F := F) c rKs :=
  View.write (Elt F) rKs.view frKs (s2.sl.dma0_1 c faKn fsKn fsKrow) Finset.univ

def endVc (c : Dev nD) (faVn : Bf (F := F) c aVn) (fsVn : Bf (F := F) c sVn) (fsVc : Bf (F := F) c sVc) (frVc : Bf (F := F) c rVc) : Bf (F := F) c rVc :=
  View.write (Elt F) rVc.view frVc (s2.sl.dma0_2 c faVn fsVn fsVc) Finset.univ

def endVs (c : Dev nD) (faVn : Bf (F := F) c aVn) (fsVn : Bf (F := F) c sVn) (fsVrow : Bf (F := F) c sVrow) (frVs : Bf (F := F) c rVs) : Bf (F := F) c rVs :=
  View.write (Elt F) rVs.view frVs (s2.sl.dma0_3 c faVn fsVn fsVrow) Finset.univ

/-! ## The run -/

theorem body_run (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)

    (W : Waits sig Unit) (K : PUnit → sProp 𝕄) :
    (iprop(pt c aLen faLen ∗ pt c aX faX ∗ pt c aKn faKn ∗ pt c aVn faVn ∗ pt c aCk faCk ∗ pt c aCv faCv ∗
    pt c aCks faCks ∗ pt c aCvs faCvs ∗ pt c rOut frOut ∗ pt c rKc frKc ∗ pt c rKs frKs ∗ pt c rVc frVc ∗
    pt c rVs frVs ∗ pt c sLen fsLen ∗ pt c sX fsX ∗ pt c sKn fsKn ∗ pt c sVn fsVn ∗ pt c sK fsK ∗ pt c sV fsV ∗
    pt c sKs fsKs ∗ pt c sVs fsVs ∗ pt c sOut fsOut ∗ pt c sKc fsKc ∗ pt c sKrow fsKrow ∗ pt c sVc fsVc ∗
    pt c sVrow fsVrow ∗ pt c sKf fsKf ∗ pt c sKb fsKb ∗ pt c sVf fsVf ∗ pt c sVb fsVb ∗
    semVal ((c : Thread nD τ), SemLoc.dma 0) 0 ∗ semVal ((c : Thread nD τ), SemLoc.dma 1) 0 ∗
    semVal ((c : Thread nD τ), SemLoc.dma 2) 0 ∗ semVal ((c : Thread nD τ), SemLoc.dma 3) 0 ∗
    semVal ((c : Thread nD τ), SemLoc.dma 4) 0 ∗ semVal ((c : Thread nD τ), SemLoc.dma 5) 0 ∗
    semVal ((c : Thread nD τ), SemLoc.dma 6) 0 ∗ semVal ((c : Thread nD τ), SemLoc.dma 7) 0 ∗
    semVal ((c : Thread nD τ), SemLoc.dma 8) 0 ∗ semVal ((c : Thread nD τ), SemLoc.dma 9) 0 ∗
    semVal ((c : Thread nD τ), SemLoc.dma 10) 0 ∗ semVal ((c : Thread nD τ), SemLoc.dma 11) 0 ∗
    semVal ((c : Thread nD τ), SemLoc.dma 12) 0 ∗ semVal ((c : Thread nD τ), SemLoc.dma 13) 0 ∗
    semVal ((c : Thread nD τ), SemLoc.dma 14) 0 ∗ semVal ((c : Thread nD τ), SemLoc.dma 15) 0 ∗
    semVal ((c : Thread nD τ), SemLoc.dma 16) 0 ∗ semVal ((c : Thread nD τ), SemLoc.dma 17) 0 ∗
    semVal ((c : Thread nD τ), SemLoc.dma 18) 0 ∗ semVal ((c : Thread nD τ), SemLoc.dma 19) 0 ∗
    semVal ((c : Thread nD τ), SemLoc.dma 20) 0 ∗ semVal ((c : Thread nD τ), SemLoc.dma 21) 0 ∗
    semVal ((c : Thread nD τ), SemLoc.dma 22) 0 ∗ semVal ((c : Thread nD τ), SemLoc.dma 23) 0 ∗
    semVal ((c : Thread nD τ), SemLoc.dma 24) 0 ∗ semVal ((c : Thread nD τ), SemLoc.dma 25) 0 ∗
    semVal ((c : Thread nD τ), SemLoc.dma 26) 0 ∗ semVal ((c : Thread nD τ), SemLoc.dma 27) 0 ∗
    semVal ((c : Thread nD τ), SemLoc.dma 28) 0 ∗ semVal ((c : Thread nD τ), SemLoc.dma 29) 0 ∗
    semVal ((c : Thread nD τ), SemLoc.dma 30) 0 ∗ semVal ((c : Thread nD τ), SemLoc.dma 31) 0 ∗
    semVal ((c : Thread nD τ), SemLoc.dma 32) 0 ∗ semVal ((c : Thread nD τ), SemLoc.dma 33) 0 ∗
    semVal ((c : Thread nD τ), SemLoc.dma 34) 0 ∗ semVal ((c : Thread nD τ), SemLoc.dma 35) 0 ∗
    semVal ((c : Thread nD τ), SemLoc.dma 36) 0 ∗ semVal ((c : Thread nD τ), SemLoc.dma 37) 0 ∗
    semVal ((c : Thread nD τ), SemLoc.dma 38) 0 ∗ semVal ((c : Thread nD τ), SemLoc.dma 39) 0 ∗
    semVal ((c : Thread nD τ), SemLoc.dma 40) 0 ∗ owes (c : Thread nD τ) 0 W
    ∗ ((pt c aLen faLen ∗ pt c aX faX ∗ pt c aKn faKn ∗ pt c aVn faVn ∗ pt c aCk faCk ∗ pt c aCv faCv ∗ pt c aCks faCks ∗ pt c aCvs faCvs ∗ pt c rOut (endOut c faLen faX faKn faVn faCk faCv faCks faCvs fsLen fsX fsKn fsVn fsOut frOut) ∗ pt c rKc (endKc c faKn fsKn fsKc frKc) ∗ pt c rKs (endKs c faKn fsKn fsKrow frKs) ∗ pt c rVc (endVc c faVn fsVn fsVc frVc) ∗ pt c rVs (endVs c faVn fsVn fsVrow frVs) ∗ (∃ f : Bf (F := F) c sLen, pt c sLen f) ∗ (∃ f : Bf (F := F) c sX, pt c sX f) ∗ (∃ f : Bf (F := F) c sKn, pt c sKn f) ∗ (∃ f : Bf (F := F) c sVn, pt c sVn f) ∗ (∃ f : Bf (F := F) c sK, pt c sK f) ∗ (∃ f : Bf (F := F) c sV, pt c sV f) ∗ (∃ f : Bf (F := F) c sKs, pt c sKs f) ∗ (∃ f : Bf (F := F) c sVs, pt c sVs f) ∗ (∃ f : Bf (F := F) c sOut, pt c sOut f) ∗ (∃ f : Bf (F := F) c sKc, pt c sKc f) ∗ (∃ f : Bf (F := F) c sKrow, pt c sKrow f) ∗ (∃ f : Bf (F := F) c sVc, pt c sVc f) ∗ (∃ f : Bf (F := F) c sVrow, pt c sVrow f) ∗ (∃ f : Bf (F := F) c sKf, pt c sKf f) ∗ (∃ f : Bf (F := F) c sKb, pt c sKb f) ∗ (∃ f : Bf (F := F) c sVf, pt c sVf f) ∗ (∃ f : Bf (F := F) c sVb, pt c sVb f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ (∃ W' : Waits sig Unit, owes (c : Thread nD τ) 0 W'))
      -∗ K PUnit.unit)) : sProp 𝕄) ⊢
    wp frame (wpE (defs₀ (F := F)) Variants.none c none) Set.univ
    (cc0_window_decode aLen (Memref.isWhole_whole _) aX (Memref.isWhole_whole _) aKn (Memref.isWhole_whole _) aVn (Memref.isWhole_whole _) aCk (Memref.isWhole_whole _) aCv (Memref.isWhole_whole _) aCks (Memref.isWhole_whole _) aCvs (Memref.isWhole_whole _) rOut (Memref.isWhole_whole _) rKc (Memref.isWhole_whole _) rKs (Memref.isWhole_whole _) rVc (Memref.isWhole_whole _) rVs (Memref.isWhole_whole _) sLen (Memref.isWhole_whole _) sX (Memref.isWhole_whole _) sKn (Memref.isWhole_whole _) sVn (Memref.isWhole_whole _) sK (Memref.isWhole_whole _) sV (Memref.isWhole_whole _) sKs (Memref.isWhole_whole _) sVs (Memref.isWhole_whole _) sOut (Memref.isWhole_whole _) sKc (Memref.isWhole_whole _) sKrow (Memref.isWhole_whole _) sVc (Memref.isWhole_whole _) sVrow (Memref.isWhole_whole _) sKf (Memref.isWhole_whole _) sKb (Memref.isWhole_whole _) sVf (Memref.isWhole_whole _) sVb (Memref.isWhole_whole _)
    cc0_scoped0 cc0_scoped1 cc0_scoped2 cc0_scoped3 cc0_scoped4) K := by
  refine ((s1 c faLen faX faKn faVn faCk faCv faCks faCvs frOut frKc frKs frVc frVs fsLen fsX fsKn fsVn fsK fsV fsKs fsVs fsOut fsKc fsKrow fsVc fsVrow fsKf fsKb fsVf fsVb W _ K).2 ((s2 c faLen faX faKn faVn faCk faCv faCks faCvs frOut frKc frKs frVc frVs fsLen fsX fsKn fsVn fsK fsV fsKs fsVs fsOut fsKc fsKrow fsVc fsVrow fsKf fsKb fsVf fsVb W _ K).2 ((s3 c faLen faX faKn faVn faCk faCv faCks faCvs frOut frKc frKs frVc frVs fsLen fsX fsKn fsVn fsK fsV fsKs fsVs fsOut fsKc fsKrow fsVc fsVrow fsKf fsKb fsVf fsVb W _ K).2 ((s4 c faLen faX faKn faVn faCk faCv faCks faCvs frOut frKc frKs frVc frVs fsLen fsX fsKn fsVn fsK fsV fsKs fsVs fsOut fsKc fsKrow fsVc fsVrow fsKf fsKb fsVf fsVb W _ K).2 ((s5 c faLen faX faKn faVn faCk faCv faCks faCvs frOut frKc frKs frVc frVs fsLen fsX fsKn fsVn fsK fsV fsKs fsVs fsOut fsKc fsKrow fsVc fsVrow fsKf fsKb fsVf fsVb W _ K).2 ((s6 c faLen faX faKn faVn faCk faCv faCks faCvs frOut frKc frKs frVc frVs fsLen fsX fsKn fsVn fsK fsV fsKs fsVs fsOut fsKc fsKrow fsVc fsVrow fsKf fsKb fsVf fsVb W _ K).2 ((s7 c faLen faX faKn faVn faCk faCv faCks faCvs frOut frKc frKs frVc frVs fsLen fsX fsKn fsVn fsK fsV fsKs fsVs fsOut fsKc fsKrow fsVc fsVrow fsKf fsKb fsVf fsVb W _ K).2 ?_)))))))
  sl_resume
  sl_exec_parts
  sl_step
  subst hw0 hw1 hw2 hw3 hw4 hw5 hw6 hw7 hw8 hw9 hw10 hw11 hw12 hw13 hw14 hw15
  iapply HR
  isplitl [HaLen]; · iexact HaLen
  isplitl [HaX]; · iexact HaX
  isplitl [HaKn]; · iexact HaKn
  isplitl [HaVn]; · iexact HaVn
  isplitl [HBk0_src0 HBk1_src0 HBk2_src0 HBk3_src0 HBk4_src0 HBk5_src0 HBk6_src0 HBk7_src0 HBk8_src0 HBk9_src0 HBk10_src0 HBk11_src0 HBk12_src0 HBk13_src0 HBk14_src0 HBk15_src0 HRaCk]
  · iapply (kWin_pieces c aCk _ _ _ _ _ _ _ _ _ _ _ _ _ _ _ _ faCk).2
    isplitr [HRaCk]
    · isplitl [HBk0_src0]; · iexact HBk0_src0
      isplitl [HBk1_src0]; · iexact HBk1_src0
      isplitl [HBk2_src0]; · iexact HBk2_src0
      isplitl [HBk3_src0]; · iexact HBk3_src0
      isplitl [HBk4_src0]; · iexact HBk4_src0
      isplitl [HBk5_src0]; · iexact HBk5_src0
      isplitl [HBk6_src0]; · iexact HBk6_src0
      isplitl [HBk7_src0]; · iexact HBk7_src0
      isplitl [HBk8_src0]; · iexact HBk8_src0
      isplitl [HBk9_src0]; · iexact HBk9_src0
      isplitl [HBk10_src0]; · iexact HBk10_src0
      isplitl [HBk11_src0]; · iexact HBk11_src0
      isplitl [HBk12_src0]; · iexact HBk12_src0
      isplitl [HBk13_src0]; · iexact HBk13_src0
      isplitl [HBk14_src0]; · iexact HBk14_src0
      iexact HBk15_src0
    · iexact HRaCk
  isplitl [HBv0_src0 HBv1_src0 HBv2_src0 HBv3_src0 HBv4_src0 HBv5_src0 HBv6_src0 HBv7_src0 HBv8_src0 HBv9_src0 HBv10_src0 HBv11_src0 HBv12_src0 HBv13_src0 HBv14_src0 HBv15_src0 HRaCv]
  · iapply (kWin_pieces c aCv _ _ _ _ _ _ _ _ _ _ _ _ _ _ _ _ faCv).2
    isplitr [HRaCv]
    · isplitl [HBv0_src0]; · iexact HBv0_src0
      isplitl [HBv1_src0]; · iexact HBv1_src0
      isplitl [HBv2_src0]; · iexact HBv2_src0
      isplitl [HBv3_src0]; · iexact HBv3_src0
      isplitl [HBv4_src0]; · iexact HBv4_src0
      isplitl [HBv5_src0]; · iexact HBv5_src0
      isplitl [HBv6_src0]; · iexact HBv6_src0
      isplitl [HBv7_src0]; · iexact HBv7_src0
      isplitl [HBv8_src0]; · iexact HBv8_src0
      isplitl [HBv9_src0]; · iexact HBv9_src0
      isplitl [HBv10_src0]; · iexact HBv10_src0
      isplitl [HBv11_src0]; · iexact HBv11_src0
      isplitl [HBv12_src0]; · iexact HBv12_src0
      isplitl [HBv13_src0]; · iexact HBv13_src0
      isplitl [HBv14_src0]; · iexact HBv14_src0
      iexact HBv15_src0
    · iexact HRaCv
  isplitl [HBk0_src1 HBk1_src1 HBk2_src1 HBk3_src1 HBk4_src1 HBk5_src1 HBk6_src1 HBk7_src1 HBk8_src1 HBk9_src1 HBk10_src1 HBk11_src1 HBk12_src1 HBk13_src1 HBk14_src1 HBk15_src1 HRaCks]
  · iapply (sWin_pieces c aCks _ _ _ _ _ _ _ _ _ _ _ _ _ _ _ _ faCks).2
    isplitr [HRaCks]
    · isplitl [HBk0_src1]; · iexact HBk0_src1
      isplitl [HBk1_src1]; · iexact HBk1_src1
      isplitl [HBk2_src1]; · iexact HBk2_src1
      isplitl [HBk3_src1]; · iexact HBk3_src1
      isplitl [HBk4_src1]; · iexact HBk4_src1
      isplitl [HBk5_src1]; · iexact HBk5_src1
      isplitl [HBk6_src1]; · iexact HBk6_src1
      isplitl [HBk7_src1]; · iexact HBk7_src1
      isplitl [HBk8_src1]; · iexact HBk8_src1
      isplitl [HBk9_src1]; · iexact HBk9_src1
      isplitl [HBk10_src1]; · iexact HBk10_src1
      isplitl [HBk11_src1]; · iexact HBk11_src1
      isplitl [HBk12_src1]; · iexact HBk12_src1
      isplitl [HBk13_src1]; · iexact HBk13_src1
      isplitl [HBk14_src1]; · iexact HBk14_src1
      iexact HBk15_src1
    · iexact HRaCks
  isplitl [HBv0_src1 HBv1_src1 HBv2_src1 HBv3_src1 HBv4_src1 HBv5_src1 HBv6_src1 HBv7_src1 HBv8_src1 HBv9_src1 HBv10_src1 HBv11_src1 HBv12_src1 HBv13_src1 HBv14_src1 HBv15_src1 HRaCvs]
  · iapply (sWin_pieces c aCvs _ _ _ _ _ _ _ _ _ _ _ _ _ _ _ _ faCvs).2
    isplitr [HRaCvs]
    · isplitl [HBv0_src1]; · iexact HBv0_src1
      isplitl [HBv1_src1]; · iexact HBv1_src1
      isplitl [HBv2_src1]; · iexact HBv2_src1
      isplitl [HBv3_src1]; · iexact HBv3_src1
      isplitl [HBv4_src1]; · iexact HBv4_src1
      isplitl [HBv5_src1]; · iexact HBv5_src1
      isplitl [HBv6_src1]; · iexact HBv6_src1
      isplitl [HBv7_src1]; · iexact HBv7_src1
      isplitl [HBv8_src1]; · iexact HBv8_src1
      isplitl [HBv9_src1]; · iexact HBv9_src1
      isplitl [HBv10_src1]; · iexact HBv10_src1
      isplitl [HBv11_src1]; · iexact HBv11_src1
      isplitl [HBv12_src1]; · iexact HBv12_src1
      isplitl [HBv13_src1]; · iexact HBv13_src1
      isplitl [HBv14_src1]; · iexact HBv14_src1
      iexact HBv15_src1
    · iexact HRaCvs
  isplitl [HrOut]; · iexact HrOut
  isplitl [HrKc]; · iexact HrKc
  isplitl [HrKs]; · iexact HrKs
  isplitl [HrVc]; · iexact HrVc
  isplitl [HrVs]; · iexact HrVs
  isplitl [HsLen]; · iexists _; iexact HsLen
  isplitl [HsX]; · iexists _; iexact HsX
  isplitl [HsKn]; · iexists _; iexact HsKn
  isplitl [HsVn]; · iexists _; iexact HsVn
  isplitl [HBk0_dst0 HBk1_dst0 HBk2_dst0 HBk3_dst0 HBk4_dst0 HBk5_dst0 HBk6_dst0 HBk7_dst0 HBk8_dst0 HBk9_dst0 HBk10_dst0 HBk11_dst0 HBk12_dst0 HBk13_dst0 HBk14_dst0 HBk15_dst0 HRsK]
  · iapply (kSlab_whole c sK _ _ _ _ _ _ _ _ _ _ _ _ _ _ _ _ _)
    isplitr [HRsK]
    · isplitl [HBk0_dst0]; · iexact HBk0_dst0
      isplitl [HBk1_dst0]; · iexact HBk1_dst0
      isplitl [HBk2_dst0]; · iexact HBk2_dst0
      isplitl [HBk3_dst0]; · iexact HBk3_dst0
      isplitl [HBk4_dst0]; · iexact HBk4_dst0
      isplitl [HBk5_dst0]; · iexact HBk5_dst0
      isplitl [HBk6_dst0]; · iexact HBk6_dst0
      isplitl [HBk7_dst0]; · iexact HBk7_dst0
      isplitl [HBk8_dst0]; · iexact HBk8_dst0
      isplitl [HBk9_dst0]; · iexact HBk9_dst0
      isplitl [HBk10_dst0]; · iexact HBk10_dst0
      isplitl [HBk11_dst0]; · iexact HBk11_dst0
      isplitl [HBk12_dst0]; · iexact HBk12_dst0
      isplitl [HBk13_dst0]; · iexact HBk13_dst0
      isplitl [HBk14_dst0]; · iexact HBk14_dst0
      iexact HBk15_dst0
    · iexact HRsK
  isplitl [HBv0_dst0 HBv1_dst0 HBv2_dst0 HBv3_dst0 HBv4_dst0 HBv5_dst0 HBv6_dst0 HBv7_dst0 HBv8_dst0 HBv9_dst0 HBv10_dst0 HBv11_dst0 HBv12_dst0 HBv13_dst0 HBv14_dst0 HBv15_dst0 HRsV]
  · iapply (kSlab_whole c sV _ _ _ _ _ _ _ _ _ _ _ _ _ _ _ _ _)
    isplitr [HRsV]
    · isplitl [HBv0_dst0]; · iexact HBv0_dst0
      isplitl [HBv1_dst0]; · iexact HBv1_dst0
      isplitl [HBv2_dst0]; · iexact HBv2_dst0
      isplitl [HBv3_dst0]; · iexact HBv3_dst0
      isplitl [HBv4_dst0]; · iexact HBv4_dst0
      isplitl [HBv5_dst0]; · iexact HBv5_dst0
      isplitl [HBv6_dst0]; · iexact HBv6_dst0
      isplitl [HBv7_dst0]; · iexact HBv7_dst0
      isplitl [HBv8_dst0]; · iexact HBv8_dst0
      isplitl [HBv9_dst0]; · iexact HBv9_dst0
      isplitl [HBv10_dst0]; · iexact HBv10_dst0
      isplitl [HBv11_dst0]; · iexact HBv11_dst0
      isplitl [HBv12_dst0]; · iexact HBv12_dst0
      isplitl [HBv13_dst0]; · iexact HBv13_dst0
      isplitl [HBv14_dst0]; · iexact HBv14_dst0
      iexact HBv15_dst0
    · iexact HRsV
  isplitl [HBk0_dst1 HBk1_dst1 HBk2_dst1 HBk3_dst1 HBk4_dst1 HBk5_dst1 HBk6_dst1 HBk7_dst1 HBk8_dst1 HBk9_dst1 HBk10_dst1 HBk11_dst1 HBk12_dst1 HBk13_dst1 HBk14_dst1 HBk15_dst1 HRsKs]
  · iapply (sRow_whole c sKs _ _ _ _ _ _ _ _ _ _ _ _ _ _ _ _ _)
    isplitr [HRsKs]
    · isplitl [HBk0_dst1]; · iexact HBk0_dst1
      isplitl [HBk1_dst1]; · iexact HBk1_dst1
      isplitl [HBk2_dst1]; · iexact HBk2_dst1
      isplitl [HBk3_dst1]; · iexact HBk3_dst1
      isplitl [HBk4_dst1]; · iexact HBk4_dst1
      isplitl [HBk5_dst1]; · iexact HBk5_dst1
      isplitl [HBk6_dst1]; · iexact HBk6_dst1
      isplitl [HBk7_dst1]; · iexact HBk7_dst1
      isplitl [HBk8_dst1]; · iexact HBk8_dst1
      isplitl [HBk9_dst1]; · iexact HBk9_dst1
      isplitl [HBk10_dst1]; · iexact HBk10_dst1
      isplitl [HBk11_dst1]; · iexact HBk11_dst1
      isplitl [HBk12_dst1]; · iexact HBk12_dst1
      isplitl [HBk13_dst1]; · iexact HBk13_dst1
      isplitl [HBk14_dst1]; · iexact HBk14_dst1
      iexact HBk15_dst1
    · iexact HRsKs
  isplitl [HBv0_dst1 HBv1_dst1 HBv2_dst1 HBv3_dst1 HBv4_dst1 HBv5_dst1 HBv6_dst1 HBv7_dst1 HBv8_dst1 HBv9_dst1 HBv10_dst1 HBv11_dst1 HBv12_dst1 HBv13_dst1 HBv14_dst1 HBv15_dst1 HRsVs]
  · iapply (sRow_whole c sVs _ _ _ _ _ _ _ _ _ _ _ _ _ _ _ _ _)
    isplitr [HRsVs]
    · isplitl [HBv0_dst1]; · iexact HBv0_dst1
      isplitl [HBv1_dst1]; · iexact HBv1_dst1
      isplitl [HBv2_dst1]; · iexact HBv2_dst1
      isplitl [HBv3_dst1]; · iexact HBv3_dst1
      isplitl [HBv4_dst1]; · iexact HBv4_dst1
      isplitl [HBv5_dst1]; · iexact HBv5_dst1
      isplitl [HBv6_dst1]; · iexact HBv6_dst1
      isplitl [HBv7_dst1]; · iexact HBv7_dst1
      isplitl [HBv8_dst1]; · iexact HBv8_dst1
      isplitl [HBv9_dst1]; · iexact HBv9_dst1
      isplitl [HBv10_dst1]; · iexact HBv10_dst1
      isplitl [HBv11_dst1]; · iexact HBv11_dst1
      isplitl [HBv12_dst1]; · iexact HBv12_dst1
      isplitl [HBv13_dst1]; · iexact HBv13_dst1
      isplitl [HBv14_dst1]; · iexact HBv14_dst1
      iexact HBv15_dst1
    · iexact HRsVs
  isplitl [HsOut]; · iexists _; iexact HsOut
  isplitl [HsKc]; · iexists _; iexact HsKc
  isplitl [HsKrow]; · iexists _; iexact HsKrow
  isplitl [HsVc]; · iexists _; iexact HsVc
  isplitl [HsVrow]; · iexists _; iexact HsVrow
  isplitl [HsKf]; · iexists _; iexact HsKf
  isplitl [HsKb]; · iexists _; iexact HsKb
  isplitl [HsVf]; · iexists _; iexact HsVf
  isplitl [HsVb]; · iexists _; iexact HsVb
  isplitl [Hq0]; · iexact Hq0
  isplitl [Hq1]; · iexact Hq1
  isplitl [Hq2]; · iexact Hq2
  isplitl [Hq3]; · iexact Hq3
  isplitl [HBk0]; · iexact HBk0
  isplitl [HBk1]; · iexact HBk1
  isplitl [HBk2]; · iexact HBk2
  isplitl [HBk3]; · iexact HBk3
  isplitl [HBk4]; · iexact HBk4
  isplitl [HBk5]; · iexact HBk5
  isplitl [HBk6]; · iexact HBk6
  isplitl [HBk7]; · iexact HBk7
  isplitl [HBk8]; · iexact HBk8
  isplitl [HBk9]; · iexact HBk9
  isplitl [HBk10]; · iexact HBk10
  isplitl [HBk11]; · iexact HBk11
  isplitl [HBk12]; · iexact HBk12
  isplitl [HBk13]; · iexact HBk13
  isplitl [HBk14]; · iexact HBk14
  isplitl [HBk15]; · iexact HBk15
  isplitl [HBv0]; · iexact HBv0
  isplitl [HBv1]; · iexact HBv1
  isplitl [HBv2]; · iexact HBv2
  isplitl [HBv3]; · iexact HBv3
  isplitl [HBv4]; · iexact HBv4
  isplitl [HBv5]; · iexact HBv5
  isplitl [HBv6]; · iexact HBv6
  isplitl [HBv7]; · iexact HBv7
  isplitl [HBv8]; · iexact HBv8
  isplitl [HBv9]; · iexact HBv9
  isplitl [HBv10]; · iexact HBv10
  isplitl [HBv11]; · iexact HBv11
  isplitl [HBv12]; · iexact HBv12
  isplitl [HBv13]; · iexact HBv13
  isplitl [HBv14]; · iexact HBv14
  isplitl [HBv15]; · iexact HBv15
  isplitl [Hq36]; · iexact Hq36
  isplitl [Hq37]; · iexact Hq37
  isplitl [Hq38]; · iexact Hq38
  isplitl [Hq39]; · iexact Hq39
  isplitl [Hq40]; · iexact Hq40
  iexists _; iexact HW

end Cert.Kernel.Hand
-- ==== Proof.FrameK.lean ====
/-
  The frame of the decode kernel: it terminates, nothing faults, its arguments come back as they went in and every
  semaphore ends at zero.  The kernel is called once, on operands left in HBM; its own copies read seven staged arguments
  and the length word, and write the five results.
-/
module

public import proofs.«01_k».proof.Proof.RunK8
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands and the cells the region lends the body -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The forty-one transfer cells of the body. -/
abbrev osem0 : Fin 41 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The operands the body only reads. -/
def H0 : Finset (Ref sig .tc) := {main_arg7, main_v0, main_v1, main_v2, main_v3, main_v4, main_v5, main_v6}
theorem H0_sub : H0 ⊆ Pipeline.restRefs sig (cfg0.spec) := by decide
theorem hbmPts0_eq (c : Dev nD) :
    (bigSep H0 (fun b => ((c : Thread nD τ).loc b) ↦{fullShare} V m c b) : sProp 𝕄)
      = iprop(pt c aLen (V m c main_arg7) ∗ pt c aX (V m c main_v0) ∗ pt c aKn (V m c main_v1) ∗ pt c aVn (V m c main_v2) ∗ pt c aCk (V m c main_v3) ∗ pt c aCv (V m c main_v4) ∗ pt c aCks (V m c main_v5) ∗ pt c aCvs (V m c main_v6)) := by
  rw [BI.bigSep_eq_bigSepL_of_eq [main_arg7, main_v0, main_v1, main_v2, main_v3, main_v4, main_v5, main_v6] (by decide) (by decide)]; rfl

/-- The results the body writes. -/
def R0 : Finset (Ref sig .tc) := {main_v7_0, main_v7_1, main_v7_2, main_v7_3, main_v7_4}
theorem R0_sub : R0 ⊆ Pipeline.restRefs sig (cfg0.spec) \ H0 := by decide
theorem ownedPts0_eq (c : Dev nD) :
    (Pipeline.owned R0 c : sProp 𝕄)
      = iprop((∃ f : Bf (F := F) c rOut, pt c rOut f) ∗ (∃ f : Bf (F := F) c rKc, pt c rKc f) ∗ (∃ f : Bf (F := F) c rKs, pt c rKs f) ∗ (∃ f : Bf (F := F) c rVc, pt c rVc f) ∗ (∃ f : Bf (F := F) c rVs, pt c rVs f)) := by
  unfold Pipeline.owned; rw [BI.bigSep_eq_bigSepL_of_eq [main_v7_0, main_v7_1, main_v7_2, main_v7_3, main_v7_4] (by decide) (by decide)]; rfl

/-- The scratch buffers, each at some contents. -/
theorem scoped0_eq (c : Dev nD) :
    (Pipeline.scopedRest (Ix := Unit) (Name := ℕ) (U := Pipeline.UD sig nD τ) (Lvl := ℕ) (Val := Elt F) (cfg0.spec) c : sProp 𝕄)
      = iprop((∃ f : Bf (F := F) c sX, pt c sX f) ∗ (∃ f : Bf (F := F) c sKn, pt c sKn f) ∗ (∃ f : Bf (F := F) c sVn, pt c sVn f) ∗ (∃ f : Bf (F := F) c sK, pt c sK f) ∗ (∃ f : Bf (F := F) c sV, pt c sV f) ∗ (∃ f : Bf (F := F) c sKs, pt c sKs f) ∗ (∃ f : Bf (F := F) c sVs, pt c sVs f) ∗ (∃ f : Bf (F := F) c sOut, pt c sOut f) ∗ (∃ f : Bf (F := F) c sKc, pt c sKc f) ∗ (∃ f : Bf (F := F) c sKrow, pt c sKrow f) ∗ (∃ f : Bf (F := F) c sVc, pt c sVc f) ∗ (∃ f : Bf (F := F) c sVrow, pt c sVrow f) ∗ (∃ f : Bf (F := F) c sKf, pt c sKf f) ∗ (∃ f : Bf (F := F) c sKb, pt c sKb f) ∗ (∃ f : Bf (F := F) c sVf, pt c sVf f) ∗ (∃ f : Bf (F := F) c sVb, pt c sVb f) ∗ (∃ f : Bf (F := F) c sLen, pt c sLen f)) := by
  rw [scopedRest0_eq]

/-- Everything the body is lent, in one row. -/
def lent (c : Dev nD) : sProp 𝕄 :=
  iprop(iprop((∃ f : Bf (F := F) c sX, pt c sX f) ∗ (∃ f : Bf (F := F) c sKn, pt c sKn f) ∗ (∃ f : Bf (F := F) c sVn, pt c sVn f) ∗ (∃ f : Bf (F := F) c sK, pt c sK f) ∗ (∃ f : Bf (F := F) c sV, pt c sV f) ∗ (∃ f : Bf (F := F) c sKs, pt c sKs f) ∗ (∃ f : Bf (F := F) c sVs, pt c sVs f) ∗ (∃ f : Bf (F := F) c sOut, pt c sOut f) ∗ (∃ f : Bf (F := F) c sKc, pt c sKc f) ∗ (∃ f : Bf (F := F) c sKrow, pt c sKrow f) ∗ (∃ f : Bf (F := F) c sVc, pt c sVc f) ∗ (∃ f : Bf (F := F) c sVrow, pt c sVrow f) ∗ (∃ f : Bf (F := F) c sKf, pt c sKf f) ∗ (∃ f : Bf (F := F) c sKb, pt c sKb f) ∗ (∃ f : Bf (F := F) c sVf, pt c sVf f) ∗ (∃ f : Bf (F := F) c sVb, pt c sVb f) ∗ (∃ f : Bf (F := F) c sLen, pt c sLen f))
    ∗ (∃ r, prngReg c r)
    ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
    ∗ iprop(pt c aLen (V m c main_arg7) ∗ pt c aX (V m c main_v0) ∗ pt c aKn (V m c main_v1) ∗ pt c aVn (V m c main_v2) ∗ pt c aCk (V m c main_v3) ∗ pt c aCv (V m c main_v4) ∗ pt c aCks (V m c main_v5) ∗ pt c aCvs (V m c main_v6))
    ∗ iprop((∃ f : Bf (F := F) c rOut, pt c rOut f) ∗ (∃ f : Bf (F := F) c rKc, pt c rKc f) ∗ (∃ f : Bf (F := F) c rKs, pt c rKs f) ∗ (∃ f : Bf (F := F) c rVc, pt c rVc f) ∗ (∃ f : Bf (F := F) c rVs, pt c rVs f)))

theorem PhiDR0_eq (c : Dev nD) : (Pipeline.ΦDR osem0 (cfg0.spec) H0 R0 (V m) c : sProp 𝕄) = lent m c := by
  rw [Pipeline.ΦDR_eq, scoped0_eq, ownSems00_eq, hbmPts0_eq, ownedPts0_eq]; rfl

/-! ## The body obligation -/

def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by
  dsimp only [dats]

def bodyPre (c : Dev nD) (t : Fin cfg0.N) : sProp 𝕄 :=
  iprop((dats m 0 c).Φ t.castSucc ∗ (dats m 0 c).owesAt () t.castSucc ∗ (BI.emp : sProp 𝕄))
def bodyPost (c : Dev nD) (t : Fin cfg0.N) : sProp 𝕄 :=
  iprop((dats m 0 c).Φ t.succ ∗ (dats m 0 c).owesAt () t.succ ∗ (BI.emp : sProp 𝕄))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = lent m c from PhiDR0_eq m c, show (dats m 0 c).Φ t.castSucc = lent m c from PhiDR0_eq m c]
  unfold Dat.owesAt Pipeline.owesWithin lent
  rw [show (dats m 0 c).owed t.castSucc = 0 from rfl, show (dats m 0 c).owed t.succ = 0 from rfl]
  iintro ⟨⟨⟨⟨%fsX, HsX⟩, ⟨%fsKn, HsKn⟩, ⟨%fsVn, HsVn⟩, ⟨%fsK, HsK⟩, ⟨%fsV, HsV⟩, ⟨%fsKs, HsKs⟩, ⟨%fsVs, HsVs⟩, ⟨%fsOut, HsOut⟩, ⟨%fsKc, HsKc⟩, ⟨%fsKrow, HsKrow⟩, ⟨%fsVc, HsVc⟩, ⟨%fsVrow, HsVrow⟩, ⟨%fsKf, HsKf⟩, ⟨%fsKb, HsKb⟩, ⟨%fsVf, HsVf⟩, ⟨%fsVb, HsVb⟩, ⟨%fsLen, HsLen⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40⟩,
    ⟨HaLen, HaX, HaKn, HaVn, HaCk, HaCv, HaCks, HaCvs⟩, ⟨⟨%frOut, HrOut⟩, ⟨%frKc, HrKc⟩, ⟨%frKs, HrKs⟩, ⟨%frVc, HrVc⟩, ⟨%frVs, HrVs⟩⟩⟩, ⟨%W, -, HW⟩, -⟩
  iapply (body_run c (V m c main_arg7) (V m c main_v0) (V m c main_v1) (V m c main_v2) (V m c main_v3) (V m c main_v4) (V m c main_v5) (V m c main_v6) frOut frKc frKs frVc frVs fsLen fsX fsKn fsVn fsK fsV fsKs fsVs fsOut fsKc fsKrow fsVc fsVrow fsKf fsKb fsVf fsVb W _)
  isplitl [HaLen]; · iexact HaLen
  isplitl [HaX]; · iexact HaX
  isplitl [HaKn]; · iexact HaKn
  isplitl [HaVn]; · iexact HaVn
  isplitl [HaCk]; · iexact HaCk
  isplitl [HaCv]; · iexact HaCv
  isplitl [HaCks]; · iexact HaCks
  isplitl [HaCvs]; · iexact HaCvs
  isplitl [HrOut]; · iexact HrOut
  isplitl [HrKc]; · iexact HrKc
  isplitl [HrKs]; · iexact HrKs
  isplitl [HrVc]; · iexact HrVc
  isplitl [HrVs]; · iexact HrVs
  isplitl [HsLen]; · iexact HsLen
  isplitl [HsX]; · iexact HsX
  isplitl [HsKn]; · iexact HsKn
  isplitl [HsVn]; · iexact HsVn
  isplitl [HsK]; · iexact HsK
  isplitl [HsV]; · iexact HsV
  isplitl [HsKs]; · iexact HsKs
  isplitl [HsVs]; · iexact HsVs
  isplitl [HsOut]; · iexact HsOut
  isplitl [HsKc]; · iexact HsKc
  isplitl [HsKrow]; · iexact HsKrow
  isplitl [HsVc]; · iexact HsVc
  isplitl [HsVrow]; · iexact HsVrow
  isplitl [HsKf]; · iexact HsKf
  isplitl [HsKb]; · iexact HsKb
  isplitl [HsVf]; · iexact HsVf
  isplitl [HsVb]; · iexact HsVb
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [HW]; · iexact HW
  iintro ⟨HaLen, HaX, HaKn, HaVn, HaCk, HaCv, HaCks, HaCvs, HrOut, HrKc, HrKs, HrVc, HrVs, HsLen, HsX, HsKn, HsVn, HsK, HsV, HsKs, HsVs, HsOut, HsKc, HsKrow, HsVc, HsVrow, HsKf, HsKb, HsVf, HsVb, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, ⟨%W', HW'⟩⟩
  isplitr [HW']
  · isplitl [HsX HsKn HsVn HsK HsV HsKs HsVs HsOut HsKc HsKrow HsVc HsVrow HsKf HsKb HsVf HsVb HsLen]
    · isplitl [HsX]; · iexact HsX
      isplitl [HsKn]; · iexact HsKn
      isplitl [HsVn]; · iexact HsVn
      isplitl [HsK]; · iexact HsK
      isplitl [HsV]; · iexact HsV
      isplitl [HsKs]; · iexact HsKs
      isplitl [HsVs]; · iexact HsVs
      isplitl [HsOut]; · iexact HsOut
      isplitl [HsKc]; · iexact HsKc
      isplitl [HsKrow]; · iexact HsKrow
      isplitl [HsVc]; · iexact HsVc
      isplitl [HsVrow]; · iexact HsVrow
      isplitl [HsKf]; · iexact HsKf
      isplitl [HsKb]; · iexact HsKb
      isplitl [HsVf]; · iexact HsVf
      isplitl [HsVb]; · iexact HsVb
      iexact HsLen
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      iexact Hq40
    isplitl [HaLen HaX HaKn HaVn HaCk HaCv HaCks HaCvs]
    · isplitl [HaLen]; · iexact HaLen
      isplitl [HaX]; · iexact HaX
      isplitl [HaKn]; · iexact HaKn
      isplitl [HaVn]; · iexact HaVn
      isplitl [HaCk]; · iexact HaCk
      isplitl [HaCv]; · iexact HaCv
      isplitl [HaCks]; · iexact HaCks
      iexact HaCvs
    isplitl [HrOut]; · iexists _; iexact HrOut
    isplitl [HrKc]; · iexists _; iexact HrKc
    isplitl [HrKs]; · iexists _; iexact HrKs
    isplitl [HrVc]; · iexists _; iexact HrVc
    iexists _; iexact HrVs
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep_none (G : Fin 0 → sProp 𝕄) : bigSep Finset.univ G = (BI.emp : sProp 𝕄) := bigSep_univ_eq_bigSepL [] (by decide) (by decide) G

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end as they began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (Gen.V_main_arg0 m c),
      ((h.1 c).2 main_arg1 (Finset.mem_sdiff.mpr ⟨Pipeline.mem_restRefs_of main_arg1 (by decide) (by decide), by decide⟩)).trans (Gen.V_main_arg1 m c),
      ((h.1 c).2 main_arg2 (Finset.mem_sdiff.mpr ⟨Pipeline.mem_restRefs_of main_arg2 (by decide) (by decide), by decide⟩)).trans (Gen.V_main_arg2 m c),
      ((h.1 c).2 main_arg3 (Finset.mem_sdiff.mpr ⟨Pipeline.mem_restRefs_of main_arg3 (by decide) (by decide), by decide⟩)).trans (Gen.V_main_arg3 m c),
      ((h.1 c).2 main_arg4 (Finset.mem_sdiff.mpr ⟨Pipeline.mem_restRefs_of main_arg4 (by decide) (by decide), by decide⟩)).trans (Gen.V_main_arg4 m c),
      ((h.1 c).2 main_arg5 (Finset.mem_sdiff.mpr ⟨Pipeline.mem_restRefs_of main_arg5 (by decide) (by decide), by decide⟩)).trans (Gen.V_main_arg5 m c),
      ((h.1 c).2 main_arg6 (Finset.mem_sdiff.mpr ⟨Pipeline.mem_restRefs_of main_arg6 (by decide) (by decide), by decide⟩)).trans (Gen.V_main_arg6 m c),
      ((h.1 c).2 main_arg7 (Finset.mem_sdiff.mpr ⟨Pipeline.mem_restRefs_of main_arg7 (by decide) (by decide), by decide⟩)).trans (Gen.V_main_arg7 m c)⟩, h.2⟩) (run_main m ρ)

end Cert.Kernel.Hand
-- ==== Proof.OperandsI.lean ====
/-
  What the decode kernel's body works on, named once: its operands, its 41 DMA cells, the sixteen windows of the two caches
  and of their scales that it reads (one per sequence, at the row `Decode.first` of the sequence's length) and the sixteen
  slabs of scratch they land in.
-/
module

public import proofs.«01_k».proof.Proof.Gen.KernelIdeal.Frame
public import proofs.«01_k».proof.Proof.Words
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The operands -/

/-- The lengths, the queries, the new keys and values, the two caches and their scales, left in HBM. -/
abbrev aLen : Memref sig .tc .hbm S16 .i32 := Memref.whole main_arg7
abbrev aX : Memref sig .tc .hbm S16x16x128 .bf16 := Memref.whole main_v0
abbrev aKn : Memref sig .tc .hbm S16x128 .bf16 := Memref.whole main_v1
abbrev aVn : Memref sig .tc .hbm S16x128 .bf16 := Memref.whole main_v2
abbrev aCk : Memref sig .tc .hbm S16x32768x128 .fp8e4m3 := Memref.whole main_v3
abbrev aCv : Memref sig .tc .hbm S16x32768x128 .fp8e4m3 := Memref.whole main_v4
abbrev aCks : Memref sig .tc .hbm S16x1x32768 .f32 := Memref.whole main_v5
abbrev aCvs : Memref sig .tc .hbm S16x1x32768 .f32 := Memref.whole main_v6
/-- The five results, left in HBM. -/
abbrev rOut : Memref sig .tc .hbm S16x16x128 .bf16 := Memref.whole main_v7_0
abbrev rKc : Memref sig .tc .hbm S16x128 .fp8e4m3 := Memref.whole main_v7_1
abbrev rKs : Memref sig .tc .hbm S1x16 .f32 := Memref.whole main_v7_2
abbrev rVc : Memref sig .tc .hbm S16x128 .fp8e4m3 := Memref.whole main_v7_3
abbrev rVs : Memref sig .tc .hbm S1x16 .f32 := Memref.whole main_v7_4
/-- The scratch: the lengths; queries, new keys, new values; the four slab buffers; what the results are copied out of; the
    quantised rows and their scales read as f32. -/
abbrev sLen : Memref sig .tc .smem S16 .i32 := Memref.whole cc0_scratch0
abbrev sX : Memref sig .tc .vmem S16x16x128 .bf16 := Memref.whole cc0_scratch1
abbrev sKn : Memref sig .tc .vmem S16x128 .bf16 := Memref.whole cc0_scratch2
abbrev sVn : Memref sig .tc .vmem S16x128 .bf16 := Memref.whole cc0_scratch3
abbrev sK : Memref sig .tc .vmem S16x1152x128 .fp8e4m3 := Memref.whole cc0_scratch4
abbrev sV : Memref sig .tc .vmem S16x1152x128 .fp8e4m3 := Memref.whole cc0_scratch5
abbrev sKs : Memref sig .tc .vmem S16x1x1152 .f32 := Memref.whole cc0_scratch6
abbrev sVs : Memref sig .tc .vmem S16x1x1152 .f32 := Memref.whole cc0_scratch7
abbrev sOut : Memref sig .tc .vmem S16x16x128 .bf16 := Memref.whole cc0_scratch8
abbrev sKc : Memref sig .tc .vmem S16x128 .fp8e4m3 := Memref.whole cc0_scratch9
abbrev sKrow : Memref sig .tc .vmem S1x16 .f32 := Memref.whole cc0_scratch10
abbrev sVc : Memref sig .tc .vmem S16x128 .fp8e4m3 := Memref.whole cc0_scratch11
abbrev sVrow : Memref sig .tc .vmem S1x16 .f32 := Memref.whole cc0_scratch12
abbrev sKf : Memref sig .tc .vmem S16x128 .f32 := Memref.whole cc0_scratch13
abbrev sKb : Memref sig .tc .vmem S16x128 .f32 := Memref.whole cc0_scratch14
abbrev sVf : Memref sig .tc .vmem S16x128 .f32 := Memref.whole cc0_scratch15
abbrev sVb : Memref sig .tc .vmem S16x128 .f32 := Memref.whole cc0_scratch16

abbrev Bf (c : Dev nD) {sp : Space} {S : Shape} {e : EltTy} (M : Memref sig .tc sp S e) : Type := Buf (Elt F) (M.view.loc (c : Thread nD τ))
/-- A whole buffer at `f`. -/
abbrev pt (c : Dev nD) {sp : Space} {S : Shape} {e : EltTy} (M : Memref sig .tc sp S e) (f : Bf (F := F) c M) : sProp 𝕄 :=
  M.view.loc (c : Thread nD τ) ↦{fullShare} f
/-- A window of a buffer, held by its own elements, at the buffer's contents `f`. -/
abbrev wpt (c : Dev nD) {sp : Space} {S : Shape} {e : EltTy} (M : Memref sig .tc sp S e) (f : Bf (F := F) c M) : sProp 𝕄 :=
  M.view.loc (c : Thread nD τ) ↦[M.view.set]{fullShare} f

/-! ## Every length passes the checks the body makes of it -/

/-- What the body checks of the word `w` of sequence `b`, as a statement about `Decode.first`. -/
def Chk (b : ℕ) (w : BitVec 32) : Prop :=
  (128 ∣ (Decode.first w).toNat) ∧
  (∀ a, (![b, (Decode.first w).toNat, 0] : Fin 3 → ℕ) a + S1x1152x128.size a ≤ S16x32768x128.size a) ∧
  (∀ (hinb : ∀ a, (![b, (Decode.first w).toNat, 0] : Fin 3 → ℕ) a + S1x1152x128.size a ≤ S16x32768x128.size a),
    (Rect.unit (s := S16x32768x128) ![b, (Decode.first w).toNat, 0] S1x1152x128.size hinb).WholeWords (EltTy.packing .fp8e4m3)) ∧
  (∀ a, (![b, 0, (Decode.first w).toNat] : Fin 3 → ℕ) a + S1x1x1152.size a ≤ S16x1x32768.size a)

theorem chk_all (b : ℕ) (hb : b < 16) (w : BitVec 32) : Chk b w := by
  have h := Decode.first_le w
  have hd := Decode.first_dvd w
  refine ⟨hd, fun a => ?_, fun hinb => ?_, fun a => ?_⟩
  · match a with
    | 0 => show b + 1 ≤ 16; omega
    | 1 => show (Decode.first w).toNat + 1152 ≤ 32768; omega
    | 2 => show 0 + 128 ≤ 128; omega
  · refine Or.inl (Or.inr ⟨by decide, rfl, Or.inl ⟨?_, ?_⟩⟩)
    · show 4 ∣ (Decode.first w).toNat
      omega
    · show 4 ∣ 1152
      decide
  · match a with
    | 0 => show b + 1 ≤ 16; omega
    | 1 => show 0 + 1 ≤ 1; omega
    | 2 => show (Decode.first w).toNat + 1152 ≤ 32768; omega

theorem k0_chk1_all (w : BitVec 32) : k0_chk1 w := chk_all 0 (by decide) w
theorem k0_chk2_all (w : BitVec 32) : k0_chk2 w := chk_all 1 (by decide) w
theorem k0_chk3_all (w : BitVec 32) : k0_chk3 w := chk_all 2 (by decide) w
theorem k0_chk4_all (w : BitVec 32) : k0_chk4 w := chk_all 3 (by decide) w
theorem k0_chk5_all (w : BitVec 32) : k0_chk5 w := chk_all 4 (by decide) w
theorem k0_chk6_all (w : BitVec 32) : k0_chk6 w := chk_all 5 (by decide) w
theorem k0_chk7_all (w : BitVec 32) : k0_chk7 w := chk_all 6 (by decide) w
theorem k0_chk8_all (w : BitVec 32) : k0_chk8 w := chk_all 7 (by decide) w
theorem k0_chk9_all (w : BitVec 32) : k0_chk9 w := chk_all 8 (by decide) w
theorem k0_chk10_all (w : BitVec 32) : k0_chk10 w := chk_all 9 (by decide) w
theorem k0_chk11_all (w : BitVec 32) : k0_chk11 w := chk_all 10 (by decide) w
theorem k0_chk12_all (w : BitVec 32) : k0_chk12 w := chk_all 11 (by decide) w
theorem k0_chk13_all (w : BitVec 32) : k0_chk13 w := chk_all 12 (by decide) w
theorem k0_chk14_all (w : BitVec 32) : k0_chk14 w := chk_all 13 (by decide) w
theorem k0_chk15_all (w : BitVec 32) : k0_chk15 w := chk_all 14 (by decide) w
theorem k0_chk16_all (w : BitVec 32) : k0_chk16 w := chk_all 15 (by decide) w

/-! ## The sixteen windows and slabs -/

/-- Slab `b` of a buffer of sixteen [1152, 128] slabs, and of a buffer of sixteen rows of 1152. -/
abbrev slab (M : Memref sig .tc .vmem S16x1152x128 .fp8e4m3) (b : ℕ) (h : ∀ a, (![b, 0, 0] : Fin 3 → ℕ) a + S1x1152x128.size a ≤ S16x1152x128.size a) :
    Memref sig .tc .vmem S1152x128 .fp8e4m3 :=
  (M.slice (Rect.unit (s := S16x1152x128) ![b, 0, 0] S1x1152x128.size h) (fun _ => rfl)).squeeze S1152x128 squeezes_S1x1152x128_S1152x128
abbrev row (M : Memref sig .tc .vmem S16x1x1152 .f32) (b : ℕ) (h : ∀ a, (![b, 0, 0] : Fin 3 → ℕ) a + S1x1x1152.size a ≤ S16x1x1152.size a) :
    Memref sig .tc .vmem S1x1152 .f32 :=
  (M.slice (Rect.unit (s := S16x1x1152) ![b, 0, 0] S1x1x1152.size h) (fun _ => rfl)).squeeze S1x1152 squeezes_S1x1x1152_S1x1152
/-- A window of 1152 rows of a cache, and of 1152 of its scales, at the offsets given. -/
abbrev win (M : Memref sig .tc .hbm S16x32768x128 .fp8e4m3) (o : Fin 3 → ℕ) (h : ∀ a, o a + S1x1152x128.size a ≤ S16x32768x128.size a) :
    Memref sig .tc .hbm S1152x128 .fp8e4m3 :=
  (M.slice (Rect.unit (s := S16x32768x128) o S1x1152x128.size h) (fun _ => rfl)).squeeze S1152x128 squeezes_S1x1152x128_S1152x128
abbrev swin (M : Memref sig .tc .hbm S16x1x32768 .f32) (o : Fin 3 → ℕ) (h : ∀ a, o a + S1x1x1152.size a ≤ S16x1x32768.size a) :
    Memref sig .tc .hbm S1x1152 .f32 :=
  (M.slice (Rect.unit (s := S16x1x32768) o S1x1x1152.size h) (fun _ => rfl)).squeeze S1x1152 squeezes_S1x1x1152_S1x1152

/-- The windows and slabs by the sequence's number, spelled as the body spells them. -/
abbrev kWin (M : Memref sig .tc .hbm S16x32768x128 .fp8e4m3) (w : Fin 16 → BitVec 32) : Fin 16 → Finset M.view.ty.Idx
  | 0 => (win M (k0_off1 (w 0)) (k0_off1_inb (w 0) (k0_chk1_all (w 0)))).view.set
  | 1 => (win M (k0_off3 (w 1)) (k0_off3_inb (w 1) (k0_chk2_all (w 1)))).view.set
  | 2 => (win M (k0_off5 (w 2)) (k0_off5_inb (w 2) (k0_chk3_all (w 2)))).view.set
  | 3 => (win M (k0_off7 (w 3)) (k0_off7_inb (w 3) (k0_chk4_all (w 3)))).view.set
  | 4 => (win M (k0_off9 (w 4)) (k0_off9_inb (w 4) (k0_chk5_all (w 4)))).view.set
  | 5 => (win M (k0_off11 (w 5)) (k0_off11_inb (w 5) (k0_chk6_all (w 5)))).view.set
  | 6 => (win M (k0_off13 (w 6)) (k0_off13_inb (w 6) (k0_chk7_all (w 6)))).view.set
  | 7 => (win M (k0_off15 (w 7)) (k0_off15_inb (w 7) (k0_chk8_all (w 7)))).view.set
  | 8 => (win M (k0_off17 (w 8)) (k0_off17_inb (w 8) (k0_chk9_all (w 8)))).view.set
  | 9 => (win M (k0_off19 (w 9)) (k0_off19_inb (w 9) (k0_chk10_all (w 9)))).view.set
  | 10 => (win M (k0_off21 (w 10)) (k0_off21_inb (w 10) (k0_chk11_all (w 10)))).view.set
  | 11 => (win M (k0_off23 (w 11)) (k0_off23_inb (w 11) (k0_chk12_all (w 11)))).view.set
  | 12 => (win M (k0_off25 (w 12)) (k0_off25_inb (w 12) (k0_chk13_all (w 12)))).view.set
  | 13 => (win M (k0_off27 (w 13)) (k0_off27_inb (w 13) (k0_chk14_all (w 13)))).view.set
  | 14 => (win M (k0_off29 (w 14)) (k0_off29_inb (w 14) (k0_chk15_all (w 14)))).view.set
  | 15 => (win M (k0_off31 (w 15)) (k0_off31_inb (w 15) (k0_chk16_all (w 15)))).view.set
  | ⟨_ + 16, h⟩ => absurd h (by omega)
abbrev sWin (M : Memref sig .tc .hbm S16x1x32768 .f32) (w : Fin 16 → BitVec 32) : Fin 16 → Finset M.view.ty.Idx
  | 0 => (swin M (k0_off2 (w 0)) (k0_off2_inb (w 0) (k0_chk1_all (w 0)))).view.set
  | 1 => (swin M (k0_off4 (w 1)) (k0_off4_inb (w 1) (k0_chk2_all (w 1)))).view.set
  | 2 => (swin M (k0_off6 (w 2)) (k0_off6_inb (w 2) (k0_chk3_all (w 2)))).view.set
  | 3 => (swin M (k0_off8 (w 3)) (k0_off8_inb (w 3) (k0_chk4_all (w 3)))).view.set
  | 4 => (swin M (k0_off10 (w 4)) (k0_off10_inb (w 4) (k0_chk5_all (w 4)))).view.set
  | 5 => (swin M (k0_off12 (w 5)) (k0_off12_inb (w 5) (k0_chk6_all (w 5)))).view.set
  | 6 => (swin M (k0_off14 (w 6)) (k0_off14_inb (w 6) (k0_chk7_all (w 6)))).view.set
  | 7 => (swin M (k0_off16 (w 7)) (k0_off16_inb (w 7) (k0_chk8_all (w 7)))).view.set
  | 8 => (swin M (k0_off18 (w 8)) (k0_off18_inb (w 8) (k0_chk9_all (w 8)))).view.set
  | 9 => (swin M (k0_off20 (w 9)) (k0_off20_inb (w 9) (k0_chk10_all (w 9)))).view.set
  | 10 => (swin M (k0_off22 (w 10)) (k0_off22_inb (w 10) (k0_chk11_all (w 10)))).view.set
  | 11 => (swin M (k0_off24 (w 11)) (k0_off24_inb (w 11) (k0_chk12_all (w 11)))).view.set
  | 12 => (swin M (k0_off26 (w 12)) (k0_off26_inb (w 12) (k0_chk13_all (w 12)))).view.set
  | 13 => (swin M (k0_off28 (w 13)) (k0_off28_inb (w 13) (k0_chk14_all (w 13)))).view.set
  | 14 => (swin M (k0_off30 (w 14)) (k0_off30_inb (w 14) (k0_chk15_all (w 14)))).view.set
  | 15 => (swin M (k0_off32 (w 15)) (k0_off32_inb (w 15) (k0_chk16_all (w 15)))).view.set
  | ⟨_ + 16, h⟩ => absurd h (by omega)
abbrev kSlab (M : Memref sig .tc .vmem S16x1152x128 .fp8e4m3) : Fin 16 → Finset M.view.ty.Idx
  | 0 => (slab M 0 inb_S16x1152x128_S1x1152x128_0_0_0).view.set
  | 1 => (slab M 1 inb_S16x1152x128_S1x1152x128_1_0_0).view.set
  | 2 => (slab M 2 inb_S16x1152x128_S1x1152x128_2_0_0).view.set
  | 3 => (slab M 3 inb_S16x1152x128_S1x1152x128_3_0_0).view.set
  | 4 => (slab M 4 inb_S16x1152x128_S1x1152x128_4_0_0).view.set
  | 5 => (slab M 5 inb_S16x1152x128_S1x1152x128_5_0_0).view.set
  | 6 => (slab M 6 inb_S16x1152x128_S1x1152x128_6_0_0).view.set
  | 7 => (slab M 7 inb_S16x1152x128_S1x1152x128_7_0_0).view.set
  | 8 => (slab M 8 inb_S16x1152x128_S1x1152x128_8_0_0).view.set
  | 9 => (slab M 9 inb_S16x1152x128_S1x1152x128_9_0_0).view.set
  | 10 => (slab M 10 inb_S16x1152x128_S1x1152x128_10_0_0).view.set
  | 11 => (slab M 11 inb_S16x1152x128_S1x1152x128_11_0_0).view.set
  | 12 => (slab M 12 inb_S16x1152x128_S1x1152x128_12_0_0).view.set
  | 13 => (slab M 13 inb_S16x1152x128_S1x1152x128_13_0_0).view.set
  | 14 => (slab M 14 inb_S16x1152x128_S1x1152x128_14_0_0).view.set
  | 15 => (slab M 15 inb_S16x1152x128_S1x1152x128_15_0_0).view.set
  | ⟨_ + 16, h⟩ => absurd h (by omega)
abbrev sRow (M : Memref sig .tc .vmem S16x1x1152 .f32) : Fin 16 → Finset M.view.ty.Idx
  | 0 => (row M 0 inb_S16x1x1152_S1x1x1152_0_0_0).view.set
  | 1 => (row M 1 inb_S16x1x1152_S1x1x1152_1_0_0).view.set
  | 2 => (row M 2 inb_S16x1x1152_S1x1x1152_2_0_0).view.set
  | 3 => (row M 3 inb_S16x1x1152_S1x1x1152_3_0_0).view.set
  | 4 => (row M 4 inb_S16x1x1152_S1x1x1152_4_0_0).view.set
  | 5 => (row M 5 inb_S16x1x1152_S1x1x1152_5_0_0).view.set
  | 6 => (row M 6 inb_S16x1x1152_S1x1x1152_6_0_0).view.set
  | 7 => (row M 7 inb_S16x1x1152_S1x1x1152_7_0_0).view.set
  | 8 => (row M 8 inb_S16x1x1152_S1x1x1152_8_0_0).view.set
  | 9 => (row M 9 inb_S16x1x1152_S1x1x1152_9_0_0).view.set
  | 10 => (row M 10 inb_S16x1x1152_S1x1x1152_10_0_0).view.set
  | 11 => (row M 11 inb_S16x1x1152_S1x1x1152_11_0_0).view.set
  | 12 => (row M 12 inb_S16x1x1152_S1x1x1152_12_0_0).view.set
  | 13 => (row M 13 inb_S16x1x1152_S1x1x1152_13_0_0).view.set
  | 14 => (row M 14 inb_S16x1x1152_S1x1x1152_14_0_0).view.set
  | 15 => (row M 15 inb_S16x1x1152_S1x1x1152_15_0_0).view.set
  | ⟨_ + 16, h⟩ => absurd h (by omega)

/-! ## A buffer in its sixteen pieces -/

/-- A separating conjunction of sixteen, written out. -/
abbrev sep16 (P : Fin 16 → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15)

theorem sep16_eq (P : Fin 16 → sProp 𝕄) : bigSep Finset.univ P = sep16 P := by
  rw [BI.bigSep_eq_bigSepL_of_eq [0, 1, 2, 3, 4, 5, 6, 7, 8, 9, 10, 11, 12, 13, 14, 15] (by decide) (by decide)]; rfl

section Pieces
variable {ℓ : Loc nD τ sig} (K : Fin 16 → Finset (Idx ℓ)) (hd : ∀ b b', b ≠ b' → Disjoint (K b) (K b'))

/-- What no piece covers. -/
def restOf : Finset (Idx ℓ) := Finset.univ \ Finset.univ.biUnion K

include hd in
/-- A whole buffer is its sixteen pieces, which are disjoint, and the rest. -/
theorem pieces (f : Buf (Elt F) ℓ) :
    (ℓ ↦{fullShare} f : sProp 𝕄) ⊣⊢ iprop(sep16 (fun b => ℓ ↦[K b]{fullShare} f) ∗ ℓ ↦[restOf K]{fullShare} f) := by
  have h := pointsTo_split_subset (Ix := Unit) (Name := ℕ) (U := Pipeline.UD sig nD τ) (Lvl := ℕ) (Val := Elt F) (q := fullShare) (f := f)
    (Finset.subset_univ (Finset.univ.biUnion K))
  rw [pointsTo_biUnion Finset.univ K (fun b _ b' _ hb => hd b b' hb), sep16_eq] at h
  exact h

include hd in
/-- Sixteen disjoint pieces at whatever each holds, and the rest, are a whole buffer. -/
theorem pieces_join (fs : Fin 16 → Buf (Elt F) ℓ) (f₀ : Buf (Elt F) ℓ) :
    (iprop(sep16 (fun b => ℓ ↦[K b]{fullShare} fs b) ∗ ℓ ↦[restOf K]{fullShare} f₀) : sProp 𝕄) ⊢ ∃ g : Buf (Elt F) ℓ, ℓ ↦{fullShare} g := by
  rw [← sep16_eq]
  iintro ⟨H, HR⟩
  ihave H' := (pointsTo_biUnion_join Finset.univ K fs f₀ (fun b _ b' _ hb => hd b b' hb)) $$ H
  icases H' with ⟨%g, -, Hg⟩
  ihave H2 := (pointsTo_join_subset (Finset.subset_univ (Finset.univ.biUnion K))) $$ [Hg HR]
  · isplitl [Hg]; · iexact Hg
    iexact HR
  iexists _; iexact H2

end Pieces

theorem kSlab_disj (M : Memref sig .tc .vmem S16x1152x128 .fp8e4m3) (b b' : Fin 16) (h : b ≠ b') :
    Disjoint (kSlab M b) (kSlab M b') := by
  have key : ∀ b : Fin 16, ∃ hb, kSlab M b = (M.view.slice (Rect.unit (s := S16x1152x128) ![b.val, 0, 0] S1x1152x128.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega
theorem sRow_disj (M : Memref sig .tc .vmem S16x1x1152 .f32) (b b' : Fin 16) (h : b ≠ b') :
    Disjoint (sRow M b) (sRow M b') := by
  have key : ∀ b : Fin 16, ∃ hb, sRow M b = (M.view.slice (Rect.unit (s := S16x1x1152) ![b.val, 0, 0] S1x1x1152.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega
theorem kWin_disj (M : Memref sig .tc .hbm S16x32768x128 .fp8e4m3) (w : Fin 16 → BitVec 32) (b b' : Fin 16) (h : b ≠ b') :
    Disjoint (kWin M w b) (kWin M w b') := by
  have key : ∀ b : Fin 16, ∃ hb, kWin M w b = (M.view.slice (Rect.unit (s := S16x32768x128) ![b.val, (Decode.first (w b)).toNat, 0] S1x1152x128.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega
theorem sWin_disj (M : Memref sig .tc .hbm S16x1x32768 .f32) (w : Fin 16 → BitVec 32) (b b' : Fin 16) (h : b ≠ b') :
    Disjoint (sWin M w b) (sWin M w b') := by
  have key : ∀ b : Fin 16, ∃ hb, sWin M w b = (M.view.slice (Rect.unit (s := S16x1x32768) ![b.val, 0, (Decode.first (w b)).toNat] S1x1x1152.size hb)).set := by
    intro b; fin_cases b <;> exact ⟨_, View.set_reshape _ _⟩
  obtain ⟨h1, e1⟩ := key b
  obtain ⟨h2, e2⟩ := key b'
  rw [e1, e2]
  rw [View.set_slice, View.set_slice]
  refine (Finset.disjoint_map _).mpr (Rect.unit_disjoint 0 ?_)
  have : b.val ≠ b'.val := fun e => h (Fin.ext e)
  show b.val + 1 ≤ b'.val ∨ b'.val + 1 ≤ b.val
  omega

theorem kSlab_pieces (c : Dev nD) (M : Memref sig .tc .vmem S16x1152x128 .fp8e4m3) (f : Bf (F := F) c M) :
    (pt c M f : sProp 𝕄) ⊣⊢ iprop((wpt c (slab M 0 inb_S16x1152x128_S1x1152x128_0_0_0) f ∗ wpt c (slab M 1 inb_S16x1152x128_S1x1152x128_1_0_0) f ∗ wpt c (slab M 2 inb_S16x1152x128_S1x1152x128_2_0_0) f ∗ wpt c (slab M 3 inb_S16x1152x128_S1x1152x128_3_0_0) f ∗ wpt c (slab M 4 inb_S16x1152x128_S1x1152x128_4_0_0) f ∗ wpt c (slab M 5 inb_S16x1152x128_S1x1152x128_5_0_0) f ∗ wpt c (slab M 6 inb_S16x1152x128_S1x1152x128_6_0_0) f ∗ wpt c (slab M 7 inb_S16x1152x128_S1x1152x128_7_0_0) f ∗ wpt c (slab M 8 inb_S16x1152x128_S1x1152x128_8_0_0) f ∗ wpt c (slab M 9 inb_S16x1152x128_S1x1152x128_9_0_0) f ∗ wpt c (slab M 10 inb_S16x1152x128_S1x1152x128_10_0_0) f ∗ wpt c (slab M 11 inb_S16x1152x128_S1x1152x128_11_0_0) f ∗ wpt c (slab M 12 inb_S16x1152x128_S1x1152x128_12_0_0) f ∗ wpt c (slab M 13 inb_S16x1152x128_S1x1152x128_13_0_0) f ∗ wpt c (slab M 14 inb_S16x1152x128_S1x1152x128_14_0_0) f ∗ wpt c (slab M 15 inb_S16x1152x128_S1x1152x128_15_0_0) f)
      ∗ M.view.loc (c : Thread nD τ) ↦[restOf (ℓ := M.view.loc (c : Thread nD τ)) (kSlab M)]{fullShare} f) :=
  pieces (ℓ := M.view.loc (c : Thread nD τ)) (kSlab M) (kSlab_disj M) f

theorem kSlab_join (c : Dev nD) (M : Memref sig .tc .vmem S16x1152x128 .fp8e4m3) (fs : Fin 16 → Bf (F := F) c M) (f₀ : Bf (F := F) c M) :
    (iprop((wpt c (slab M 0 inb_S16x1152x128_S1x1152x128_0_0_0) (fs 0) ∗ wpt c (slab M 1 inb_S16x1152x128_S1x1152x128_1_0_0) (fs 1) ∗ wpt c (slab M 2 inb_S16x1152x128_S1x1152x128_2_0_0) (fs 2) ∗ wpt c (slab M 3 inb_S16x1152x128_S1x1152x128_3_0_0) (fs 3) ∗ wpt c (slab M 4 inb_S16x1152x128_S1x1152x128_4_0_0) (fs 4) ∗ wpt c (slab M 5 inb_S16x1152x128_S1x1152x128_5_0_0) (fs 5) ∗ wpt c (slab M 6 inb_S16x1152x128_S1x1152x128_6_0_0) (fs 6) ∗ wpt c (slab M 7 inb_S16x1152x128_S1x1152x128_7_0_0) (fs 7) ∗ wpt c (slab M 8 inb_S16x1152x128_S1x1152x128_8_0_0) (fs 8) ∗ wpt c (slab M 9 inb_S16x1152x128_S1x1152x128_9_0_0) (fs 9) ∗ wpt c (slab M 10 inb_S16x1152x128_S1x1152x128_10_0_0) (fs 10) ∗ wpt c (slab M 11 inb_S16x1152x128_S1x1152x128_11_0_0) (fs 11) ∗ wpt c (slab M 12 inb_S16x1152x128_S1x1152x128_12_0_0) (fs 12) ∗ wpt c (slab M 13 inb_S16x1152x128_S1x1152x128_13_0_0) (fs 13) ∗ wpt c (slab M 14 inb_S16x1152x128_S1x1152x128_14_0_0) (fs 14) ∗ wpt c (slab M 15 inb_S16x1152x128_S1x1152x128_15_0_0) (fs 15))
      ∗ M.view.loc (c : Thread nD τ) ↦[restOf (ℓ := M.view.loc (c : Thread nD τ)) (kSlab M)]{fullShare} f₀) : sProp 𝕄)
    ⊢ ∃ g : Bf (F := F) c M, pt c M g :=
  pieces_join (ℓ := M.view.loc (c : Thread nD τ)) (kSlab M) (kSlab_disj M) fs f₀

theorem sRow_pieces (c : Dev nD) (M : Memref sig .tc .vmem S16x1x1152 .f32) (f : Bf (F := F) c M) :
    (pt c M f : sProp 𝕄) ⊣⊢ iprop((wpt c (row M 0 inb_S16x1x1152_S1x1x1152_0_0_0) f ∗ wpt c (row M 1 inb_S16x1x1152_S1x1x1152_1_0_0) f ∗ wpt c (row M 2 inb_S16x1x1152_S1x1x1152_2_0_0) f ∗ wpt c (row M 3 inb_S16x1x1152_S1x1x1152_3_0_0) f ∗ wpt c (row M 4 inb_S16x1x1152_S1x1x1152_4_0_0) f ∗ wpt c (row M 5 inb_S16x1x1152_S1x1x1152_5_0_0) f ∗ wpt c (row M 6 inb_S16x1x1152_S1x1x1152_6_0_0) f ∗ wpt c (row M 7 inb_S16x1x1152_S1x1x1152_7_0_0) f ∗ wpt c (row M 8 inb_S16x1x1152_S1x1x1152_8_0_0) f ∗ wpt c (row M 9 inb_S16x1x1152_S1x1x1152_9_0_0) f ∗ wpt c (row M 10 inb_S16x1x1152_S1x1x1152_10_0_0) f ∗ wpt c (row M 11 inb_S16x1x1152_S1x1x1152_11_0_0) f ∗ wpt c (row M 12 inb_S16x1x1152_S1x1x1152_12_0_0) f ∗ wpt c (row M 13 inb_S16x1x1152_S1x1x1152_13_0_0) f ∗ wpt c (row M 14 inb_S16x1x1152_S1x1x1152_14_0_0) f ∗ wpt c (row M 15 inb_S16x1x1152_S1x1x1152_15_0_0) f)
      ∗ M.view.loc (c : Thread nD τ) ↦[restOf (ℓ := M.view.loc (c : Thread nD τ)) (sRow M)]{fullShare} f) :=
  pieces (ℓ := M.view.loc (c : Thread nD τ)) (sRow M) (sRow_disj M) f

theorem sRow_join (c : Dev nD) (M : Memref sig .tc .vmem S16x1x1152 .f32) (fs : Fin 16 → Bf (F := F) c M) (f₀ : Bf (F := F) c M) :
    (iprop((wpt c (row M 0 inb_S16x1x1152_S1x1x1152_0_0_0) (fs 0) ∗ wpt c (row M 1 inb_S16x1x1152_S1x1x1152_1_0_0) (fs 1) ∗ wpt c (row M 2 inb_S16x1x1152_S1x1x1152_2_0_0) (fs 2) ∗ wpt c (row M 3 inb_S16x1x1152_S1x1x1152_3_0_0) (fs 3) ∗ wpt c (row M 4 inb_S16x1x1152_S1x1x1152_4_0_0) (fs 4) ∗ wpt c (row M 5 inb_S16x1x1152_S1x1x1152_5_0_0) (fs 5) ∗ wpt c (row M 6 inb_S16x1x1152_S1x1x1152_6_0_0) (fs 6) ∗ wpt c (row M 7 inb_S16x1x1152_S1x1x1152_7_0_0) (fs 7) ∗ wpt c (row M 8 inb_S16x1x1152_S1x1x1152_8_0_0) (fs 8) ∗ wpt c (row M 9 inb_S16x1x1152_S1x1x1152_9_0_0) (fs 9) ∗ wpt c (row M 10 inb_S16x1x1152_S1x1x1152_10_0_0) (fs 10) ∗ wpt c (row M 11 inb_S16x1x1152_S1x1x1152_11_0_0) (fs 11) ∗ wpt c (row M 12 inb_S16x1x1152_S1x1x1152_12_0_0) (fs 12) ∗ wpt c (row M 13 inb_S16x1x1152_S1x1x1152_13_0_0) (fs 13) ∗ wpt c (row M 14 inb_S16x1x1152_S1x1x1152_14_0_0) (fs 14) ∗ wpt c (row M 15 inb_S16x1x1152_S1x1x1152_15_0_0) (fs 15))
      ∗ M.view.loc (c : Thread nD τ) ↦[restOf (ℓ := M.view.loc (c : Thread nD τ)) (sRow M)]{fullShare} f₀) : sProp 𝕄)
    ⊢ ∃ g : Bf (F := F) c M, pt c M g :=
  pieces_join (ℓ := M.view.loc (c : Thread nD τ)) (sRow M) (sRow_disj M) fs f₀

theorem kWin_pieces (c : Dev nD) (M : Memref sig .tc .hbm S16x32768x128 .fp8e4m3) (w0 w1 w2 w3 w4 w5 w6 w7 w8 w9 w10 w11 w12 w13 w14 w15 : BitVec 32) (f : Bf (F := F) c M) :
    (pt c M f : sProp 𝕄) ⊣⊢ iprop((wpt c (win M (k0_off1 w0) (k0_off1_inb w0 (k0_chk1_all w0))) f ∗ wpt c (win M (k0_off3 w1) (k0_off3_inb w1 (k0_chk2_all w1))) f ∗ wpt c (win M (k0_off5 w2) (k0_off5_inb w2 (k0_chk3_all w2))) f ∗ wpt c (win M (k0_off7 w3) (k0_off7_inb w3 (k0_chk4_all w3))) f ∗ wpt c (win M (k0_off9 w4) (k0_off9_inb w4 (k0_chk5_all w4))) f ∗ wpt c (win M (k0_off11 w5) (k0_off11_inb w5 (k0_chk6_all w5))) f ∗ wpt c (win M (k0_off13 w6) (k0_off13_inb w6 (k0_chk7_all w6))) f ∗ wpt c (win M (k0_off15 w7) (k0_off15_inb w7 (k0_chk8_all w7))) f ∗ wpt c (win M (k0_off17 w8) (k0_off17_inb w8 (k0_chk9_all w8))) f ∗ wpt c (win M (k0_off19 w9) (k0_off19_inb w9 (k0_chk10_all w9))) f ∗ wpt c (win M (k0_off21 w10) (k0_off21_inb w10 (k0_chk11_all w10))) f ∗ wpt c (win M (k0_off23 w11) (k0_off23_inb w11 (k0_chk12_all w11))) f ∗ wpt c (win M (k0_off25 w12) (k0_off25_inb w12 (k0_chk13_all w12))) f ∗ wpt c (win M (k0_off27 w13) (k0_off27_inb w13 (k0_chk14_all w13))) f ∗ wpt c (win M (k0_off29 w14) (k0_off29_inb w14 (k0_chk15_all w14))) f ∗ wpt c (win M (k0_off31 w15) (k0_off31_inb w15 (k0_chk16_all w15))) f)
      ∗ M.view.loc (c : Thread nD τ) ↦[restOf (ℓ := M.view.loc (c : Thread nD τ)) (kWin M ![w0, w1, w2, w3, w4, w5, w6, w7, w8, w9, w10, w11, w12, w13, w14, w15])]{fullShare} f) :=
  pieces (ℓ := M.view.loc (c : Thread nD τ)) (kWin M ![w0, w1, w2, w3, w4, w5, w6, w7, w8, w9, w10, w11, w12, w13, w14, w15]) (kWin_disj M ![w0, w1, w2, w3, w4, w5, w6, w7, w8, w9, w10, w11, w12, w13, w14, w15]) f

theorem sWin_pieces (c : Dev nD) (M : Memref sig .tc .hbm S16x1x32768 .f32) (w0 w1 w2 w3 w4 w5 w6 w7 w8 w9 w10 w11 w12 w13 w14 w15 : BitVec 32) (f : Bf (F := F) c M) :
    (pt c M f : sProp 𝕄) ⊣⊢ iprop((wpt c (swin M (k0_off2 w0) (k0_off2_inb w0 (k0_chk1_all w0))) f ∗ wpt c (swin M (k0_off4 w1) (k0_off4_inb w1 (k0_chk2_all w1))) f ∗ wpt c (swin M (k0_off6 w2) (k0_off6_inb w2 (k0_chk3_all w2))) f ∗ wpt c (swin M (k0_off8 w3) (k0_off8_inb w3 (k0_chk4_all w3))) f ∗ wpt c (swin M (k0_off10 w4) (k0_off10_inb w4 (k0_chk5_all w4))) f ∗ wpt c (swin M (k0_off12 w5) (k0_off12_inb w5 (k0_chk6_all w5))) f ∗ wpt c (swin M (k0_off14 w6) (k0_off14_inb w6 (k0_chk7_all w6))) f ∗ wpt c (swin M (k0_off16 w7) (k0_off16_inb w7 (k0_chk8_all w7))) f ∗ wpt c (swin M (k0_off18 w8) (k0_off18_inb w8 (k0_chk9_all w8))) f ∗ wpt c (swin M (k0_off20 w9) (k0_off20_inb w9 (k0_chk10_all w9))) f ∗ wpt c (swin M (k0_off22 w10) (k0_off22_inb w10 (k0_chk11_all w10))) f ∗ wpt c (swin M (k0_off24 w11) (k0_off24_inb w11 (k0_chk12_all w11))) f ∗ wpt c (swin M (k0_off26 w12) (k0_off26_inb w12 (k0_chk13_all w12))) f ∗ wpt c (swin M (k0_off28 w13) (k0_off28_inb w13 (k0_chk14_all w13))) f ∗ wpt c (swin M (k0_off30 w14) (k0_off30_inb w14 (k0_chk15_all w14))) f ∗ wpt c (swin M (k0_off32 w15) (k0_off32_inb w15 (k0_chk16_all w15))) f)
      ∗ M.view.loc (c : Thread nD τ) ↦[restOf (ℓ := M.view.loc (c : Thread nD τ)) (sWin M ![w0, w1, w2, w3, w4, w5, w6, w7, w8, w9, w10, w11, w12, w13, w14, w15])]{fullShare} f) :=
  pieces (ℓ := M.view.loc (c : Thread nD τ)) (sWin M ![w0, w1, w2, w3, w4, w5, w6, w7, w8, w9, w10, w11, w12, w13, w14, w15]) (sWin_disj M ![w0, w1, w2, w3, w4, w5, w6, w7, w8, w9, w10, w11, w12, w13, w14, w15]) f

/-! ## The two copies on one cell -/

/-- The words each of the two copies on a cell moves: a slab of a cache, then the scales of its rows. -/
abbrev amounts : Fin 2 → ℕ := ![4608, 144]

/-- What the two copies on a cell deliver: each one's destination at what it read, and its source back. -/
def deliv (c : Dev nD) (src : Memref sig .tc .hbm S1152x128 .fp8e4m3) (dst : Memref sig .tc .vmem S1152x128 .fp8e4m3)
    (ssrc : Memref sig .tc .hbm S1x1152 .f32) (sdst : Memref sig .tc .vmem S1x1152 .f32)
    (f : Bf (F := F) c src) (d : Bf (F := F) c dst) (fs : Bf (F := F) c ssrc) (ds : Bf (F := F) c sdst) : Fin 2 → sProp 𝕄
  | 0 => iprop((dst.view.loc (c : Thread nD τ) ↦[dst.view.set]{fullShare}
          dst.view.writes (Elt F) d [⟨Rect.whole _, ReadAs.same.apply (src.view.read (Elt F) f)⟩])
        ∗ (src.view.loc (c : Thread nD τ) ↦[src.view.set]{fullShare} f))
  | 1 => iprop((sdst.view.loc (c : Thread nD τ) ↦[sdst.view.set]{fullShare}
          sdst.view.writes (Elt F) ds [⟨Rect.whole _, ReadAs.same.apply (ssrc.view.read (Elt F) fs)⟩])
        ∗ (ssrc.view.loc (c : Thread nD τ) ↦[ssrc.view.set]{fullShare} fs))
instance deliv_storable (c : Dev nD) (src : Memref sig .tc .hbm S1152x128 .fp8e4m3) (dst : Memref sig .tc .vmem S1152x128 .fp8e4m3)
    (ssrc : Memref sig .tc .hbm S1x1152 .f32) (sdst : Memref sig .tc .vmem S1x1152 .f32)
    (f : Bf (F := F) c src) (d : Bf (F := F) c dst) (fs : Bf (F := F) c ssrc) (ds : Bf (F := F) c sdst) (t : Fin 2) :
    Storable (upEmb : UEmb _ 𝕄) (deliv c src dst ssrc sdst f d fs ds t) := by
  fin_cases t <;> simp only [deliv] <;> infer_instance

end Cert.KernelIdeal.Hand

end
-- ==== Proof.RunI1.lean ====
/-
  The decode kernel's body run on its sixteen sequences, first stretch: the operands come in, the sixteen lengths are read,
  each cache and its scratch are cut into one window per sequence, each of the 32 cells carries a batch of two copies (a
  window of a cache and its scales), the copies start, and the new keys and values are quantised. The run continues in the
  next modules, up to `RunI7`, each of which takes up the goal where the one before stopped. `R` is whatever else is held.
-/
module

public import proofs.«01_k».proof.Proof.OperandsI
public import proofs.«01_k».proof.Proof.Gen.KernelIdeal.Skeleton

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s1 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → iprop(pt c aLen faLen ∗ pt c aX faX ∗ pt c aKn faKn ∗ pt c aVn faVn ∗ pt c aCk faCk ∗ pt c aCv faCv ∗
    pt c aCks faCks ∗ pt c aCvs faCvs ∗ pt c rOut frOut ∗ pt c rKc frKc ∗ pt c rKs frKs ∗ pt c rVc frVc ∗
    pt c rVs frVs ∗ pt c sLen fsLen ∗ pt c sX fsX ∗ pt c sKn fsKn ∗ pt c sVn fsVn ∗ pt c sK fsK ∗ pt c sV fsV ∗
    pt c sKs fsKs ∗ pt c sVs fsVs ∗ pt c sOut fsOut ∗ pt c sKc fsKc ∗ pt c sKrow fsKrow ∗ pt c sVc fsVc ∗
    pt c sVrow fsVrow ∗ pt c sKf fsKf ∗ pt c sKb fsKb ∗ pt c sVf fsVf ∗ pt c sVb fsVb ∗
    semVal ((c : Thread nD τ), SemLoc.dma 0) 0 ∗ semVal ((c : Thread nD τ), SemLoc.dma 1) 0 ∗
    semVal ((c : Thread nD τ), SemLoc.dma 2) 0 ∗ semVal ((c : Thread nD τ), SemLoc.dma 3) 0 ∗
    semVal ((c : Thread nD τ), SemLoc.dma 4) 0 ∗ semVal ((c : Thread nD τ), SemLoc.dma 5) 0 ∗
    semVal ((c : Thread nD τ), SemLoc.dma 6) 0 ∗ semVal ((c : Thread nD τ), SemLoc.dma 7) 0 ∗
    semVal ((c : Thread nD τ), SemLoc.dma 8) 0 ∗ semVal ((c : Thread nD τ), SemLoc.dma 9) 0 ∗
    semVal ((c : Thread nD τ), SemLoc.dma 10) 0 ∗ semVal ((c : Thread nD τ), SemLoc.dma 11) 0 ∗
    semVal ((c : Thread nD τ), SemLoc.dma 12) 0 ∗ semVal ((c : Thread nD τ), SemLoc.dma 13) 0 ∗
    semVal ((c : Thread nD τ), SemLoc.dma 14) 0 ∗ semVal ((c : Thread nD τ), SemLoc.dma 15) 0 ∗
    semVal ((c : Thread nD τ), SemLoc.dma 16) 0 ∗ semVal ((c : Thread nD τ), SemLoc.dma 17) 0 ∗
    semVal ((c : Thread nD τ), SemLoc.dma 18) 0 ∗ semVal ((c : Thread nD τ), SemLoc.dma 19) 0 ∗
    semVal ((c : Thread nD τ), SemLoc.dma 20) 0 ∗ semVal ((c : Thread nD τ), SemLoc.dma 21) 0 ∗
    semVal ((c : Thread nD τ), SemLoc.dma 22) 0 ∗ semVal ((c : Thread nD τ), SemLoc.dma 23) 0 ∗
    semVal ((c : Thread nD τ), SemLoc.dma 24) 0 ∗ semVal ((c : Thread nD τ), SemLoc.dma 25) 0 ∗
    semVal ((c : Thread nD τ), SemLoc.dma 26) 0 ∗ semVal ((c : Thread nD τ), SemLoc.dma 27) 0 ∗
    semVal ((c : Thread nD τ), SemLoc.dma 28) 0 ∗ semVal ((c : Thread nD τ), SemLoc.dma 29) 0 ∗
    semVal ((c : Thread nD τ), SemLoc.dma 30) 0 ∗ semVal ((c : Thread nD τ), SemLoc.dma 31) 0 ∗
    semVal ((c : Thread nD τ), SemLoc.dma 32) 0 ∗ semVal ((c : Thread nD τ), SemLoc.dma 33) 0 ∗
    semVal ((c : Thread nD τ), SemLoc.dma 34) 0 ∗ semVal ((c : Thread nD τ), SemLoc.dma 35) 0 ∗
    semVal ((c : Thread nD τ), SemLoc.dma 36) 0 ∗ semVal ((c : Thread nD τ), SemLoc.dma 37) 0 ∗
    semVal ((c : Thread nD τ), SemLoc.dma 38) 0 ∗ semVal ((c : Thread nD τ), SemLoc.dma 39) 0 ∗
    semVal ((c : Thread nD τ), SemLoc.dma 40) 0 ∗ owes (c : Thread nD τ) 0 W ∗ R) ⊢
    wp frame (wpE (defs₀ (F := F)) Variants.none c none) Set.univ
    (cc0_window_decode aLen (Memref.isWhole_whole _) aX (Memref.isWhole_whole _) aKn (Memref.isWhole_whole _) aVn (Memref.isWhole_whole _) aCk (Memref.isWhole_whole _) aCv (Memref.isWhole_whole _) aCks (Memref.isWhole_whole _) aCvs (Memref.isWhole_whole _) rOut (Memref.isWhole_whole _) rKc (Memref.isWhole_whole _) rKs (Memref.isWhole_whole _) rVc (Memref.isWhole_whole _) rVs (Memref.isWhole_whole _) sLen (Memref.isWhole_whole _) sX (Memref.isWhole_whole _) sKn (Memref.isWhole_whole _) sVn (Memref.isWhole_whole _) sK (Memref.isWhole_whole _) sV (Memref.isWhole_whole _) sKs (Memref.isWhole_whole _) sVs (Memref.isWhole_whole _) sOut (Memref.isWhole_whole _) sKc (Memref.isWhole_whole _) sKrow (Memref.isWhole_whole _) sVc (Memref.isWhole_whole _) sVrow (Memref.isWhole_whole _) sKf (Memref.isWhole_whole _) sKb (Memref.isWhole_whole _) sVf (Memref.isWhole_whole _) sVb (Memref.isWhole_whole _)
    cc0_scoped0 cc0_scoped1 cc0_scoped2 cc0_scoped3 cc0_scoped4) K := by
  sl_stretch
  simp only [cc0_window_decode_eq_skeleton]; unfold cc0_window_decode_skel
  iintro ⟨HaLen, HaX, HaKn, HaVn, HaCk, HaCv, HaCks, HaCvs, HrOut, HrKc, HrKs, HrVc, HrVs, HsLen, HsX, HsKn, HsVn, HsK,
    HsV, HsKs, HsVs, HsOut, HsKc, HsKrow, HsVc, HsVrow, HsKf, HsKb, HsVf, HsVb, Hq0, Hq1, Hq2, Hq3, Hq4, Hq5,
    Hq6, Hq7, Hq8, Hq9, Hq10, Hq11, Hq12, Hq13, Hq14, Hq15, Hq16, Hq17, Hq18, Hq19, Hq20, Hq21, Hq22, Hq23, Hq24,
    Hq25, Hq26, Hq27, Hq28, Hq29, Hq30, Hq31, Hq32, Hq33, Hq34, Hq35, Hq36, Hq37, Hq38, Hq39, Hq40, HW, HR⟩
  have hchk1 : ∀ w, k0_chk1 w := k0_chk1_all
  have hchk2 : ∀ w, k0_chk2 w := k0_chk2_all
  have hchk3 : ∀ w, k0_chk3 w := k0_chk3_all
  have hchk4 : ∀ w, k0_chk4 w := k0_chk4_all
  have hchk5 : ∀ w, k0_chk5 w := k0_chk5_all
  have hchk6 : ∀ w, k0_chk6 w := k0_chk6_all
  have hchk7 : ∀ w, k0_chk7 w := k0_chk7_all
  have hchk8 : ∀ w, k0_chk8 w := k0_chk8_all
  have hchk9 : ∀ w, k0_chk9 w := k0_chk9_all
  have hchk10 : ∀ w, k0_chk10 w := k0_chk10_all
  have hchk11 : ∀ w, k0_chk11 w := k0_chk11_all
  have hchk12 : ∀ w, k0_chk12 w := k0_chk12_all
  have hchk13 : ∀ w, k0_chk13 w := k0_chk13_all
  have hchk14 : ∀ w, k0_chk14 w := k0_chk14_all
  have hchk15 : ∀ w, k0_chk15 w := k0_chk15_all
  have hchk16 : ∀ w, k0_chk16 w := k0_chk16_all
  set_option sl_exec.stopBefore "k0_part4" in sl_exec
  set_option sl_exec.maxSteps 8 in sl_exec
  generalize hw0 : s1.sl.r c faLen fsLen = w0
  generalize hw1 : s1.sl.r_1 c faLen fsLen = w1
  generalize hw2 : s1.sl.r_2 c faLen fsLen = w2
  generalize hw3 : s1.sl.r_3 c faLen fsLen = w3
  generalize hw4 : s1.sl.r_4 c faLen fsLen = w4
  generalize hw5 : s1.sl.r_5 c faLen fsLen = w5
  generalize hw6 : s1.sl.r_6 c faLen fsLen = w6
  generalize hw7 : s1.sl.r_7 c faLen fsLen = w7
  generalize hw8 : s1.sl.r_8 c faLen fsLen = w8
  generalize hw9 : s1.sl.r_9 c faLen fsLen = w9
  generalize hw10 : s1.sl.r_10 c faLen fsLen = w10
  generalize hw11 : s1.sl.r_11 c faLen fsLen = w11
  generalize hw12 : s1.sl.r_12 c faLen fsLen = w12
  generalize hw13 : s1.sl.r_13 c faLen fsLen = w13
  generalize hw14 : s1.sl.r_14 c faLen fsLen = w14
  generalize hw15 : s1.sl.r_15 c faLen fsLen = w15
  ihave HT := (kSlab_pieces (F := F) c sK fsK).1 $$ HsK
  icases HT with ⟨⟨Dk0, Dk1, Dk2, Dk3, Dk4, Dk5, Dk6, Dk7, Dk8, Dk9, Dk10, Dk11, Dk12, Dk13, Dk14, Dk15⟩, HRsK⟩
  ihave HT := (kSlab_pieces (F := F) c sV fsV).1 $$ HsV
  icases HT with ⟨⟨Dv0, Dv1, Dv2, Dv3, Dv4, Dv5, Dv6, Dv7, Dv8, Dv9, Dv10, Dv11, Dv12, Dv13, Dv14, Dv15⟩, HRsV⟩
  ihave HT := (sRow_pieces (F := F) c sKs fsKs).1 $$ HsKs
  icases HT with ⟨⟨Eks0, Eks1, Eks2, Eks3, Eks4, Eks5, Eks6, Eks7, Eks8, Eks9, Eks10, Eks11, Eks12, Eks13, Eks14, Eks15⟩, HRsKs⟩
  ihave HT := (sRow_pieces (F := F) c sVs fsVs).1 $$ HsVs
  icases HT with ⟨⟨Evs0, Evs1, Evs2, Evs3, Evs4, Evs5, Evs6, Evs7, Evs8, Evs9, Evs10, Evs11, Evs12, Evs13, Evs14, Evs15⟩, HRsVs⟩
  ihave HT := (kWin_pieces (F := F) c aCk w0 w1 w2 w3 w4 w5 w6 w7 w8 w9 w10 w11 w12 w13 w14 w15 faCk).1 $$ HaCk
  icases HT with ⟨⟨Sk0, Sk1, Sk2, Sk3, Sk4, Sk5, Sk6, Sk7, Sk8, Sk9, Sk10, Sk11, Sk12, Sk13, Sk14, Sk15⟩, HRaCk⟩
  ihave HT := (kWin_pieces (F := F) c aCv w0 w1 w2 w3 w4 w5 w6 w7 w8 w9 w10 w11 w12 w13 w14 w15 faCv).1 $$ HaCv
  icases HT with ⟨⟨Sv0, Sv1, Sv2, Sv3, Sv4, Sv5, Sv6, Sv7, Sv8, Sv9, Sv10, Sv11, Sv12, Sv13, Sv14, Sv15⟩, HRaCv⟩
  ihave HT := (sWin_pieces (F := F) c aCks w0 w1 w2 w3 w4 w5 w6 w7 w8 w9 w10 w11 w12 w13 w14 w15 faCks).1 $$ HaCks
  icases HT with ⟨⟨Tk0, Tk1, Tk2, Tk3, Tk4, Tk5, Tk6, Tk7, Tk8, Tk9, Tk10, Tk11, Tk12, Tk13, Tk14, Tk15⟩, HRaCks⟩
  ihave HT := (sWin_pieces (F := F) c aCvs w0 w1 w2 w3 w4 w5 w6 w7 w8 w9 w10 w11 w12 w13 w14 w15 faCvs).1 $$ HaCvs
  icases HT with ⟨⟨Tv0, Tv1, Tv2, Tv3, Tv4, Tv5, Tv6, Tv7, Tv8, Tv9, Tv10, Tv11, Tv12, Tv13, Tv14, Tv15⟩, HRaCvs⟩
  imod (Transfers.mixedBatch_alloc' (Lvl := ℕ) (countersEmb (U := Pipeline.UD sig nD τ)) (c : Thread nD τ) () amounts
    (deliv c (win aCk (k0_off1 w0) (k0_off1_inb w0 (k0_chk1_all w0))) (slab sK 0 inb_S16x1152x128_S1x1152x128_0_0_0)
      (swin aCks (k0_off2 w0) (k0_off2_inb w0 (k0_chk1_all w0))) (row sKs 0 inb_S16x1x1152_S1x1x1152_0_0_0) faCk fsK faCks fsKs)
    (sm := SemLoc.dma 4) (E := Set.univ)) $$ Hq4 with HBk0
  imod (Transfers.mixedBatch_alloc' (Lvl := ℕ) (countersEmb (U := Pipeline.UD sig nD τ)) (c : Thread nD τ) () amounts
    (deliv c (win aCk (k0_off3 w1) (k0_off3_inb w1 (k0_chk2_all w1))) (slab sK 1 inb_S16x1152x128_S1x1152x128_1_0_0)
      (swin aCks (k0_off4 w1) (k0_off4_inb w1 (k0_chk2_all w1))) (row sKs 1 inb_S16x1x1152_S1x1x1152_1_0_0) faCk fsK faCks fsKs)
    (sm := SemLoc.dma 5) (E := Set.univ)) $$ Hq5 with HBk1
  imod (Transfers.mixedBatch_alloc' (Lvl := ℕ) (countersEmb (U := Pipeline.UD sig nD τ)) (c : Thread nD τ) () amounts
    (deliv c (win aCk (k0_off5 w2) (k0_off5_inb w2 (k0_chk3_all w2))) (slab sK 2 inb_S16x1152x128_S1x1152x128_2_0_0)
      (swin aCks (k0_off6 w2) (k0_off6_inb w2 (k0_chk3_all w2))) (row sKs 2 inb_S16x1x1152_S1x1x1152_2_0_0) faCk fsK faCks fsKs)
    (sm := SemLoc.dma 6) (E := Set.univ)) $$ Hq6 with HBk2
  imod (Transfers.mixedBatch_alloc' (Lvl := ℕ) (countersEmb (U := Pipeline.UD sig nD τ)) (c : Thread nD τ) () amounts
    (deliv c (win aCk (k0_off7 w3) (k0_off7_inb w3 (k0_chk4_all w3))) (slab sK 3 inb_S16x1152x128_S1x1152x128_3_0_0)
      (swin aCks (k0_off8 w3) (k0_off8_inb w3 (k0_chk4_all w3))) (row sKs 3 inb_S16x1x1152_S1x1x1152_3_0_0) faCk fsK faCks fsKs)
    (sm := SemLoc.dma 7) (E := Set.univ)) $$ Hq7 with HBk3
  imod (Transfers.mixedBatch_alloc' (Lvl := ℕ) (countersEmb (U := Pipeline.UD sig nD τ)) (c : Thread nD τ) () amounts
    (deliv c (win aCk (k0_off9 w4) (k0_off9_inb w4 (k0_chk5_all w4))) (slab sK 4 inb_S16x1152x128_S1x1152x128_4_0_0)
      (swin aCks (k0_off10 w4) (k0_off10_inb w4 (k0_chk5_all w4))) (row sKs 4 inb_S16x1x1152_S1x1x1152_4_0_0) faCk fsK faCks fsKs)
    (sm := SemLoc.dma 8) (E := Set.univ)) $$ Hq8 with HBk4
  imod (Transfers.mixedBatch_alloc' (Lvl := ℕ) (countersEmb (U := Pipeline.UD sig nD τ)) (c : Thread nD τ) () amounts
    (deliv c (win aCk (k0_off11 w5) (k0_off11_inb w5 (k0_chk6_all w5))) (slab sK 5 inb_S16x1152x128_S1x1152x128_5_0_0)
      (swin aCks (k0_off12 w5) (k0_off12_inb w5 (k0_chk6_all w5))) (row sKs 5 inb_S16x1x1152_S1x1x1152_5_0_0) faCk fsK faCks fsKs)
    (sm := SemLoc.dma 9) (E := Set.univ)) $$ Hq9 with HBk5
  imod (Transfers.mixedBatch_alloc' (Lvl := ℕ) (countersEmb (U := Pipeline.UD sig nD τ)) (c : Thread nD τ) () amounts
    (deliv c (win aCk (k0_off13 w6) (k0_off13_inb w6 (k0_chk7_all w6))) (slab sK 6 inb_S16x1152x128_S1x1152x128_6_0_0)
      (swin aCks (k0_off14 w6) (k0_off14_inb w6 (k0_chk7_all w6))) (row sKs 6 inb_S16x1x1152_S1x1x1152_6_0_0) faCk fsK faCks fsKs)
    (sm := SemLoc.dma 10) (E := Set.univ)) $$ Hq10 with HBk6
  imod (Transfers.mixedBatch_alloc' (Lvl := ℕ) (countersEmb (U := Pipeline.UD sig nD τ)) (c : Thread nD τ) () amounts
    (deliv c (win aCk (k0_off15 w7) (k0_off15_inb w7 (k0_chk8_all w7))) (slab sK 7 inb_S16x1152x128_S1x1152x128_7_0_0)
      (swin aCks (k0_off16 w7) (k0_off16_inb w7 (k0_chk8_all w7))) (row sKs 7 inb_S16x1x1152_S1x1x1152_7_0_0) faCk fsK faCks fsKs)
    (sm := SemLoc.dma 11) (E := Set.univ)) $$ Hq11 with HBk7
  imod (Transfers.mixedBatch_alloc' (Lvl := ℕ) (countersEmb (U := Pipeline.UD sig nD τ)) (c : Thread nD τ) () amounts
    (deliv c (win aCk (k0_off17 w8) (k0_off17_inb w8 (k0_chk9_all w8))) (slab sK 8 inb_S16x1152x128_S1x1152x128_8_0_0)
      (swin aCks (k0_off18 w8) (k0_off18_inb w8 (k0_chk9_all w8))) (row sKs 8 inb_S16x1x1152_S1x1x1152_8_0_0) faCk fsK faCks fsKs)
    (sm := SemLoc.dma 12) (E := Set.univ)) $$ Hq12 with HBk8
  imod (Transfers.mixedBatch_alloc' (Lvl := ℕ) (countersEmb (U := Pipeline.UD sig nD τ)) (c : Thread nD τ) () amounts
    (deliv c (win aCk (k0_off19 w9) (k0_off19_inb w9 (k0_chk10_all w9))) (slab sK 9 inb_S16x1152x128_S1x1152x128_9_0_0)
      (swin aCks (k0_off20 w9) (k0_off20_inb w9 (k0_chk10_all w9))) (row sKs 9 inb_S16x1x1152_S1x1x1152_9_0_0) faCk fsK faCks fsKs)
    (sm := SemLoc.dma 13) (E := Set.univ)) $$ Hq13 with HBk9
  imod (Transfers.mixedBatch_alloc' (Lvl := ℕ) (countersEmb (U := Pipeline.UD sig nD τ)) (c : Thread nD τ) () amounts
    (deliv c (win aCk (k0_off21 w10) (k0_off21_inb w10 (k0_chk11_all w10))) (slab sK 10 inb_S16x1152x128_S1x1152x128_10_0_0)
      (swin aCks (k0_off22 w10) (k0_off22_inb w10 (k0_chk11_all w10))) (row sKs 10 inb_S16x1x1152_S1x1x1152_10_0_0) faCk fsK faCks fsKs)
    (sm := SemLoc.dma 14) (E := Set.univ)) $$ Hq14 with HBk10
  imod (Transfers.mixedBatch_alloc' (Lvl := ℕ) (countersEmb (U := Pipeline.UD sig nD τ)) (c : Thread nD τ) () amounts
    (deliv c (win aCk (k0_off23 w11) (k0_off23_inb w11 (k0_chk12_all w11))) (slab sK 11 inb_S16x1152x128_S1x1152x128_11_0_0)
      (swin aCks (k0_off24 w11) (k0_off24_inb w11 (k0_chk12_all w11))) (row sKs 11 inb_S16x1x1152_S1x1x1152_11_0_0) faCk fsK faCks fsKs)
    (sm := SemLoc.dma 15) (E := Set.univ)) $$ Hq15 with HBk11
  imod (Transfers.mixedBatch_alloc' (Lvl := ℕ) (countersEmb (U := Pipeline.UD sig nD τ)) (c : Thread nD τ) () amounts
    (deliv c (win aCk (k0_off25 w12) (k0_off25_inb w12 (k0_chk13_all w12))) (slab sK 12 inb_S16x1152x128_S1x1152x128_12_0_0)
      (swin aCks (k0_off26 w12) (k0_off26_inb w12 (k0_chk13_all w12))) (row sKs 12 inb_S16x1x1152_S1x1x1152_12_0_0) faCk fsK faCks fsKs)
    (sm := SemLoc.dma 16) (E := Set.univ)) $$ Hq16 with HBk12
  imod (Transfers.mixedBatch_alloc' (Lvl := ℕ) (countersEmb (U := Pipeline.UD sig nD τ)) (c : Thread nD τ) () amounts
    (deliv c (win aCk (k0_off27 w13) (k0_off27_inb w13 (k0_chk14_all w13))) (slab sK 13 inb_S16x1152x128_S1x1152x128_13_0_0)
      (swin aCks (k0_off28 w13) (k0_off28_inb w13 (k0_chk14_all w13))) (row sKs 13 inb_S16x1x1152_S1x1x1152_13_0_0) faCk fsK faCks fsKs)
    (sm := SemLoc.dma 17) (E := Set.univ)) $$ Hq17 with HBk13
  imod (Transfers.mixedBatch_alloc' (Lvl := ℕ) (countersEmb (U := Pipeline.UD sig nD τ)) (c : Thread nD τ) () amounts
    (deliv c (win aCk (k0_off29 w14) (k0_off29_inb w14 (k0_chk15_all w14))) (slab sK 14 inb_S16x1152x128_S1x1152x128_14_0_0)
      (swin aCks (k0_off30 w14) (k0_off30_inb w14 (k0_chk15_all w14))) (row sKs 14 inb_S16x1x1152_S1x1x1152_14_0_0) faCk fsK faCks fsKs)
    (sm := SemLoc.dma 18) (E := Set.univ)) $$ Hq18 with HBk14
  imod (Transfers.mixedBatch_alloc' (Lvl := ℕ) (countersEmb (U := Pipeline.UD sig nD τ)) (c : Thread nD τ) () amounts
    (deliv c (win aCk (k0_off31 w15) (k0_off31_inb w15 (k0_chk16_all w15))) (slab sK 15 inb_S16x1152x128_S1x1152x128_15_0_0)
      (swin aCks (k0_off32 w15) (k0_off32_inb w15 (k0_chk16_all w15))) (row sKs 15 inb_S16x1x1152_S1x1x1152_15_0_0) faCk fsK faCks fsKs)
    (sm := SemLoc.dma 19) (E := Set.univ)) $$ Hq19 with HBk15
  imod (Transfers.mixedBatch_alloc' (Lvl := ℕ) (countersEmb (U := Pipeline.UD sig nD τ)) (c : Thread nD τ) () amounts
    (deliv c (win aCv (k0_off1 w0) (k0_off1_inb w0 (k0_chk1_all w0))) (slab sV 0 inb_S16x1152x128_S1x1152x128_0_0_0)
      (swin aCvs (k0_off2 w0) (k0_off2_inb w0 (k0_chk1_all w0))) (row sVs 0 inb_S16x1x1152_S1x1x1152_0_0_0) faCv fsV faCvs fsVs)
    (sm := SemLoc.dma 20) (E := Set.univ)) $$ Hq20 with HBv0
  imod (Transfers.mixedBatch_alloc' (Lvl := ℕ) (countersEmb (U := Pipeline.UD sig nD τ)) (c : Thread nD τ) () amounts
    (deliv c (win aCv (k0_off3 w1) (k0_off3_inb w1 (k0_chk2_all w1))) (slab sV 1 inb_S16x1152x128_S1x1152x128_1_0_0)
      (swin aCvs (k0_off4 w1) (k0_off4_inb w1 (k0_chk2_all w1))) (row sVs 1 inb_S16x1x1152_S1x1x1152_1_0_0) faCv fsV faCvs fsVs)
    (sm := SemLoc.dma 21) (E := Set.univ)) $$ Hq21 with HBv1
  imod (Transfers.mixedBatch_alloc' (Lvl := ℕ) (countersEmb (U := Pipeline.UD sig nD τ)) (c : Thread nD τ) () amounts
    (deliv c (win aCv (k0_off5 w2) (k0_off5_inb w2 (k0_chk3_all w2))) (slab sV 2 inb_S16x1152x128_S1x1152x128_2_0_0)
      (swin aCvs (k0_off6 w2) (k0_off6_inb w2 (k0_chk3_all w2))) (row sVs 2 inb_S16x1x1152_S1x1x1152_2_0_0) faCv fsV faCvs fsVs)
    (sm := SemLoc.dma 22) (E := Set.univ)) $$ Hq22 with HBv2
  imod (Transfers.mixedBatch_alloc' (Lvl := ℕ) (countersEmb (U := Pipeline.UD sig nD τ)) (c : Thread nD τ) () amounts
    (deliv c (win aCv (k0_off7 w3) (k0_off7_inb w3 (k0_chk4_all w3))) (slab sV 3 inb_S16x1152x128_S1x1152x128_3_0_0)
      (swin aCvs (k0_off8 w3) (k0_off8_inb w3 (k0_chk4_all w3))) (row sVs 3 inb_S16x1x1152_S1x1x1152_3_0_0) faCv fsV faCvs fsVs)
    (sm := SemLoc.dma 23) (E := Set.univ)) $$ Hq23 with HBv3
  imod (Transfers.mixedBatch_alloc' (Lvl := ℕ) (countersEmb (U := Pipeline.UD sig nD τ)) (c : Thread nD τ) () amounts
    (deliv c (win aCv (k0_off9 w4) (k0_off9_inb w4 (k0_chk5_all w4))) (slab sV 4 inb_S16x1152x128_S1x1152x128_4_0_0)
      (swin aCvs (k0_off10 w4) (k0_off10_inb w4 (k0_chk5_all w4))) (row sVs 4 inb_S16x1x1152_S1x1x1152_4_0_0) faCv fsV faCvs fsVs)
    (sm := SemLoc.dma 24) (E := Set.univ)) $$ Hq24 with HBv4
  imod (Transfers.mixedBatch_alloc' (Lvl := ℕ) (countersEmb (U := Pipeline.UD sig nD τ)) (c : Thread nD τ) () amounts
    (deliv c (win aCv (k0_off11 w5) (k0_off11_inb w5 (k0_chk6_all w5))) (slab sV 5 inb_S16x1152x128_S1x1152x128_5_0_0)
      (swin aCvs (k0_off12 w5) (k0_off12_inb w5 (k0_chk6_all w5))) (row sVs 5 inb_S16x1x1152_S1x1x1152_5_0_0) faCv fsV faCvs fsVs)
    (sm := SemLoc.dma 25) (E := Set.univ)) $$ Hq25 with HBv5
  imod (Transfers.mixedBatch_alloc' (Lvl := ℕ) (countersEmb (U := Pipeline.UD sig nD τ)) (c : Thread nD τ) () amounts
    (deliv c (win aCv (k0_off13 w6) (k0_off13_inb w6 (k0_chk7_all w6))) (slab sV 6 inb_S16x1152x128_S1x1152x128_6_0_0)
      (swin aCvs (k0_off14 w6) (k0_off14_inb w6 (k0_chk7_all w6))) (row sVs 6 inb_S16x1x1152_S1x1x1152_6_0_0) faCv fsV faCvs fsVs)
    (sm := SemLoc.dma 26) (E := Set.univ)) $$ Hq26 with HBv6
  imod (Transfers.mixedBatch_alloc' (Lvl := ℕ) (countersEmb (U := Pipeline.UD sig nD τ)) (c : Thread nD τ) () amounts
    (deliv c (win aCv (k0_off15 w7) (k0_off15_inb w7 (k0_chk8_all w7))) (slab sV 7 inb_S16x1152x128_S1x1152x128_7_0_0)
      (swin aCvs (k0_off16 w7) (k0_off16_inb w7 (k0_chk8_all w7))) (row sVs 7 inb_S16x1x1152_S1x1x1152_7_0_0) faCv fsV faCvs fsVs)
    (sm := SemLoc.dma 27) (E := Set.univ)) $$ Hq27 with HBv7
  imod (Transfers.mixedBatch_alloc' (Lvl := ℕ) (countersEmb (U := Pipeline.UD sig nD τ)) (c : Thread nD τ) () amounts
    (deliv c (win aCv (k0_off17 w8) (k0_off17_inb w8 (k0_chk9_all w8))) (slab sV 8 inb_S16x1152x128_S1x1152x128_8_0_0)
      (swin aCvs (k0_off18 w8) (k0_off18_inb w8 (k0_chk9_all w8))) (row sVs 8 inb_S16x1x1152_S1x1x1152_8_0_0) faCv fsV faCvs fsVs)
    (sm := SemLoc.dma 28) (E := Set.univ)) $$ Hq28 with HBv8
  imod (Transfers.mixedBatch_alloc' (Lvl := ℕ) (countersEmb (U := Pipeline.UD sig nD τ)) (c : Thread nD τ) () amounts
    (deliv c (win aCv (k0_off19 w9) (k0_off19_inb w9 (k0_chk10_all w9))) (slab sV 9 inb_S16x1152x128_S1x1152x128_9_0_0)
      (swin aCvs (k0_off20 w9) (k0_off20_inb w9 (k0_chk10_all w9))) (row sVs 9 inb_S16x1x1152_S1x1x1152_9_0_0) faCv fsV faCvs fsVs)
    (sm := SemLoc.dma 29) (E := Set.univ)) $$ Hq29 with HBv9
  imod (Transfers.mixedBatch_alloc' (Lvl := ℕ) (countersEmb (U := Pipeline.UD sig nD τ)) (c : Thread nD τ) () amounts
    (deliv c (win aCv (k0_off21 w10) (k0_off21_inb w10 (k0_chk11_all w10))) (slab sV 10 inb_S16x1152x128_S1x1152x128_10_0_0)
      (swin aCvs (k0_off22 w10) (k0_off22_inb w10 (k0_chk11_all w10))) (row sVs 10 inb_S16x1x1152_S1x1x1152_10_0_0) faCv fsV faCvs fsVs)
    (sm := SemLoc.dma 30) (E := Set.univ)) $$ Hq30 with HBv10
  imod (Transfers.mixedBatch_alloc' (Lvl := ℕ) (countersEmb (U := Pipeline.UD sig nD τ)) (c : Thread nD τ) () amounts
    (deliv c (win aCv (k0_off23 w11) (k0_off23_inb w11 (k0_chk12_all w11))) (slab sV 11 inb_S16x1152x128_S1x1152x128_11_0_0)
      (swin aCvs (k0_off24 w11) (k0_off24_inb w11 (k0_chk12_all w11))) (row sVs 11 inb_S16x1x1152_S1x1x1152_11_0_0) faCv fsV faCvs fsVs)
    (sm := SemLoc.dma 31) (E := Set.univ)) $$ Hq31 with HBv11
  imod (Transfers.mixedBatch_alloc' (Lvl := ℕ) (countersEmb (U := Pipeline.UD sig nD τ)) (c : Thread nD τ) () amounts
    (deliv c (win aCv (k0_off25 w12) (k0_off25_inb w12 (k0_chk13_all w12))) (slab sV 12 inb_S16x1152x128_S1x1152x128_12_0_0)
      (swin aCvs (k0_off26 w12) (k0_off26_inb w12 (k0_chk13_all w12))) (row sVs 12 inb_S16x1x1152_S1x1x1152_12_0_0) faCv fsV faCvs fsVs)
    (sm := SemLoc.dma 32) (E := Set.univ)) $$ Hq32 with HBv12
  imod (Transfers.mixedBatch_alloc' (Lvl := ℕ) (countersEmb (U := Pipeline.UD sig nD τ)) (c : Thread nD τ) () amounts
    (deliv c (win aCv (k0_off27 w13) (k0_off27_inb w13 (k0_chk14_all w13))) (slab sV 13 inb_S16x1152x128_S1x1152x128_13_0_0)
      (swin aCvs (k0_off28 w13) (k0_off28_inb w13 (k0_chk14_all w13))) (row sVs 13 inb_S16x1x1152_S1x1x1152_13_0_0) faCv fsV faCvs fsVs)
    (sm := SemLoc.dma 33) (E := Set.univ)) $$ Hq33 with HBv13
  imod (Transfers.mixedBatch_alloc' (Lvl := ℕ) (countersEmb (U := Pipeline.UD sig nD τ)) (c : Thread nD τ) () amounts
    (deliv c (win aCv (k0_off29 w14) (k0_off29_inb w14 (k0_chk15_all w14))) (slab sV 14 inb_S16x1152x128_S1x1152x128_14_0_0)
      (swin aCvs (k0_off30 w14) (k0_off30_inb w14 (k0_chk15_all w14))) (row sVs 14 inb_S16x1x1152_S1x1x1152_14_0_0) faCv fsV faCvs fsVs)
    (sm := SemLoc.dma 34) (E := Set.univ)) $$ Hq34 with HBv14
  imod (Transfers.mixedBatch_alloc' (Lvl := ℕ) (countersEmb (U := Pipeline.UD sig nD τ)) (c : Thread nD τ) () amounts
    (deliv c (win aCv (k0_off31 w15) (k0_off31_inb w15 (k0_chk16_all w15))) (slab sV 15 inb_S16x1152x128_S1x1152x128_15_0_0)
      (swin aCvs (k0_off32 w15) (k0_off32_inb w15 (k0_chk16_all w15))) (row sVs 15 inb_S16x1x1152_S1x1x1152_15_0_0) faCv fsV faCvs fsVs)
    (sm := SemLoc.dma 35) (E := Set.univ)) $$ Hq35 with HBv15
  unfold deliv
  set_option sl_exec.stopBefore "k0_part31" in sl_exec_parts
  sl_seam

end Cert.KernelIdeal.Hand
-- ==== Proof.RunI2.lean ====
/-
  The decode kernel's body run on its sixteen sequences, stretch 2: from `k0_part31` to `k0_part65`.
-/
module

public import proofs.«01_k».proof.Proof.RunI1

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s2 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s1 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part65" in sl_exec_parts
  sl_seam

end Cert.KernelIdeal.Hand
-- ==== Proof.RunI3.lean ====
/-
  The decode kernel's body run on its sixteen sequences, stretch 3: from `k0_part65` to `k0_part99`.
-/
module

public import proofs.«01_k».proof.Proof.RunI2

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s3 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s2 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part99" in sl_exec_parts
  sl_seam

end Cert.KernelIdeal.Hand
-- ==== Proof.RunI4.lean ====
/-
  The decode kernel's body run on its sixteen sequences, stretch 4: from `k0_part99` to `k0_part125`.
-/
module

public import proofs.«01_k».proof.Proof.RunI3

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s4 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s3 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part125" in sl_exec_parts
  sl_seam

end Cert.KernelIdeal.Hand
-- ==== Proof.RunI5.lean ====
/-
  The decode kernel's body run on its sixteen sequences, stretch 5: from `k0_part125` to `k0_part138`.
-/
module

public import proofs.«01_k».proof.Proof.RunI4

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s5 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s4 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part138" in sl_exec_parts
  sl_seam

end Cert.KernelIdeal.Hand
-- ==== Proof.RunI6.lean ====
/-
  The decode kernel's body run on its sixteen sequences, stretch 6: from `k0_part138` to `k0_part152`.
-/
module

public import proofs.«01_k».proof.Proof.RunI5

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s6 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s5 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.stopBefore "k0_part152" in sl_exec_parts
  sl_seam

end Cert.KernelIdeal.Hand
-- ==== Proof.RunI7.lean ====
/-
  The decode kernel's body run on its sixteen sequences, stretch 7: from `k0_part152` to the output's copy, which it starts.
-/
module

public import proofs.«01_k».proof.Proof.RunI6

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

def s7 (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)
    (W : Waits sig Unit) (R : sProp 𝕄) (K : PUnit → sProp 𝕄) :
    Σ' (G : Prop), G → (s6 c faLen faX faKn faVn faCk faCv faCks faCvs frOut frKc frKs frVc frVs fsLen fsX fsKn fsVn fsK fsV fsKs fsVs fsOut fsKc fsKrow fsVc fsVrow fsKf fsKb fsVf fsVb W R K).1 := by
  sl_stretch
  sl_resume
  set_option sl_exec.maxSteps 21 in sl_exec_parts
  sl_seam

end Cert.KernelIdeal.Hand
-- ==== Proof.RunI8.lean ====
/-
  The decode kernel's body run whole: what its seven stretches leave, put back together.  Every argument comes back as it
  went in, the five results at what their copies wrote, every semaphore at zero.
-/
module

public import proofs.«01_k».proof.Proof.RunI7

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The slabs put back together -/

theorem kSlab_whole (c : Dev nD) (M : Memref sig .tc .vmem S16x1152x128 .fp8e4m3) (f0 f1 f2 f3 f4 f5 f6 f7 f8 f9 f10 f11 f12 f13 f14 f15 f : Bf (F := F) c M) :
    (iprop((wpt c (slab M 0 inb_S16x1152x128_S1x1152x128_0_0_0) f0 ∗ wpt c (slab M 1 inb_S16x1152x128_S1x1152x128_1_0_0) f1 ∗ wpt c (slab M 2 inb_S16x1152x128_S1x1152x128_2_0_0) f2 ∗ wpt c (slab M 3 inb_S16x1152x128_S1x1152x128_3_0_0) f3 ∗ wpt c (slab M 4 inb_S16x1152x128_S1x1152x128_4_0_0) f4 ∗ wpt c (slab M 5 inb_S16x1152x128_S1x1152x128_5_0_0) f5 ∗ wpt c (slab M 6 inb_S16x1152x128_S1x1152x128_6_0_0) f6 ∗ wpt c (slab M 7 inb_S16x1152x128_S1x1152x128_7_0_0) f7 ∗ wpt c (slab M 8 inb_S16x1152x128_S1x1152x128_8_0_0) f8 ∗ wpt c (slab M 9 inb_S16x1152x128_S1x1152x128_9_0_0) f9 ∗ wpt c (slab M 10 inb_S16x1152x128_S1x1152x128_10_0_0) f10 ∗ wpt c (slab M 11 inb_S16x1152x128_S1x1152x128_11_0_0) f11 ∗ wpt c (slab M 12 inb_S16x1152x128_S1x1152x128_12_0_0) f12 ∗ wpt c (slab M 13 inb_S16x1152x128_S1x1152x128_13_0_0) f13 ∗ wpt c (slab M 14 inb_S16x1152x128_S1x1152x128_14_0_0) f14 ∗ wpt c (slab M 15 inb_S16x1152x128_S1x1152x128_15_0_0) f15)
      ∗ M.view.loc (c : Thread nD τ) ↦[restOf (ℓ := M.view.loc (c : Thread nD τ)) (kSlab M)]{fullShare} f) : sProp 𝕄)
    ⊢ ∃ g : Bf (F := F) c M, pt c M g :=
  kSlab_join c M ![f0, f1, f2, f3, f4, f5, f6, f7, f8, f9, f10, f11, f12, f13, f14, f15] f

theorem sRow_whole (c : Dev nD) (M : Memref sig .tc .vmem S16x1x1152 .f32) (f0 f1 f2 f3 f4 f5 f6 f7 f8 f9 f10 f11 f12 f13 f14 f15 f : Bf (F := F) c M) :
    (iprop((wpt c (row M 0 inb_S16x1x1152_S1x1x1152_0_0_0) f0 ∗ wpt c (row M 1 inb_S16x1x1152_S1x1x1152_1_0_0) f1 ∗ wpt c (row M 2 inb_S16x1x1152_S1x1x1152_2_0_0) f2 ∗ wpt c (row M 3 inb_S16x1x1152_S1x1x1152_3_0_0) f3 ∗ wpt c (row M 4 inb_S16x1x1152_S1x1x1152_4_0_0) f4 ∗ wpt c (row M 5 inb_S16x1x1152_S1x1x1152_5_0_0) f5 ∗ wpt c (row M 6 inb_S16x1x1152_S1x1x1152_6_0_0) f6 ∗ wpt c (row M 7 inb_S16x1x1152_S1x1x1152_7_0_0) f7 ∗ wpt c (row M 8 inb_S16x1x1152_S1x1x1152_8_0_0) f8 ∗ wpt c (row M 9 inb_S16x1x1152_S1x1x1152_9_0_0) f9 ∗ wpt c (row M 10 inb_S16x1x1152_S1x1x1152_10_0_0) f10 ∗ wpt c (row M 11 inb_S16x1x1152_S1x1x1152_11_0_0) f11 ∗ wpt c (row M 12 inb_S16x1x1152_S1x1x1152_12_0_0) f12 ∗ wpt c (row M 13 inb_S16x1x1152_S1x1x1152_13_0_0) f13 ∗ wpt c (row M 14 inb_S16x1x1152_S1x1x1152_14_0_0) f14 ∗ wpt c (row M 15 inb_S16x1x1152_S1x1x1152_15_0_0) f15)
      ∗ M.view.loc (c : Thread nD τ) ↦[restOf (ℓ := M.view.loc (c : Thread nD τ)) (sRow M)]{fullShare} f) : sProp 𝕄)
    ⊢ ∃ g : Bf (F := F) c M, pt c M g :=
  sRow_join c M ![f0, f1, f2, f3, f4, f5, f6, f7, f8, f9, f10, f11, f12, f13, f14, f15] f

/-! ## What the results hold at the end -/

def endOut (c : Dev nD) (faLen : Bf (F := F) c aLen) (faX : Bf (F := F) c aX) (faKn : Bf (F := F) c aKn) (faVn : Bf (F := F) c aVn) (faCk : Bf (F := F) c aCk) (faCv : Bf (F := F) c aCv) (faCks : Bf (F := F) c aCks) (faCvs : Bf (F := F) c aCvs) (fsLen : Bf (F := F) c sLen) (fsX : Bf (F := F) c sX) (fsKn : Bf (F := F) c sKn) (fsVn : Bf (F := F) c sVn) (fsOut : Bf (F := F) c sOut) (frOut : Bf (F := F) c rOut) : Bf (F := F) c rOut :=
  View.write (Elt F) rOut.view frOut (s7.sl.dma14 c faLen faX faKn faVn faCk faCv faCks faCvs fsLen fsX fsKn fsVn fsOut (s1.sl.r c faLen fsLen) (s1.sl.r_1 c faLen fsLen) (s1.sl.r_2 c faLen fsLen) (s1.sl.r_3 c faLen fsLen) (s1.sl.r_4 c faLen fsLen) (s1.sl.r_5 c faLen fsLen) (s1.sl.r_6 c faLen fsLen) (s1.sl.r_7 c faLen fsLen) (s1.sl.r_8 c faLen fsLen) (s1.sl.r_9 c faLen fsLen) (s1.sl.r_10 c faLen fsLen) (s1.sl.r_11 c faLen fsLen) (s1.sl.r_12 c faLen fsLen) (s1.sl.r_13 c faLen fsLen) (s1.sl.r_14 c faLen fsLen) (s1.sl.r_15 c faLen fsLen)) Finset.univ

def endKc (c : Dev nD) (faKn : Bf (F := F) c aKn) (fsKn : Bf (F := F) c sKn) (fsKc : Bf (F := F) c sKc) (frKc : Bf (F := F) c rKc) : Bf (F := F) c rKc :=
  View.write (Elt F) rKc.view frKc (s2.sl.dma0 c faKn fsKn fsKc) Finset.univ

def endKs (c : Dev nD) (faKn : Bf (F := F) c aKn) (fsKn : Bf (F := F) c sKn) (fsKrow : Bf (F := F) c sKrow) (frKs : Bf (F := F) c rKs) : Bf (F := F) c rKs :=
  View.write (Elt F) rKs.view frKs (s2.sl.dma0_1 c faKn fsKn fsKrow) Finset.univ

def endVc (c : Dev nD) (faVn : Bf (F := F) c aVn) (fsVn : Bf (F := F) c sVn) (fsVc : Bf (F := F) c sVc) (frVc : Bf (F := F) c rVc) : Bf (F := F) c rVc :=
  View.write (Elt F) rVc.view frVc (s2.sl.dma0_2 c faVn fsVn fsVc) Finset.univ

def endVs (c : Dev nD) (faVn : Bf (F := F) c aVn) (fsVn : Bf (F := F) c sVn) (fsVrow : Bf (F := F) c sVrow) (frVs : Bf (F := F) c rVs) : Bf (F := F) c rVs :=
  View.write (Elt F) rVs.view frVs (s2.sl.dma0_3 c faVn fsVn fsVrow) Finset.univ

/-! ## The run -/

theorem body_run (c : Dev nD)
    (faLen : Bf (F := F) c aLen) (faX : Bf (F := F) c aX) (faKn : Bf (F := F) c aKn) (faVn : Bf (F := F) c aVn)
    (faCk : Bf (F := F) c aCk) (faCv : Bf (F := F) c aCv) (faCks : Bf (F := F) c aCks)
    (faCvs : Bf (F := F) c aCvs) (frOut : Bf (F := F) c rOut) (frKc : Bf (F := F) c rKc)
    (frKs : Bf (F := F) c rKs) (frVc : Bf (F := F) c rVc) (frVs : Bf (F := F) c rVs) (fsLen : Bf (F := F) c sLen)
    (fsX : Bf (F := F) c sX) (fsKn : Bf (F := F) c sKn) (fsVn : Bf (F := F) c sVn) (fsK : Bf (F := F) c sK)
    (fsV : Bf (F := F) c sV) (fsKs : Bf (F := F) c sKs) (fsVs : Bf (F := F) c sVs) (fsOut : Bf (F := F) c sOut)
    (fsKc : Bf (F := F) c sKc) (fsKrow : Bf (F := F) c sKrow) (fsVc : Bf (F := F) c sVc)
    (fsVrow : Bf (F := F) c sVrow) (fsKf : Bf (F := F) c sKf) (fsKb : Bf (F := F) c sKb)
    (fsVf : Bf (F := F) c sVf) (fsVb : Bf (F := F) c sVb)

    (W : Waits sig Unit) (K : PUnit → sProp 𝕄) :
    (iprop(pt c aLen faLen ∗ pt c aX faX ∗ pt c aKn faKn ∗ pt c aVn faVn ∗ pt c aCk faCk ∗ pt c aCv faCv ∗
    pt c aCks faCks ∗ pt c aCvs faCvs ∗ pt c rOut frOut ∗ pt c rKc frKc ∗ pt c rKs frKs ∗ pt c rVc frVc ∗
    pt c rVs frVs ∗ pt c sLen fsLen ∗ pt c sX fsX ∗ pt c sKn fsKn ∗ pt c sVn fsVn ∗ pt c sK fsK ∗ pt c sV fsV ∗
    pt c sKs fsKs ∗ pt c sVs fsVs ∗ pt c sOut fsOut ∗ pt c sKc fsKc ∗ pt c sKrow fsKrow ∗ pt c sVc fsVc ∗
    pt c sVrow fsVrow ∗ pt c sKf fsKf ∗ pt c sKb fsKb ∗ pt c sVf fsVf ∗ pt c sVb fsVb ∗
    semVal ((c : Thread nD τ), SemLoc.dma 0) 0 ∗ semVal ((c : Thread nD τ), SemLoc.dma 1) 0 ∗
    semVal ((c : Thread nD τ), SemLoc.dma 2) 0 ∗ semVal ((c : Thread nD τ), SemLoc.dma 3) 0 ∗
    semVal ((c : Thread nD τ), SemLoc.dma 4) 0 ∗ semVal ((c : Thread nD τ), SemLoc.dma 5) 0 ∗
    semVal ((c : Thread nD τ), SemLoc.dma 6) 0 ∗ semVal ((c : Thread nD τ), SemLoc.dma 7) 0 ∗
    semVal ((c : Thread nD τ), SemLoc.dma 8) 0 ∗ semVal ((c : Thread nD τ), SemLoc.dma 9) 0 ∗
    semVal ((c : Thread nD τ), SemLoc.dma 10) 0 ∗ semVal ((c : Thread nD τ), SemLoc.dma 11) 0 ∗
    semVal ((c : Thread nD τ), SemLoc.dma 12) 0 ∗ semVal ((c : Thread nD τ), SemLoc.dma 13) 0 ∗
    semVal ((c : Thread nD τ), SemLoc.dma 14) 0 ∗ semVal ((c : Thread nD τ), SemLoc.dma 15) 0 ∗
    semVal ((c : Thread nD τ), SemLoc.dma 16) 0 ∗ semVal ((c : Thread nD τ), SemLoc.dma 17) 0 ∗
    semVal ((c : Thread nD τ), SemLoc.dma 18) 0 ∗ semVal ((c : Thread nD τ), SemLoc.dma 19) 0 ∗
    semVal ((c : Thread nD τ), SemLoc.dma 20) 0 ∗ semVal ((c : Thread nD τ), SemLoc.dma 21) 0 ∗
    semVal ((c : Thread nD τ), SemLoc.dma 22) 0 ∗ semVal ((c : Thread nD τ), SemLoc.dma 23) 0 ∗
    semVal ((c : Thread nD τ), SemLoc.dma 24) 0 ∗ semVal ((c : Thread nD τ), SemLoc.dma 25) 0 ∗
    semVal ((c : Thread nD τ), SemLoc.dma 26) 0 ∗ semVal ((c : Thread nD τ), SemLoc.dma 27) 0 ∗
    semVal ((c : Thread nD τ), SemLoc.dma 28) 0 ∗ semVal ((c : Thread nD τ), SemLoc.dma 29) 0 ∗
    semVal ((c : Thread nD τ), SemLoc.dma 30) 0 ∗ semVal ((c : Thread nD τ), SemLoc.dma 31) 0 ∗
    semVal ((c : Thread nD τ), SemLoc.dma 32) 0 ∗ semVal ((c : Thread nD τ), SemLoc.dma 33) 0 ∗
    semVal ((c : Thread nD τ), SemLoc.dma 34) 0 ∗ semVal ((c : Thread nD τ), SemLoc.dma 35) 0 ∗
    semVal ((c : Thread nD τ), SemLoc.dma 36) 0 ∗ semVal ((c : Thread nD τ), SemLoc.dma 37) 0 ∗
    semVal ((c : Thread nD τ), SemLoc.dma 38) 0 ∗ semVal ((c : Thread nD τ), SemLoc.dma 39) 0 ∗
    semVal ((c : Thread nD τ), SemLoc.dma 40) 0 ∗ owes (c : Thread nD τ) 0 W
    ∗ ((pt c aLen faLen ∗ pt c aX faX ∗ pt c aKn faKn ∗ pt c aVn faVn ∗ pt c aCk faCk ∗ pt c aCv faCv ∗ pt c aCks faCks ∗ pt c aCvs faCvs ∗ pt c rOut (endOut c faLen faX faKn faVn faCk faCv faCks faCvs fsLen fsX fsKn fsVn fsOut frOut) ∗ pt c rKc (endKc c faKn fsKn fsKc frKc) ∗ pt c rKs (endKs c faKn fsKn fsKrow frKs) ∗ pt c rVc (endVc c faVn fsVn fsVc frVc) ∗ pt c rVs (endVs c faVn fsVn fsVrow frVs) ∗ (∃ f : Bf (F := F) c sLen, pt c sLen f) ∗ (∃ f : Bf (F := F) c sX, pt c sX f) ∗ (∃ f : Bf (F := F) c sKn, pt c sKn f) ∗ (∃ f : Bf (F := F) c sVn, pt c sVn f) ∗ (∃ f : Bf (F := F) c sK, pt c sK f) ∗ (∃ f : Bf (F := F) c sV, pt c sV f) ∗ (∃ f : Bf (F := F) c sKs, pt c sKs f) ∗ (∃ f : Bf (F := F) c sVs, pt c sVs f) ∗ (∃ f : Bf (F := F) c sOut, pt c sOut f) ∗ (∃ f : Bf (F := F) c sKc, pt c sKc f) ∗ (∃ f : Bf (F := F) c sKrow, pt c sKrow f) ∗ (∃ f : Bf (F := F) c sVc, pt c sVc f) ∗ (∃ f : Bf (F := F) c sVrow, pt c sVrow f) ∗ (∃ f : Bf (F := F) c sKf, pt c sKf f) ∗ (∃ f : Bf (F := F) c sKb, pt c sKb f) ∗ (∃ f : Bf (F := F) c sVf, pt c sVf f) ∗ (∃ f : Bf (F := F) c sVb, pt c sVb f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ (∃ W' : Waits sig Unit, owes (c : Thread nD τ) 0 W'))
      -∗ K PUnit.unit)) : sProp 𝕄) ⊢
    wp frame (wpE (defs₀ (F := F)) Variants.none c none) Set.univ
    (cc0_window_decode aLen (Memref.isWhole_whole _) aX (Memref.isWhole_whole _) aKn (Memref.isWhole_whole _) aVn (Memref.isWhole_whole _) aCk (Memref.isWhole_whole _) aCv (Memref.isWhole_whole _) aCks (Memref.isWhole_whole _) aCvs (Memref.isWhole_whole _) rOut (Memref.isWhole_whole _) rKc (Memref.isWhole_whole _) rKs (Memref.isWhole_whole _) rVc (Memref.isWhole_whole _) rVs (Memref.isWhole_whole _) sLen (Memref.isWhole_whole _) sX (Memref.isWhole_whole _) sKn (Memref.isWhole_whole _) sVn (Memref.isWhole_whole _) sK (Memref.isWhole_whole _) sV (Memref.isWhole_whole _) sKs (Memref.isWhole_whole _) sVs (Memref.isWhole_whole _) sOut (Memref.isWhole_whole _) sKc (Memref.isWhole_whole _) sKrow (Memref.isWhole_whole _) sVc (Memref.isWhole_whole _) sVrow (Memref.isWhole_whole _) sKf (Memref.isWhole_whole _) sKb (Memref.isWhole_whole _) sVf (Memref.isWhole_whole _) sVb (Memref.isWhole_whole _)
    cc0_scoped0 cc0_scoped1 cc0_scoped2 cc0_scoped3 cc0_scoped4) K := by
  refine ((s1 c faLen faX faKn faVn faCk faCv faCks faCvs frOut frKc frKs frVc frVs fsLen fsX fsKn fsVn fsK fsV fsKs fsVs fsOut fsKc fsKrow fsVc fsVrow fsKf fsKb fsVf fsVb W _ K).2 ((s2 c faLen faX faKn faVn faCk faCv faCks faCvs frOut frKc frKs frVc frVs fsLen fsX fsKn fsVn fsK fsV fsKs fsVs fsOut fsKc fsKrow fsVc fsVrow fsKf fsKb fsVf fsVb W _ K).2 ((s3 c faLen faX faKn faVn faCk faCv faCks faCvs frOut frKc frKs frVc frVs fsLen fsX fsKn fsVn fsK fsV fsKs fsVs fsOut fsKc fsKrow fsVc fsVrow fsKf fsKb fsVf fsVb W _ K).2 ((s4 c faLen faX faKn faVn faCk faCv faCks faCvs frOut frKc frKs frVc frVs fsLen fsX fsKn fsVn fsK fsV fsKs fsVs fsOut fsKc fsKrow fsVc fsVrow fsKf fsKb fsVf fsVb W _ K).2 ((s5 c faLen faX faKn faVn faCk faCv faCks faCvs frOut frKc frKs frVc frVs fsLen fsX fsKn fsVn fsK fsV fsKs fsVs fsOut fsKc fsKrow fsVc fsVrow fsKf fsKb fsVf fsVb W _ K).2 ((s6 c faLen faX faKn faVn faCk faCv faCks faCvs frOut frKc frKs frVc frVs fsLen fsX fsKn fsVn fsK fsV fsKs fsVs fsOut fsKc fsKrow fsVc fsVrow fsKf fsKb fsVf fsVb W _ K).2 ((s7 c faLen faX faKn faVn faCk faCv faCks faCvs frOut frKc frKs frVc frVs fsLen fsX fsKn fsVn fsK fsV fsKs fsVs fsOut fsKc fsKrow fsVc fsVrow fsKf fsKb fsVf fsVb W _ K).2 ?_)))))))
  sl_resume
  sl_exec_parts
  sl_step
  subst hw0 hw1 hw2 hw3 hw4 hw5 hw6 hw7 hw8 hw9 hw10 hw11 hw12 hw13 hw14 hw15
  iapply HR
  isplitl [HaLen]; · iexact HaLen
  isplitl [HaX]; · iexact HaX
  isplitl [HaKn]; · iexact HaKn
  isplitl [HaVn]; · iexact HaVn
  isplitl [HBk0_src0 HBk1_src0 HBk2_src0 HBk3_src0 HBk4_src0 HBk5_src0 HBk6_src0 HBk7_src0 HBk8_src0 HBk9_src0 HBk10_src0 HBk11_src0 HBk12_src0 HBk13_src0 HBk14_src0 HBk15_src0 HRaCk]
  · iapply (kWin_pieces c aCk _ _ _ _ _ _ _ _ _ _ _ _ _ _ _ _ faCk).2
    isplitr [HRaCk]
    · isplitl [HBk0_src0]; · iexact HBk0_src0
      isplitl [HBk1_src0]; · iexact HBk1_src0
      isplitl [HBk2_src0]; · iexact HBk2_src0
      isplitl [HBk3_src0]; · iexact HBk3_src0
      isplitl [HBk4_src0]; · iexact HBk4_src0
      isplitl [HBk5_src0]; · iexact HBk5_src0
      isplitl [HBk6_src0]; · iexact HBk6_src0
      isplitl [HBk7_src0]; · iexact HBk7_src0
      isplitl [HBk8_src0]; · iexact HBk8_src0
      isplitl [HBk9_src0]; · iexact HBk9_src0
      isplitl [HBk10_src0]; · iexact HBk10_src0
      isplitl [HBk11_src0]; · iexact HBk11_src0
      isplitl [HBk12_src0]; · iexact HBk12_src0
      isplitl [HBk13_src0]; · iexact HBk13_src0
      isplitl [HBk14_src0]; · iexact HBk14_src0
      iexact HBk15_src0
    · iexact HRaCk
  isplitl [HBv0_src0 HBv1_src0 HBv2_src0 HBv3_src0 HBv4_src0 HBv5_src0 HBv6_src0 HBv7_src0 HBv8_src0 HBv9_src0 HBv10_src0 HBv11_src0 HBv12_src0 HBv13_src0 HBv14_src0 HBv15_src0 HRaCv]
  · iapply (kWin_pieces c aCv _ _ _ _ _ _ _ _ _ _ _ _ _ _ _ _ faCv).2
    isplitr [HRaCv]
    · isplitl [HBv0_src0]; · iexact HBv0_src0
      isplitl [HBv1_src0]; · iexact HBv1_src0
      isplitl [HBv2_src0]; · iexact HBv2_src0
      isplitl [HBv3_src0]; · iexact HBv3_src0
      isplitl [HBv4_src0]; · iexact HBv4_src0
      isplitl [HBv5_src0]; · iexact HBv5_src0
      isplitl [HBv6_src0]; · iexact HBv6_src0
      isplitl [HBv7_src0]; · iexact HBv7_src0
      isplitl [HBv8_src0]; · iexact HBv8_src0
      isplitl [HBv9_src0]; · iexact HBv9_src0
      isplitl [HBv10_src0]; · iexact HBv10_src0
      isplitl [HBv11_src0]; · iexact HBv11_src0
      isplitl [HBv12_src0]; · iexact HBv12_src0
      isplitl [HBv13_src0]; · iexact HBv13_src0
      isplitl [HBv14_src0]; · iexact HBv14_src0
      iexact HBv15_src0
    · iexact HRaCv
  isplitl [HBk0_src1 HBk1_src1 HBk2_src1 HBk3_src1 HBk4_src1 HBk5_src1 HBk6_src1 HBk7_src1 HBk8_src1 HBk9_src1 HBk10_src1 HBk11_src1 HBk12_src1 HBk13_src1 HBk14_src1 HBk15_src1 HRaCks]
  · iapply (sWin_pieces c aCks _ _ _ _ _ _ _ _ _ _ _ _ _ _ _ _ faCks).2
    isplitr [HRaCks]
    · isplitl [HBk0_src1]; · iexact HBk0_src1
      isplitl [HBk1_src1]; · iexact HBk1_src1
      isplitl [HBk2_src1]; · iexact HBk2_src1
      isplitl [HBk3_src1]; · iexact HBk3_src1
      isplitl [HBk4_src1]; · iexact HBk4_src1
      isplitl [HBk5_src1]; · iexact HBk5_src1
      isplitl [HBk6_src1]; · iexact HBk6_src1
      isplitl [HBk7_src1]; · iexact HBk7_src1
      isplitl [HBk8_src1]; · iexact HBk8_src1
      isplitl [HBk9_src1]; · iexact HBk9_src1
      isplitl [HBk10_src1]; · iexact HBk10_src1
      isplitl [HBk11_src1]; · iexact HBk11_src1
      isplitl [HBk12_src1]; · iexact HBk12_src1
      isplitl [HBk13_src1]; · iexact HBk13_src1
      isplitl [HBk14_src1]; · iexact HBk14_src1
      iexact HBk15_src1
    · iexact HRaCks
  isplitl [HBv0_src1 HBv1_src1 HBv2_src1 HBv3_src1 HBv4_src1 HBv5_src1 HBv6_src1 HBv7_src1 HBv8_src1 HBv9_src1 HBv10_src1 HBv11_src1 HBv12_src1 HBv13_src1 HBv14_src1 HBv15_src1 HRaCvs]
  · iapply (sWin_pieces c aCvs _ _ _ _ _ _ _ _ _ _ _ _ _ _ _ _ faCvs).2
    isplitr [HRaCvs]
    · isplitl [HBv0_src1]; · iexact HBv0_src1
      isplitl [HBv1_src1]; · iexact HBv1_src1
      isplitl [HBv2_src1]; · iexact HBv2_src1
      isplitl [HBv3_src1]; · iexact HBv3_src1
      isplitl [HBv4_src1]; · iexact HBv4_src1
      isplitl [HBv5_src1]; · iexact HBv5_src1
      isplitl [HBv6_src1]; · iexact HBv6_src1
      isplitl [HBv7_src1]; · iexact HBv7_src1
      isplitl [HBv8_src1]; · iexact HBv8_src1
      isplitl [HBv9_src1]; · iexact HBv9_src1
      isplitl [HBv10_src1]; · iexact HBv10_src1
      isplitl [HBv11_src1]; · iexact HBv11_src1
      isplitl [HBv12_src1]; · iexact HBv12_src1
      isplitl [HBv13_src1]; · iexact HBv13_src1
      isplitl [HBv14_src1]; · iexact HBv14_src1
      iexact HBv15_src1
    · iexact HRaCvs
  isplitl [HrOut]; · iexact HrOut
  isplitl [HrKc]; · iexact HrKc
  isplitl [HrKs]; · iexact HrKs
  isplitl [HrVc]; · iexact HrVc
  isplitl [HrVs]; · iexact HrVs
  isplitl [HsLen]; · iexists _; iexact HsLen
  isplitl [HsX]; · iexists _; iexact HsX
  isplitl [HsKn]; · iexists _; iexact HsKn
  isplitl [HsVn]; · iexists _; iexact HsVn
  isplitl [HBk0_dst0 HBk1_dst0 HBk2_dst0 HBk3_dst0 HBk4_dst0 HBk5_dst0 HBk6_dst0 HBk7_dst0 HBk8_dst0 HBk9_dst0 HBk10_dst0 HBk11_dst0 HBk12_dst0 HBk13_dst0 HBk14_dst0 HBk15_dst0 HRsK]
  · iapply (kSlab_whole c sK _ _ _ _ _ _ _ _ _ _ _ _ _ _ _ _ _)
    isplitr [HRsK]
    · isplitl [HBk0_dst0]; · iexact HBk0_dst0
      isplitl [HBk1_dst0]; · iexact HBk1_dst0
      isplitl [HBk2_dst0]; · iexact HBk2_dst0
      isplitl [HBk3_dst0]; · iexact HBk3_dst0
      isplitl [HBk4_dst0]; · iexact HBk4_dst0
      isplitl [HBk5_dst0]; · iexact HBk5_dst0
      isplitl [HBk6_dst0]; · iexact HBk6_dst0
      isplitl [HBk7_dst0]; · iexact HBk7_dst0
      isplitl [HBk8_dst0]; · iexact HBk8_dst0
      isplitl [HBk9_dst0]; · iexact HBk9_dst0
      isplitl [HBk10_dst0]; · iexact HBk10_dst0
      isplitl [HBk11_dst0]; · iexact HBk11_dst0
      isplitl [HBk12_dst0]; · iexact HBk12_dst0
      isplitl [HBk13_dst0]; · iexact HBk13_dst0
      isplitl [HBk14_dst0]; · iexact HBk14_dst0
      iexact HBk15_dst0
    · iexact HRsK
  isplitl [HBv0_dst0 HBv1_dst0 HBv2_dst0 HBv3_dst0 HBv4_dst0 HBv5_dst0 HBv6_dst0 HBv7_dst0 HBv8_dst0 HBv9_dst0 HBv10_dst0 HBv11_dst0 HBv12_dst0 HBv13_dst0 HBv14_dst0 HBv15_dst0 HRsV]
  · iapply (kSlab_whole c sV _ _ _ _ _ _ _ _ _ _ _ _ _ _ _ _ _)
    isplitr [HRsV]
    · isplitl [HBv0_dst0]; · iexact HBv0_dst0
      isplitl [HBv1_dst0]; · iexact HBv1_dst0
      isplitl [HBv2_dst0]; · iexact HBv2_dst0
      isplitl [HBv3_dst0]; · iexact HBv3_dst0
      isplitl [HBv4_dst0]; · iexact HBv4_dst0
      isplitl [HBv5_dst0]; · iexact HBv5_dst0
      isplitl [HBv6_dst0]; · iexact HBv6_dst0
      isplitl [HBv7_dst0]; · iexact HBv7_dst0
      isplitl [HBv8_dst0]; · iexact HBv8_dst0
      isplitl [HBv9_dst0]; · iexact HBv9_dst0
      isplitl [HBv10_dst0]; · iexact HBv10_dst0
      isplitl [HBv11_dst0]; · iexact HBv11_dst0
      isplitl [HBv12_dst0]; · iexact HBv12_dst0
      isplitl [HBv13_dst0]; · iexact HBv13_dst0
      isplitl [HBv14_dst0]; · iexact HBv14_dst0
      iexact HBv15_dst0
    · iexact HRsV
  isplitl [HBk0_dst1 HBk1_dst1 HBk2_dst1 HBk3_dst1 HBk4_dst1 HBk5_dst1 HBk6_dst1 HBk7_dst1 HBk8_dst1 HBk9_dst1 HBk10_dst1 HBk11_dst1 HBk12_dst1 HBk13_dst1 HBk14_dst1 HBk15_dst1 HRsKs]
  · iapply (sRow_whole c sKs _ _ _ _ _ _ _ _ _ _ _ _ _ _ _ _ _)
    isplitr [HRsKs]
    · isplitl [HBk0_dst1]; · iexact HBk0_dst1
      isplitl [HBk1_dst1]; · iexact HBk1_dst1
      isplitl [HBk2_dst1]; · iexact HBk2_dst1
      isplitl [HBk3_dst1]; · iexact HBk3_dst1
      isplitl [HBk4_dst1]; · iexact HBk4_dst1
      isplitl [HBk5_dst1]; · iexact HBk5_dst1
      isplitl [HBk6_dst1]; · iexact HBk6_dst1
      isplitl [HBk7_dst1]; · iexact HBk7_dst1
      isplitl [HBk8_dst1]; · iexact HBk8_dst1
      isplitl [HBk9_dst1]; · iexact HBk9_dst1
      isplitl [HBk10_dst1]; · iexact HBk10_dst1
      isplitl [HBk11_dst1]; · iexact HBk11_dst1
      isplitl [HBk12_dst1]; · iexact HBk12_dst1
      isplitl [HBk13_dst1]; · iexact HBk13_dst1
      isplitl [HBk14_dst1]; · iexact HBk14_dst1
      iexact HBk15_dst1
    · iexact HRsKs
  isplitl [HBv0_dst1 HBv1_dst1 HBv2_dst1 HBv3_dst1 HBv4_dst1 HBv5_dst1 HBv6_dst1 HBv7_dst1 HBv8_dst1 HBv9_dst1 HBv10_dst1 HBv11_dst1 HBv12_dst1 HBv13_dst1 HBv14_dst1 HBv15_dst1 HRsVs]
  · iapply (sRow_whole c sVs _ _ _ _ _ _ _ _ _ _ _ _ _ _ _ _ _)
    isplitr [HRsVs]
    · isplitl [HBv0_dst1]; · iexact HBv0_dst1
      isplitl [HBv1_dst1]; · iexact HBv1_dst1
      isplitl [HBv2_dst1]; · iexact HBv2_dst1
      isplitl [HBv3_dst1]; · iexact HBv3_dst1
      isplitl [HBv4_dst1]; · iexact HBv4_dst1
      isplitl [HBv5_dst1]; · iexact HBv5_dst1
      isplitl [HBv6_dst1]; · iexact HBv6_dst1
      isplitl [HBv7_dst1]; · iexact HBv7_dst1
      isplitl [HBv8_dst1]; · iexact HBv8_dst1
      isplitl [HBv9_dst1]; · iexact HBv9_dst1
      isplitl [HBv10_dst1]; · iexact HBv10_dst1
      isplitl [HBv11_dst1]; · iexact HBv11_dst1
      isplitl [HBv12_dst1]; · iexact HBv12_dst1
      isplitl [HBv13_dst1]; · iexact HBv13_dst1
      isplitl [HBv14_dst1]; · iexact HBv14_dst1
      iexact HBv15_dst1
    · iexact HRsVs
  isplitl [HsOut]; · iexists _; iexact HsOut
  isplitl [HsKc]; · iexists _; iexact HsKc
  isplitl [HsKrow]; · iexists _; iexact HsKrow
  isplitl [HsVc]; · iexists _; iexact HsVc
  isplitl [HsVrow]; · iexists _; iexact HsVrow
  isplitl [HsKf]; · iexists _; iexact HsKf
  isplitl [HsKb]; · iexists _; iexact HsKb
  isplitl [HsVf]; · iexists _; iexact HsVf
  isplitl [HsVb]; · iexists _; iexact HsVb
  isplitl [Hq0]; · iexact Hq0
  isplitl [Hq1]; · iexact Hq1
  isplitl [Hq2]; · iexact Hq2
  isplitl [Hq3]; · iexact Hq3
  isplitl [HBk0]; · iexact HBk0
  isplitl [HBk1]; · iexact HBk1
  isplitl [HBk2]; · iexact HBk2
  isplitl [HBk3]; · iexact HBk3
  isplitl [HBk4]; · iexact HBk4
  isplitl [HBk5]; · iexact HBk5
  isplitl [HBk6]; · iexact HBk6
  isplitl [HBk7]; · iexact HBk7
  isplitl [HBk8]; · iexact HBk8
  isplitl [HBk9]; · iexact HBk9
  isplitl [HBk10]; · iexact HBk10
  isplitl [HBk11]; · iexact HBk11
  isplitl [HBk12]; · iexact HBk12
  isplitl [HBk13]; · iexact HBk13
  isplitl [HBk14]; · iexact HBk14
  isplitl [HBk15]; · iexact HBk15
  isplitl [HBv0]; · iexact HBv0
  isplitl [HBv1]; · iexact HBv1
  isplitl [HBv2]; · iexact HBv2
  isplitl [HBv3]; · iexact HBv3
  isplitl [HBv4]; · iexact HBv4
  isplitl [HBv5]; · iexact HBv5
  isplitl [HBv6]; · iexact HBv6
  isplitl [HBv7]; · iexact HBv7
  isplitl [HBv8]; · iexact HBv8
  isplitl [HBv9]; · iexact HBv9
  isplitl [HBv10]; · iexact HBv10
  isplitl [HBv11]; · iexact HBv11
  isplitl [HBv12]; · iexact HBv12
  isplitl [HBv13]; · iexact HBv13
  isplitl [HBv14]; · iexact HBv14
  isplitl [HBv15]; · iexact HBv15
  isplitl [Hq36]; · iexact Hq36
  isplitl [Hq37]; · iexact Hq37
  isplitl [Hq38]; · iexact Hq38
  isplitl [Hq39]; · iexact Hq39
  isplitl [Hq40]; · iexact Hq40
  iexists _; iexact HW

end Cert.KernelIdeal.Hand
-- ==== Proof.FrameI.lean ====
/-
  The frame of the decode kernel: it terminates, nothing faults, its arguments come back as they went in and every
  semaphore ends at zero.  The kernel is called once, on operands left in HBM; its own copies read seven staged arguments
  and the length word, and write the five results.
-/
module

public import proofs.«01_k».proof.Proof.RunI8
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The operands and the cells the region lends the body -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The forty-one transfer cells of the body. -/
abbrev osem0 : Fin 41 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The operands the body only reads. -/
def H0 : Finset (Ref sig .tc) := {main_arg7, main_v0, main_v1, main_v2, main_v3, main_v4, main_v5, main_v6}
theorem H0_sub : H0 ⊆ Pipeline.restRefs sig (cfg0.spec) := by decide
theorem hbmPts0_eq (c : Dev nD) :
    (bigSep H0 (fun b => ((c : Thread nD τ).loc b) ↦{fullShare} V m c b) : sProp 𝕄)
      = iprop(pt c aLen (V m c main_arg7) ∗ pt c aX (V m c main_v0) ∗ pt c aKn (V m c main_v1) ∗ pt c aVn (V m c main_v2) ∗ pt c aCk (V m c main_v3) ∗ pt c aCv (V m c main_v4) ∗ pt c aCks (V m c main_v5) ∗ pt c aCvs (V m c main_v6)) := by
  rw [BI.bigSep_eq_bigSepL_of_eq [main_arg7, main_v0, main_v1, main_v2, main_v3, main_v4, main_v5, main_v6] (by decide) (by decide)]; rfl

/-- The results the body writes. -/
def R0 : Finset (Ref sig .tc) := {main_v7_0, main_v7_1, main_v7_2, main_v7_3, main_v7_4}
theorem R0_sub : R0 ⊆ Pipeline.restRefs sig (cfg0.spec) \ H0 := by decide
theorem ownedPts0_eq (c : Dev nD) :
    (Pipeline.owned R0 c : sProp 𝕄)
      = iprop((∃ f : Bf (F := F) c rOut, pt c rOut f) ∗ (∃ f : Bf (F := F) c rKc, pt c rKc f) ∗ (∃ f : Bf (F := F) c rKs, pt c rKs f) ∗ (∃ f : Bf (F := F) c rVc, pt c rVc f) ∗ (∃ f : Bf (F := F) c rVs, pt c rVs f)) := by
  unfold Pipeline.owned; rw [BI.bigSep_eq_bigSepL_of_eq [main_v7_0, main_v7_1, main_v7_2, main_v7_3, main_v7_4] (by decide) (by decide)]; rfl

/-- The scratch buffers, each at some contents. -/
theorem scoped0_eq (c : Dev nD) :
    (Pipeline.scopedRest (Ix := Unit) (Name := ℕ) (U := Pipeline.UD sig nD τ) (Lvl := ℕ) (Val := Elt F) (cfg0.spec) c : sProp 𝕄)
      = iprop((∃ f : Bf (F := F) c sX, pt c sX f) ∗ (∃ f : Bf (F := F) c sKn, pt c sKn f) ∗ (∃ f : Bf (F := F) c sVn, pt c sVn f) ∗ (∃ f : Bf (F := F) c sK, pt c sK f) ∗ (∃ f : Bf (F := F) c sV, pt c sV f) ∗ (∃ f : Bf (F := F) c sKs, pt c sKs f) ∗ (∃ f : Bf (F := F) c sVs, pt c sVs f) ∗ (∃ f : Bf (F := F) c sOut, pt c sOut f) ∗ (∃ f : Bf (F := F) c sKc, pt c sKc f) ∗ (∃ f : Bf (F := F) c sKrow, pt c sKrow f) ∗ (∃ f : Bf (F := F) c sVc, pt c sVc f) ∗ (∃ f : Bf (F := F) c sVrow, pt c sVrow f) ∗ (∃ f : Bf (F := F) c sKf, pt c sKf f) ∗ (∃ f : Bf (F := F) c sKb, pt c sKb f) ∗ (∃ f : Bf (F := F) c sVf, pt c sVf f) ∗ (∃ f : Bf (F := F) c sVb, pt c sVb f) ∗ (∃ f : Bf (F := F) c sLen, pt c sLen f)) := by
  rw [scopedRest0_eq]

/-- Everything the body is lent, in one row. -/
def lent (c : Dev nD) : sProp 𝕄 :=
  iprop(iprop((∃ f : Bf (F := F) c sX, pt c sX f) ∗ (∃ f : Bf (F := F) c sKn, pt c sKn f) ∗ (∃ f : Bf (F := F) c sVn, pt c sVn f) ∗ (∃ f : Bf (F := F) c sK, pt c sK f) ∗ (∃ f : Bf (F := F) c sV, pt c sV f) ∗ (∃ f : Bf (F := F) c sKs, pt c sKs f) ∗ (∃ f : Bf (F := F) c sVs, pt c sVs f) ∗ (∃ f : Bf (F := F) c sOut, pt c sOut f) ∗ (∃ f : Bf (F := F) c sKc, pt c sKc f) ∗ (∃ f : Bf (F := F) c sKrow, pt c sKrow f) ∗ (∃ f : Bf (F := F) c sVc, pt c sVc f) ∗ (∃ f : Bf (F := F) c sVrow, pt c sVrow f) ∗ (∃ f : Bf (F := F) c sKf, pt c sKf f) ∗ (∃ f : Bf (F := F) c sKb, pt c sKb f) ∗ (∃ f : Bf (F := F) c sVf, pt c sVf f) ∗ (∃ f : Bf (F := F) c sVb, pt c sVb f) ∗ (∃ f : Bf (F := F) c sLen, pt c sLen f))
    ∗ (∃ r, prngReg c r)
    ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
    ∗ iprop(pt c aLen (V m c main_arg7) ∗ pt c aX (V m c main_v0) ∗ pt c aKn (V m c main_v1) ∗ pt c aVn (V m c main_v2) ∗ pt c aCk (V m c main_v3) ∗ pt c aCv (V m c main_v4) ∗ pt c aCks (V m c main_v5) ∗ pt c aCvs (V m c main_v6))
    ∗ iprop((∃ f : Bf (F := F) c rOut, pt c rOut f) ∗ (∃ f : Bf (F := F) c rKc, pt c rKc f) ∗ (∃ f : Bf (F := F) c rKs, pt c rKs f) ∗ (∃ f : Bf (F := F) c rVc, pt c rVc f) ∗ (∃ f : Bf (F := F) c rVs, pt c rVs f)))

theorem PhiDR0_eq (c : Dev nD) : (Pipeline.ΦDR osem0 (cfg0.spec) H0 R0 (V m) c : sProp 𝕄) = lent m c := by
  rw [Pipeline.ΦDR_eq, scoped0_eq, ownSems00_eq, hbmPts0_eq, ownedPts0_eq]; rfl

/-! ## The body obligation -/

def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by
  dsimp only [dats]

def bodyPre (c : Dev nD) (t : Fin cfg0.N) : sProp 𝕄 :=
  iprop((dats m 0 c).Φ t.castSucc ∗ (dats m 0 c).owesAt () t.castSucc ∗ (BI.emp : sProp 𝕄))
def bodyPost (c : Dev nD) (t : Fin cfg0.N) : sProp 𝕄 :=
  iprop((dats m 0 c).Φ t.succ ∗ (dats m 0 c).owesAt () t.succ ∗ (BI.emp : sProp 𝕄))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = lent m c from PhiDR0_eq m c, show (dats m 0 c).Φ t.castSucc = lent m c from PhiDR0_eq m c]
  unfold Dat.owesAt Pipeline.owesWithin lent
  rw [show (dats m 0 c).owed t.castSucc = 0 from rfl, show (dats m 0 c).owed t.succ = 0 from rfl]
  iintro ⟨⟨⟨⟨%fsX, HsX⟩, ⟨%fsKn, HsKn⟩, ⟨%fsVn, HsVn⟩, ⟨%fsK, HsK⟩, ⟨%fsV, HsV⟩, ⟨%fsKs, HsKs⟩, ⟨%fsVs, HsVs⟩, ⟨%fsOut, HsOut⟩, ⟨%fsKc, HsKc⟩, ⟨%fsKrow, HsKrow⟩, ⟨%fsVc, HsVc⟩, ⟨%fsVrow, HsVrow⟩, ⟨%fsKf, HsKf⟩, ⟨%fsKb, HsKb⟩, ⟨%fsVf, HsVf⟩, ⟨%fsVb, HsVb⟩, ⟨%fsLen, HsLen⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40⟩,
    ⟨HaLen, HaX, HaKn, HaVn, HaCk, HaCv, HaCks, HaCvs⟩, ⟨⟨%frOut, HrOut⟩, ⟨%frKc, HrKc⟩, ⟨%frKs, HrKs⟩, ⟨%frVc, HrVc⟩, ⟨%frVs, HrVs⟩⟩⟩, ⟨%W, -, HW⟩, -⟩
  iapply (body_run c (V m c main_arg7) (V m c main_v0) (V m c main_v1) (V m c main_v2) (V m c main_v3) (V m c main_v4) (V m c main_v5) (V m c main_v6) frOut frKc frKs frVc frVs fsLen fsX fsKn fsVn fsK fsV fsKs fsVs fsOut fsKc fsKrow fsVc fsVrow fsKf fsKb fsVf fsVb W _)
  isplitl [HaLen]; · iexact HaLen
  isplitl [HaX]; · iexact HaX
  isplitl [HaKn]; · iexact HaKn
  isplitl [HaVn]; · iexact HaVn
  isplitl [HaCk]; · iexact HaCk
  isplitl [HaCv]; · iexact HaCv
  isplitl [HaCks]; · iexact HaCks
  isplitl [HaCvs]; · iexact HaCvs
  isplitl [HrOut]; · iexact HrOut
  isplitl [HrKc]; · iexact HrKc
  isplitl [HrKs]; · iexact HrKs
  isplitl [HrVc]; · iexact HrVc
  isplitl [HrVs]; · iexact HrVs
  isplitl [HsLen]; · iexact HsLen
  isplitl [HsX]; · iexact HsX
  isplitl [HsKn]; · iexact HsKn
  isplitl [HsVn]; · iexact HsVn
  isplitl [HsK]; · iexact HsK
  isplitl [HsV]; · iexact HsV
  isplitl [HsKs]; · iexact HsKs
  isplitl [HsVs]; · iexact HsVs
  isplitl [HsOut]; · iexact HsOut
  isplitl [HsKc]; · iexact HsKc
  isplitl [HsKrow]; · iexact HsKrow
  isplitl [HsVc]; · iexact HsVc
  isplitl [HsVrow]; · iexact HsVrow
  isplitl [HsKf]; · iexact HsKf
  isplitl [HsKb]; · iexact HsKb
  isplitl [HsVf]; · iexact HsVf
  isplitl [HsVb]; · iexact HsVb
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [HW]; · iexact HW
  iintro ⟨HaLen, HaX, HaKn, HaVn, HaCk, HaCv, HaCks, HaCvs, HrOut, HrKc, HrKs, HrVc, HrVs, HsLen, HsX, HsKn, HsVn, HsK, HsV, HsKs, HsVs, HsOut, HsKc, HsKrow, HsVc, HsVrow, HsKf, HsKb, HsVf, HsVb, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, ⟨%W', HW'⟩⟩
  isplitr [HW']
  · isplitl [HsX HsKn HsVn HsK HsV HsKs HsVs HsOut HsKc HsKrow HsVc HsVrow HsKf HsKb HsVf HsVb HsLen]
    · isplitl [HsX]; · iexact HsX
      isplitl [HsKn]; · iexact HsKn
      isplitl [HsVn]; · iexact HsVn
      isplitl [HsK]; · iexact HsK
      isplitl [HsV]; · iexact HsV
      isplitl [HsKs]; · iexact HsKs
      isplitl [HsVs]; · iexact HsVs
      isplitl [HsOut]; · iexact HsOut
      isplitl [HsKc]; · iexact HsKc
      isplitl [HsKrow]; · iexact HsKrow
      isplitl [HsVc]; · iexact HsVc
      isplitl [HsVrow]; · iexact HsVrow
      isplitl [HsKf]; · iexact HsKf
      isplitl [HsKb]; · iexact HsKb
      isplitl [HsVf]; · iexact HsVf
      isplitl [HsVb]; · iexact HsVb
      iexact HsLen
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      iexact Hq40
    isplitl [HaLen HaX HaKn HaVn HaCk HaCv HaCks HaCvs]
    · isplitl [HaLen]; · iexact HaLen
      isplitl [HaX]; · iexact HaX
      isplitl [HaKn]; · iexact HaKn
      isplitl [HaVn]; · iexact HaVn
      isplitl [HaCk]; · iexact HaCk
      isplitl [HaCv]; · iexact HaCv
      isplitl [HaCks]; · iexact HaCks
      iexact HaCvs
    isplitl [HrOut]; · iexists _; iexact HrOut
    isplitl [HrKc]; · iexists _; iexact HrKc
    isplitl [HrKs]; · iexists _; iexact HrKs
    isplitl [HrVc]; · iexists _; iexact HrVc
    iexists _; iexact HrVs
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep_none (G : Fin 0 → sProp 𝕄) : bigSep Finset.univ G = (BI.emp : sProp 𝕄) := bigSep_univ_eq_bigSepL [] (by decide) (by decide) G

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end as they began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (Gen.V_main_arg0 m c),
      ((h.1 c).2 main_arg1 (Finset.mem_sdiff.mpr ⟨Pipeline.mem_restRefs_of main_arg1 (by decide) (by decide), by decide⟩)).trans (Gen.V_main_arg1 m c),
      ((h.1 c).2 main_arg2 (Finset.mem_sdiff.mpr ⟨Pipeline.mem_restRefs_of main_arg2 (by decide) (by decide), by decide⟩)).trans (Gen.V_main_arg2 m c),
      ((h.1 c).2 main_arg3 (Finset.mem_sdiff.mpr ⟨Pipeline.mem_restRefs_of main_arg3 (by decide) (by decide), by decide⟩)).trans (Gen.V_main_arg3 m c),
      ((h.1 c).2 main_arg4 (Finset.mem_sdiff.mpr ⟨Pipeline.mem_restRefs_of main_arg4 (by decide) (by decide), by decide⟩)).trans (Gen.V_main_arg4 m c),
      ((h.1 c).2 main_arg5 (Finset.mem_sdiff.mpr ⟨Pipeline.mem_restRefs_of main_arg5 (by decide) (by decide), by decide⟩)).trans (Gen.V_main_arg5 m c),
      ((h.1 c).2 main_arg6 (Finset.mem_sdiff.mpr ⟨Pipeline.mem_restRefs_of main_arg6 (by decide) (by decide), by decide⟩)).trans (Gen.V_main_arg6 m c),
      ((h.1 c).2 main_arg7 (Finset.mem_sdiff.mpr ⟨Pipeline.mem_restRefs_of main_arg7 (by decide) (by decide), by decide⟩)).trans (Gen.V_main_arg7 m c)⟩, h.2⟩) (run_main m ρ)

end Cert.KernelIdeal.Hand
-- ==== Proof.QuantVec.lean ====
/-
  The kernel's quantiser as whole-vector functions in the kernel's own operations.

  A row's largest magnitude over 448 is its level. The level's exponent field is found by binary search over the eight bits
  (`vField`); the power of two above the level is the row's scale (`vScale`) and its reciprocal is built directly (`vInv`).
  The row times the reciprocal, clipped to the range of the low-precision type, is what is stored (`vClip`).
-/
module

public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

/-- One step of the search: add the bit where the level is at least the power of two the new field stands for. -/
def vStep (y : FVec F S16x128 .f32) (f : IVec S16x128 32) (b : BitVec 32) : IVec S16x128 32 :=
  select (cmpf .oge y (bitcastToFloat .f32 (shli (addi f (broadcast S16x128 b)) (broadcast S16x128 23#32))))
    (addi f (broadcast S16x128 b)) f

/-- The exponent field of the level. -/
def vField (y : FVec F S16x128 .f32) : IVec S16x128 32 :=
  vStep y (vStep y (vStep y (vStep y (vStep y (vStep y (vStep y (vStep y (broadcast S16x128 0#32) 128#32) 64#32) 32#32)
    16#32) 8#32) 4#32) 2#32) 1#32

/-- The exponent of the scale. -/
def vExpo (y : FVec F S16x128 .f32) : IVec S16x128 32 :=
  select (cmpf .oeq y (broadcast S16x128 (Scalar.ofBits .f32 0x00000000#32))) (broadcast S16x128 0#32)
    (subi (vField y) (broadcast S16x128 126#32))

/-- The scale. -/
def vScale (y : FVec F S16x128 .f32) : FVec F S16x128 .f32 :=
  bitcastToFloat .f32 (shli (addi (broadcast S16x128 127#32) (vExpo y)) (broadcast S16x128 23#32))

/-- One over the scale. -/
def vInv (y : FVec F S16x128 .f32) : FVec F S16x128 .f32 :=
  bitcastToFloat .f32 (shli (subi (broadcast S16x128 127#32) (vExpo y)) (broadcast S16x128 23#32))

/-- The scaled and clipped rows. -/
def vClip (u : Vec F S16x128 .bf16) : FVec F S16x128 .f32 :=
  minimumf (broadcast S16x128 (Scalar.ofBits .f32 0x43E00000#32))
    (maximumf (broadcast S16x128 (Scalar.ofBits .f32 0xC3E00000#32)) (mulf (k0_pay2 u) (vInv (k0_pay3 u))))

end Cert.KernelIdeal.Hand

end
-- ==== Proof.Scales.lean ====
/-
  The two spellings of a row's quantisation scale, over the extended reals. A row's largest magnitude `a`, divided by 448,
  is `y`. The reference takes `⌊log y / log 2⌋ + 1` and raises two to it. The kernel finds `y`'s exponent field one bit at a time, by
  comparing `y` with the floats whose words are the candidate fields, and assembles the power of two from the field found.
  They agree for `y = 0` and for every `y` in `[2^-126, 2^126)`.
-/
module

public import Idealize.ShloMosaic.PureOps.Ideal
public import Idealize.ShloMosaic.PureOps.Ideal.Laws

@[expose] public section

noncomputable section

namespace Cert.Scales

open Idealize.ShloMosaic

/-- The word whose exponent field is `g`, the rest zero, denotes `2 ^ (g - 127)` for a normal field. -/
theorem ofBits_field (g : BitVec 32) (h1 : 1 ≤ g.toNat) (h2 : g.toNat ≤ 254) :
    Ideal.ofBits .f32 (g <<< 23) = (((2 : ℝ) ^ ((g.toNat : ℤ) - 127) : ℝ) : EReal) := by
  have hs : (g <<< 23).extractLsb' 31 1 = 0#1 := by
    apply BitVec.eq_of_toNat_eq
    simp only [BitVec.extractLsb'_toNat, BitVec.toNat_shiftLeft, Nat.shiftLeft_eq, Nat.shiftRight_eq_div_pow, BitVec.toNat_ofNat]
    omega
  have he : ((g <<< 23).extractLsb' 23 8).toNat = g.toNat := by
    simp only [BitVec.extractLsb'_toNat, BitVec.toNat_shiftLeft, Nat.shiftLeft_eq, Nat.shiftRight_eq_div_pow]
    omega
  have hf : ((g <<< 23).extractLsb' 0 23).toNat = 0 := by
    simp only [BitVec.extractLsb'_toNat, BitVec.toNat_shiftLeft, Nat.shiftLeft_eq, Nat.shiftRight_eq_div_pow]
    omega
  have key : Ideal.ieee 8 23 (g <<< 23) = (((1 : ℝ) * ((2 ^ 23 + 0 : ℕ) : ℝ) * (2 : ℝ) ^ ((g.toNat : ℤ) - (2 ^ (8 - 1) - 1) - 23) : ℝ) : EReal) := by
    unfold Ideal.ieee
    rw [show (8 + 23 : ℕ) = 31 from rfl, hs, he, hf]
    have n1 : ¬ (g.toNat = 2 ^ 8 - 1) := by omega
    have n2 : ¬ (g.toNat = 0) := by omega
    simp only [if_neg n1, if_neg n2]
    norm_num
  show Ideal.ieee 8 23 (g <<< 23) = _
  rw [key]
  have e : ((g.toNat : ℤ) - 127) = 23 + ((g.toNat : ℤ) - (2 ^ (8 - 1) - 1) - 23) := by norm_num
  rw [e, zpow_add₀ (by norm_num)]
  norm_num

/-- The all-ones field denotes `⊤`. -/
theorem ofBits_field_top : Ideal.ofBits .f32 (255#32 <<< 23) = ⊤ := by
  simp [Ideal.ofBits, Ideal.ieee]

/-- One comparison of the search: keep the grown candidate where `y` reaches its power of two. -/
def step (y : EReal) (f b : BitVec 32) : BitVec 32 :=
  if Ideal.ofBits .f32 ((f + b) <<< 23) ≤ y then f + b else f

/-- The search from the highest bit of the field to the lowest. -/
def field (y : EReal) : BitVec 32 :=
  step y (step y (step y (step y (step y (step y (step y (step y 0#32 128#32) 64#32) 32#32) 16#32) 8#32) 4#32) 2#32) 1#32

/-- The same search against a known field: grow where the candidate does not exceed it. -/
def stepN (G : ℕ) (f b : BitVec 32) : BitVec 32 := if (f + b).toNat ≤ G then f + b else f
def fieldN (G : ℕ) : BitVec 32 :=
  stepN G (stepN G (stepN G (stepN G (stepN G (stepN G (stepN G (stepN G 0#32 128#32) 64#32) 32#32) 16#32) 8#32) 4#32) 2#32) 1#32

set_option maxRecDepth 100000 in
/-- The search finds the field it is compared with. -/
theorem fieldN_eq : ∀ G : Fin 256, fieldN G.val = BitVec.ofNat 32 G.val := by decide +kernel

theorem stepN_le (G : ℕ) (f b : BitVec 32) (n : ℕ) (hf : f.toNat ≤ n) (hb : b.toNat + n < 2 ^ 32) : (stepN G f b).toNat ≤ n + b.toNat := by
  unfold stepN; split
  · rw [BitVec.toNat_add]; omega
  · omega

/-- Where `y` lies between the powers of two of the fields `G` and `G + 1`, it reaches the power of a field exactly when the
    field is at most `G`. -/
theorem reaches_iff (y : EReal) (G : ℕ) (h2 : G ≤ 252) (hlo : (((2 : ℝ) ^ ((G : ℤ) - 127) : ℝ) : EReal) ≤ y)
    (hhi : y < (((2 : ℝ) ^ ((G : ℤ) - 126) : ℝ) : EReal)) (g : BitVec 32) (hg1 : 1 ≤ g.toNat) (hg2 : g.toNat ≤ 255) :
    Ideal.ofBits .f32 (g <<< 23) ≤ y ↔ g.toNat ≤ G := by
  by_cases h255 : g.toNat = 255
  · have : g = 255#32 := BitVec.eq_of_toNat_eq (by simpa using h255)
    subst this
    rw [ofBits_field_top]
    constructor
    · intro h; exact absurd (lt_of_le_of_lt h hhi) (not_lt.mpr le_top)
    · intro h; simp at h; omega
  · rw [ofBits_field g hg1 (by omega)]
    constructor
    · intro h
      have := lt_of_le_of_lt h hhi
      rw [EReal.coe_lt_coe_iff] at this
      have := (zpow_lt_zpow_iff_right₀ (by norm_num : (1 : ℝ) < 2)).mp this
      omega
    · intro h
      refine le_trans ?_ hlo
      rw [EReal.coe_le_coe_iff]
      exact zpow_le_zpow_right₀ (by norm_num) (by omega)

theorem step_eq (y : EReal) (G : ℕ) (h : ∀ g : BitVec 32, 1 ≤ g.toNat → g.toNat ≤ 255 → (Ideal.ofBits .f32 (g <<< 23) ≤ y ↔ g.toNat ≤ G))
    (f b : BitVec 32) (n : ℕ) (hf : f.toNat ≤ n) (hb : 1 ≤ b.toNat) (hn : n + b.toNat ≤ 255) : step y f b = stepN G f b := by
  have e : (f + b).toNat = f.toNat + b.toNat := by rw [BitVec.toNat_add]; omega
  unfold step stepN
  by_cases hc : (f + b).toNat ≤ G
  · rw [if_pos hc, if_pos ((h _ (by omega) (by omega)).mpr hc)]
  · rw [if_neg hc, if_neg (fun hh => hc ((h _ (by omega) (by omega)).mp hh))]

theorem field_eq_fieldN (y : EReal) (G : ℕ) (h : ∀ g : BitVec 32, 1 ≤ g.toNat → g.toNat ≤ 255 → (Ideal.ofBits .f32 (g <<< 23) ≤ y ↔ g.toNat ≤ G)) :
    field y = fieldN G := by
  have h0 : (0#32).toNat ≤ 0 := by decide
  have b1 := stepN_le G 0#32 128#32 0 h0 (by decide)
  have b2 := stepN_le G _ 64#32 128 b1 (by decide)
  have b3 := stepN_le G _ 32#32 192 b2 (by decide)
  have b4 := stepN_le G _ 16#32 224 b3 (by decide)
  have b5 := stepN_le G _ 8#32 240 b4 (by decide)
  have b6 := stepN_le G _ 4#32 248 b5 (by decide)
  have b7 := stepN_le G _ 2#32 252 b6 (by decide)
  unfold field fieldN
  rw [step_eq y G h 0#32 128#32 0 h0 (by decide) (by decide), step_eq y G h _ 64#32 128 b1 (by decide) (by decide),
    step_eq y G h _ 32#32 192 b2 (by decide) (by decide), step_eq y G h _ 16#32 224 b3 (by decide) (by decide),
    step_eq y G h _ 8#32 240 b4 (by decide) (by decide), step_eq y G h _ 4#32 248 b5 (by decide) (by decide),
    step_eq y G h _ 2#32 252 b6 (by decide) (by decide), step_eq y G h _ 1#32 254 b7 (by decide) (by decide)]

/-- The search at a `y` between the powers of two of the fields `G` and `G + 1` finds `G`. -/
theorem field_eq (y : EReal) (G : ℕ) (h2 : G ≤ 252) (hlo : (((2 : ℝ) ^ ((G : ℤ) - 127) : ℝ) : EReal) ≤ y)
    (hhi : y < (((2 : ℝ) ^ ((G : ℤ) - 126) : ℝ) : EReal)) : field y = BitVec.ofNat 32 G := by
  rw [field_eq_fieldN y G (reaches_iff y G h2 hlo hhi)]
  exact fieldN_eq ⟨G, by omega⟩

/-- The kernel's exponent: the field's, one more than the unbiased one; 0 for a row of zeros. -/
def expo (y : EReal) : BitVec 32 := if y = 0 then 0#32 else field y - 126#32

/-- The kernel's scale and its inverse. -/
def scale (y : EReal) : EReal := Ideal.ofBits .f32 ((127#32 + expo y) <<< 23)
def inv (y : EReal) : EReal := Ideal.ofBits .f32 ((127#32 - expo y) <<< 23)

/-- The reference's exponent, from the row's largest magnitude `a` and `y = a / 448`. -/
def refExpo (a y : EReal) : EReal :=
  if a = 0 then 0 else Ideal.liftRound Int.floor (Ideal.div (Ideal.log y) (Ideal.log (Ideal.ofBits .f32 0x40000000#32))) + 1

theorem ofBits_two : Ideal.ofBits .f32 0x40000000#32 = ((2 : ℝ) : EReal) := by
  have := ofBits_field 128#32 (by decide) (by decide)
  simpa using this

theorem exp2_int (n : ℤ) : Ideal.exp2 ((n : ℝ) : EReal) = (((2 : ℝ) ^ n : ℝ) : EReal) := by
  rw [Ideal.exp2_coe]; congr 1; exact Real.rpow_intCast 2 n

/-- The reference's exponent where `y` lies between the powers of two `k` and `k + 1`. -/
theorem refExpo_eq (a : EReal) (ha : a ≠ 0) (y : ℝ) (k : ℤ) (hlo : (2 : ℝ) ^ k ≤ y) (hhi : y < (2 : ℝ) ^ (k + 1)) :
    refExpo a (y : EReal) = (((k + 1 : ℤ) : ℝ) : EReal) := by
  have hy : 0 < y := lt_of_lt_of_le (zpow_pos (by norm_num) k) hlo
  have hl2 : 0 < Real.log 2 := Real.log_pos (by norm_num)
  unfold refExpo
  rw [if_neg ha, ofBits_two, Ideal.log_coe, Ideal.log_coe, if_neg (not_le.mpr hy), if_neg (by norm_num),
    Ideal.div_coe hl2.ne', ← EReal.coe_mul, Ideal.liftRound_coe]
  have hfl : ⌊Real.log y * (1 / Real.log 2)⌋ = k := by
    rw [Int.floor_eq_iff]
    have e1 : Real.log ((2 : ℝ) ^ k) = k * Real.log 2 := Real.log_zpow 2 k
    have e2 : Real.log ((2 : ℝ) ^ (k + 1)) = ((k + 1 : ℤ) : ℝ) * Real.log 2 := Real.log_zpow 2 (k + 1)
    constructor
    · rw [mul_one_div, le_div_iff₀ hl2, ← e1]
      exact Real.log_le_log (zpow_pos (by norm_num) k) hlo
    · rw [mul_one_div, div_lt_iff₀ hl2]
      have := Real.log_lt_log hy hhi
      rw [e2] at this; push_cast at this; exact this
  rw [hfl]
  push_cast
  rfl

/-- THE SCALES AGREE: with `a` the row's largest magnitude and `y = a / 448` either zero or a real in `[2^-127, 2^126)`. -/
theorem scale_eq (a : EReal) (y : ℝ) (h0 : a = 0 ↔ y = 0) (h : y = 0 ∨ ((2 : ℝ) ^ (-127 : ℤ) ≤ y ∧ y < (2 : ℝ) ^ (126 : ℤ))) :
    scale (y : EReal) = Ideal.exp2 (refExpo a (y : EReal)) ∧ inv (y : EReal) = Ideal.exp2 (0 - refExpo a (y : EReal)) := by
  have one : (127#32 : BitVec 32).toNat = 127 := by decide
  rcases h with h | ⟨hlo, hhi⟩
  · have ha : a = 0 := h0.mpr h
    subst h
    have e : expo ((0 : ℝ) : EReal) = 0#32 := by unfold expo; rw [if_pos EReal.coe_zero]
    have r : refExpo a ((0 : ℝ) : EReal) = 0 := by unfold refExpo; rw [if_pos ha]
    have k : Ideal.exp2 0 = (((2 : ℝ) ^ (0 : ℤ) : ℝ) : EReal) := by
      have := exp2_int 0; simpa using this
    unfold scale inv
    rw [e, r, sub_zero, k]
    have := ofBits_field 127#32 (by decide) (by decide)
    rw [one] at this
    exact ⟨by simpa using this, by simpa using this⟩
  · have hy : 0 < y := lt_of_lt_of_le (zpow_pos (by norm_num) _) hlo
    obtain ⟨k, hk1, hk2⟩ := exists_mem_Ico_zpow hy (by norm_num : (1 : ℝ) < 2)
    have kl : -127 ≤ k := by
      have := lt_of_le_of_lt hlo hk2
      have := (zpow_lt_zpow_iff_right₀ (by norm_num : (1 : ℝ) < 2)).mp this
      omega
    have kh : k < 126 := (zpow_lt_zpow_iff_right₀ (by norm_num : (1 : ℝ) < 2)).mp (lt_of_le_of_lt hk1 hhi)
    obtain ⟨G, hG⟩ : ∃ G : ℕ, (G : ℤ) = k + 127 := ⟨(k + 127).toNat, by omega⟩
    have ha : a ≠ 0 := fun h => hy.ne' (h0.mp h)
    have ne : ((y : ℝ) : EReal) ≠ 0 := by exact_mod_cast hy.ne'
    have hf : field (y : EReal) = BitVec.ofNat 32 G := by
      refine field_eq _ G (by omega) ?_ ?_
      · rw [EReal.coe_le_coe_iff]
        rw [show (G : ℤ) - 127 = k by omega]; exact hk1
      · rw [EReal.coe_lt_coe_iff]
        rw [show (G : ℤ) - 126 = k + 1 by omega]; exact hk2
    have hE : expo (y : EReal) = BitVec.ofNat 32 G - 126#32 := by unfold expo; rw [if_neg ne, hf]
    have hr := refExpo_eq a ha y k hk1 hk2
    unfold scale inv
    rw [hE, hr]
    constructor
    · have e : (127#32 + (BitVec.ofNat 32 G - 126#32)).toNat = G + 1 := by
        simp only [BitVec.toNat_add, BitVec.toNat_sub, BitVec.toNat_ofNat]; omega
      rw [ofBits_field _ (by omega) (by omega), e, exp2_int]
      congr 2; push_cast; omega
    · have e : (127#32 - (BitVec.ofNat 32 G - 126#32)).toNat = 253 - G := by
        simp only [BitVec.toNat_sub, BitVec.toNat_ofNat]; omega
      rw [ofBits_field _ (by omega) (by omega), e, zero_sub, ← EReal.coe_neg, ← Int.cast_neg, exp2_int]
      congr 2; omega

end Cert.Scales

end
-- ==== Proof.QuantIdeal.lean ====
/-
  The kernel's quantiser over the extended reals, read at an index: the scale of a row is the power of two the search finds
  for the row's level, and the row is multiplied by its reciprocal and clipped.
-/
module

public import proofs.«01_k».proof.Proof.QuantVec
public import proofs.«01_k».proof.Proof.Scales
public import Idealize.ShloMosaic.Lib.Pointwise
public import Idealize.ShloMosaic.Lib.Pipeline.Value

@[expose] public section

noncomputable section

namespace Cert.KernelIdeal.Hand

open Cert.KernelIdeal Cert.KernelIdeal.Gen
open Idealize.ShloMosaic

/-- The largest magnitude of row `b`. -/
def rowMax (u : Fin 128 → EReal) : EReal :=
  Finset.univ.fold max (FloatOps.ofBits (F := Ideal) .f32 0xFF800000#32) fun x => FloatOps.absf (F := Ideal) (φ := .f32) (u x)

/-- The level of row `b`: its largest magnitude over 448. -/
def level (u : Fin 128 → EReal) : EReal := rowMax u * ((1 / 448 : ℝ) : EReal)

theorem pay3_apply (u : Vec Ideal S16x128 .bf16) (b : Fin 16) (d : Fin 128) :
    k0_pay3 (F := Ideal) u (ix2 b d) = level fun x => u (ix2 b x) := by
  have h : k0_pay3 (F := Ideal) u (ix2 b d)
      = rowMax (fun x => u (ix2 b x)) * Named.named (F := Ideal) (φ := .f32) κ "inv_fp8_max" 0x3B124925#32 := by
    unfold rowMax
    pointwise [k0_pay3, k0_pay2]
  rw [h]
  rfl

theorem vStep_apply (y : FVec Ideal S16x128 .f32) (f : IVec S16x128 32) (w : BitVec 32) (i : S16x128.Idx) :
    vStep (F := Ideal) y f w i = Scales.step (y i) (f i) w := by
  show (if BitVec.ofBool (decide (Ideal.ofBits .f32 ((f i + w) <<< 23) ≤ y i)) = 1#1 then f i + w else f i) = _
  unfold Scales.step
  by_cases h : Ideal.ofBits .f32 ((f i + w) <<< 23) ≤ y i
  · rw [if_pos h, decide_eq_true h]; rfl
  · rw [if_neg h, decide_eq_false h]; rfl

theorem vField_apply (y : FVec Ideal S16x128 .f32) (i : S16x128.Idx) : vField (F := Ideal) y i = Scales.field (y i) := by
  unfold vField Scales.field
  simp only [vStep_apply]
  rfl

theorem vExpo_apply (y : FVec Ideal S16x128 .f32) (i : S16x128.Idx) : vExpo (F := Ideal) y i = Scales.expo (y i) := by
  have h0 : Ideal.ofBits .f32 0x00000000#32 = 0 := by simp [Ideal.ofBits, Ideal.ieee]
  show (if BitVec.ofBool (decide (y i = Ideal.ofBits .f32 0x00000000#32)) = 1#1 then 0#32 else vField (F := Ideal) y i - 126#32) = _
  rw [h0, vField_apply]
  unfold Scales.expo
  by_cases h : y i = 0 <;> simp [h]

theorem vScale_apply (y : FVec Ideal S16x128 .f32) (i : S16x128.Idx) : vScale (F := Ideal) y i = Scales.scale (y i) := by
  show Ideal.ofBits .f32 ((127#32 + vExpo (F := Ideal) y i) <<< 23) = _
  rw [vExpo_apply]
  rfl

theorem vInv_apply (y : FVec Ideal S16x128 .f32) (i : S16x128.Idx) : vInv (F := Ideal) y i = Scales.inv (y i) := by
  show Ideal.ofBits .f32 ((127#32 - vExpo (F := Ideal) y i) <<< 23) = _
  rw [vExpo_apply]
  rfl

/-- Row `b` clipped after scaling by `s`. -/
def clip (x s : EReal) : EReal :=
  min (FloatOps.ofBits (F := Ideal) .f32 0x43E00000#32) (max (FloatOps.ofBits (F := Ideal) .f32 0xC3E00000#32) (x * s))

theorem vClip_apply (u : Vec Ideal S16x128 .bf16) (b : Fin 16) (d : Fin 128) :
    vClip (F := Ideal) u (ix2 b d) = clip (u (ix2 b d)) (Scales.inv (level fun x => u (ix2 b x))) := by
  rw [← pay3_apply u b d, ← vInv_apply]
  rfl

theorem pay14_apply (v : FVec Ideal S16x128 .f32) (b : Fin 16) (d : Fin 128) :
    k0_pay14 (F := Ideal) v (ix2 b d) = v (ix2 b d) := by
  pointwise [k0_pay14]

theorem pay26_apply (v : FVec Ideal S16x128 .f32) (b : Fin 16) (d : Fin 128) :
    k0_pay26 (F := Ideal) v (ix2 b d) = v (ix2 b d) := by
  pointwise [k0_pay26, k0_pay23]

theorem pay24_apply (v : FVec Ideal S16x128 .f32) (b : Fin 16) (d : Fin 128) :
    k0_pay24 (F := Ideal) v (ix2 b d) = v (ix2 b d) := by
  pointwise [k0_pay24, k0_pay23]

/-- The scales stand in every lane of their rows; the row of scales picks the diagonal. -/
theorem pay25_apply (v : FVec Ideal S16x128 .f32) (b : Fin 16) :
    k0_pay25 (F := Ideal) v (ix2 0 b) = v (ix2 b ⟨b.val, by omega⟩) := by
  have h : k0_pay25 (F := Ideal) v (ix2 0 b)
      = ∑ a : Fin 16, Scalar.select (IntOp.cmpi .eq (BitVec.ofNat 32 a.val) (BitVec.ofNat 32 b.val))
          (v (ix2 a ⟨b.val, by omega⟩)) 0 := by
    pointwise [k0_pay25]
  rw [h]
  rw [Finset.sum_eq_single b]
  · simp [Scalar.select, IntOp.cmpi]
  · intro a _ hab
    have ne : BitVec.ofNat 32 a.val ≠ BitVec.ofNat 32 b.val := by
      intro e
      have := congrArg BitVec.toNat e
      simp only [BitVec.toNat_ofNat] at this
      exact hab (Fin.ext (by omega))
    simp [Scalar.select, IntOp.cmpi, beq_false_of_ne ne]
  · simp

end Cert.KernelIdeal.Hand

end
-- ==== Proof.Softmax.lean ====
/-
  The softmax of a row of scores together with one more score, computed two ways over the extended reals, and the
  weighted sum it is used for.

  The plain way subtracts the largest score from each, exponentiates, and divides by the sum; a masked score is `⊥`.
  The other way exponentiates a score `50 * t` as `2 ^ (50 / log 2 * t)`, subtracts nothing, reads a masked position
  as zero, looks only at the window of 1152 positions that holds every unmasked one, and multiplies by the inverse of
  the sum. The scores are real numbers, so the two agree (`attend_eq`). The weights may be any extended reals.
-/
module

public import Idealize.ShloMosaic.PureOps.Ideal
public import Idealize.ShloMosaic.PureOps.Ideal.Laws

@[expose] public section
noncomputable section

namespace Cert.Attend
open Idealize.ShloMosaic

/-- Position `r` of the window that begins at `f`. -/
def at' (f : ℕ) (hf : f ≤ 31616) (r : Fin 1152) : Fin 32768 := ⟨f + r.val, by omega⟩

/-- A sum over all positions of a function that is zero outside the window is the sum over the window. -/
theorem sum_window {M : Type} [AddCommMonoid M] (f : ℕ) (hf : f ≤ 31616) (g : Fin 32768 → M)
    (hg : ∀ j : Fin 32768, ¬ (f ≤ j.val ∧ j.val < f + 1152) → g j = 0) :
    ∑ j, g j = ∑ r, g (at' f hf r) := by
  refine (Fintype.sum_of_injective (at' f hf) ?_ _ _ ?_ fun _ => rfl).symm
  · intro a b h
    have := congrArg Fin.val h
    simp only [at'] at this
    exact Fin.ext (by omega)
  · intro j hj
    refine hg j fun ⟨h1, h2⟩ => hj ⟨⟨j.val - f, by omega⟩, Fin.ext ?_⟩
    simp only [at']; omega

/-- A finite sum of real numbers, read in the extended reals. -/
theorem coe_sum {ι : Type} [Fintype ι] (g : ι → ℝ) : ((∑ i, g i : ℝ) : EReal) = ∑ i, (g i : EReal) := by
  classical
  induction (Finset.univ : Finset ι) using Finset.induction_on with
  | empty => simp
  | insert a s ha ih => rw [Finset.sum_insert ha, Finset.sum_insert ha, EReal.coe_add, ih]

/-- The plain way. -/
def plain (mask : Fin 32768 → Prop) [DecidablePred mask] (t : Fin 32768 → ℝ) (tn m : ℝ)
    (ws w : Fin 32768 → EReal) (wns wn : EReal) : EReal :=
  let e : Fin 32768 → EReal := fun j => Ideal.exp ((if mask j then ((50 * t j : ℝ) : EReal) else ⊥) - (m : EReal))
  let en : EReal := Ideal.exp (((50 * tn : ℝ) : EReal) - (m : EReal))
  let total : EReal := ∑ j, e j + en
  ∑ j, Ideal.div (e j) total * ws j * w j + Ideal.div en total * wns * wn

/-- The other way. -/
def windowed (mask : Fin 32768 → Prop) [DecidablePred mask] (f : ℕ) (hf : f ≤ 31616) (t : Fin 32768 → ℝ) (tn : ℝ)
    (ws w : Fin 32768 → EReal) (wns wn : EReal) : EReal :=
  let c : EReal := ((50 * (Real.log 2)⁻¹ : ℝ) : EReal)
  let e : Fin 1152 → EReal := fun r =>
    if mask (at' f hf r) then Ideal.exp2 (c * ((t (at' f hf r) : ℝ) : EReal)) else 0
  let en : EReal := Ideal.exp2 (c * (tn : EReal))
  let inv : EReal := Ideal.div 1 (∑ r, e r + en)
  ∑ r, e r * inv * ws (at' f hf r) * w (at' f hf r) + en * inv * wns * wn

theorem exp2_scaled (t : ℝ) :
    Ideal.exp2 (((50 * (Real.log 2)⁻¹ : ℝ) : EReal) * (t : EReal)) = ((Real.exp (50 * t) : ℝ) : EReal) := by
  rw [← EReal.coe_mul, Ideal.exp2_coe]
  congr 1
  have h2 : Real.log 2 ≠ 0 := (Real.log_pos (by norm_num)).ne'
  show (2 : ℝ) ^ (50 * (Real.log 2)⁻¹ * t) = _
  rw [Real.rpow_def_of_pos (by norm_num)]
  congr 1
  field_simp

theorem exp_shifted (x m : ℝ) : Ideal.exp ((x : EReal) - (m : EReal)) = ((Real.exp x * Real.exp (-m) : ℝ) : EReal) := by
  rw [← EReal.coe_sub, ← Real.exp_add, ← sub_eq_add_neg]; rfl

theorem cancel (x T k : ℝ) (hT : T ≠ 0) (hk : k ≠ 0) : x * k * (1 / (T * k)) = x * (1 / T) := by
  field_simp

/-- The two ways agree. -/
theorem attend_eq (mask : Fin 32768 → Prop) [DecidablePred mask] (f : ℕ) (hf : f ≤ 31616)
    (hmask : ∀ j, mask j → f ≤ j.val ∧ j.val < f + 1152) (t : Fin 32768 → ℝ) (tn m : ℝ)
    (ws w : Fin 32768 → EReal) (wns wn : EReal) :
    windowed mask f hf t tn ws w wns wn = plain mask t tn m ws w wns wn := by
  set E : Fin 32768 → ℝ := fun j => if mask j then Real.exp (50 * t j) else 0 with hE
  have hE0 : ∀ j : Fin 32768, ¬ (f ≤ j.val ∧ j.val < f + 1152) → E j = 0 := fun j hj => if_neg fun h => hj (hmask j h)
  have hEn : ∀ j, 0 ≤ E j := fun j => by simp only [hE]; split_ifs; exacts [(Real.exp_pos _).le, le_rfl]
  set En : ℝ := Real.exp (50 * tn) with hEnd
  have hEnp : 0 < En := Real.exp_pos _
  set T : ℝ := ∑ j, E j + En with hT
  have hTp : 0 < T := add_pos_of_nonneg_of_pos (Finset.sum_nonneg fun j _ => hEn j) hEnp
  set k : ℝ := Real.exp (-m) with hk
  have hkp : 0 < k := Real.exp_pos _
  clear_value T k
  -- the plain way's terms
  have pe : ∀ j, Ideal.exp ((if mask j then ((50 * t j : ℝ) : EReal) else ⊥) - (m : EReal)) = ((E j * k : ℝ) : EReal) := by
    intro j
    by_cases h : mask j
    · simp only [hE, if_pos h, hk]; exact exp_shifted _ _
    · simp only [hE, if_neg h, zero_mul]; rfl
  have pn : Ideal.exp (((50 * tn : ℝ) : EReal) - (m : EReal)) = ((En * k : ℝ) : EReal) := by rw [hk]; exact exp_shifted _ _
  have ptot : ∑ j, ((E j * k : ℝ) : EReal) + ((En * k : ℝ) : EReal) = ((T * k : ℝ) : EReal) := by
    rw [← coe_sum, ← EReal.coe_add, ← Finset.sum_mul, ← add_mul, hT]
  -- the other way's terms
  have we : ∀ r, (if mask (at' f hf r) then
      Ideal.exp2 (((50 * (Real.log 2)⁻¹ : ℝ) : EReal) * ((t (at' f hf r) : ℝ) : EReal)) else 0)
      = ((E (at' f hf r) : ℝ) : EReal) := by
    intro r
    by_cases h : mask (at' f hf r)
    · simp only [hE, if_pos h]; exact exp2_scaled _
    · simp only [hE, if_neg h]; rfl
  have wtot : ∑ r, ((E (at' f hf r) : ℝ) : EReal) + (En : EReal) = (T : EReal) := by
    have h := sum_window f hf E hE0
    rw [hT, h, EReal.coe_add, coe_sum]
  have hdiv : ∀ x : ℝ, Ideal.div ((x * k : ℝ) : EReal) ((T * k : ℝ) : EReal) = ((x * (1 / T) : ℝ) : EReal) := by
    intro x
    rw [Ideal.div_coe (mul_pos hTp hkp).ne', ← EReal.coe_mul]
    exact congrArg _ (cancel x T k hTp.ne' hkp.ne')
  have hinv : Ideal.div 1 (T : EReal) = ((1 / T : ℝ) : EReal) := by rw [Ideal.div_coe hTp.ne', one_mul]
  unfold windowed plain
  have wn' : Ideal.exp2 (((50 * (Real.log 2)⁻¹ : ℝ) : EReal) * (tn : EReal)) = (En : EReal) := exp2_scaled tn
  simp only [we, wn', pe, pn, ptot, wtot, hdiv, hinv]
  simp only [← EReal.coe_mul]
  have h := sum_window f hf (fun j => ((E j * (1 / T) : ℝ) : EReal) * ws j * w j)
    fun j hj => by simp only [hE0 j hj, zero_mul, EReal.coe_zero]
  rw [h]

end Cert.Attend
-- ==== Proof.RefPay.lean ====
/-
  The reference's values over the extended reals, read element by element.
-/
module

public import proofs.«01_k».proof.Proof.Gen.ReferenceIdeal.Value
public import proofs.«01_k».proof.Proof.QuantIdeal
public import proofs.«01_k».proof.Proof.Softmax
public import Idealize.ShloMosaic.Lib.Pointwise

@[expose] public section

set_option maxRecDepth 16384
set_option maxHeartbeats 0

noncomputable section

namespace Cert.ReferenceIdeal.Hand

open Cert.ReferenceIdeal Cert.ReferenceIdeal.Gen
open Idealize.ShloMosaic
open Cert.KernelIdeal.Hand (rowMax level clip)

/-- The exponent the reference takes for a row. -/
def expo (u : Fin 128 → EReal) : EReal := Scales.refExpo (rowMax u) (level u)

theorem zero_bits : Ideal.ofBits .f32 0x00000000#32 = 0 := by simp [Ideal.ofBits, Ideal.ieee]
theorem pay4_apply (P : Vec Ideal S16x1x128 .bf16) (b : Fin 16) :
    k0_pay4 (F := Ideal) P (ix3 b 0 0) = expo fun x => P (ix3 b 0 x) := by
  unfold expo Scales.refExpo level rowMax
  pointwise [k0_pay4, k0_pay3]
  rfl

theorem pay10_apply (P : Vec Ideal S16x1x128 .bf16) (b : Fin 16) :
    k0_pay10 (F := Ideal) (k0_pay8 P) (k0_pay9 P) (ix3 b 0 0) = expo fun x => P (ix3 b 0 x) := by
  refine Eq.trans ?_ (pay4_apply P b)
  rfl

theorem pay6_apply (P : Vec Ideal S16x1x128 .bf16) (b : Fin 16) (d : Fin 128) :
    k0_pay6 (F := Ideal) P (ix3 b 0 d) = clip (P (ix3 b 0 d)) (Ideal.exp2 (0 - expo fun x => P (ix3 b 0 x))) := by
  rw [← pay4_apply, ← zero_bits]
  unfold clip
  pointwise [k0_pay6, k0_pay3]
  rfl

theorem pay12_apply (P : Vec Ideal S16x1x128 .bf16) (b : Fin 16) (d : Fin 128) :
    k0_pay12 (F := Ideal) (k0_pay7 P) (k0_pay8 P) (k0_pay9 P) (ix3 b 0 d)
      = clip (P (ix3 b 0 d)) (Ideal.exp2 (0 - expo fun x => P (ix3 b 0 x))) := by
  refine Eq.trans ?_ (pay6_apply P b d)
  rfl

theorem pay13_apply (v : FVec Ideal S16x1x128 .fp8e4m3) (b : Fin 16) (d : Fin 128) :
    k0_pay13 (F := Ideal) v (ix2 b d) = v (ix3 b 0 d) := by
  pointwise [k0_pay13]

theorem pay5_apply (P : Vec Ideal S16x1x128 .bf16) (b : Fin 16) :
    k0_pay5 (F := Ideal) P (ix3 b 0 0) = Ideal.exp2 (expo fun x => P (ix3 b 0 x)) := by
  rw [← pay4_apply]; rfl

theorem pay11_apply (P : Vec Ideal S16x1x128 .bf16) (b : Fin 16) :
    k0_pay11 (F := Ideal) (k0_pay8 P) (k0_pay9 P) (ix3 b 0 0) = Ideal.exp2 (expo fun x => P (ix3 b 0 x)) := by
  rw [← pay10_apply]; rfl

theorem pay14_apply (v : FVec Ideal S16x1x1 .f32) (b : Fin 16) : k0_pay14 (F := Ideal) v (ix2 0 b) = v (ix3 b 0 0) := by
  pointwise [k0_pay14]

theorem pay15_eq (P : Vec Ideal S16x1x128 .bf16) :
    k0_pay15 (F := Ideal) (k0_pay7 P) (k0_pay8 P) (k0_pay9 P) = k0_pay13 (k0_pay12 (k0_pay7 P) (k0_pay8 P) (k0_pay9 P)) := rfl

theorem pay16_eq (P : Vec Ideal S16x1x128 .bf16) :
    k0_pay16 (F := Ideal) (k0_pay8 P) (k0_pay9 P) = k0_pay14 (k0_pay11 (k0_pay8 P) (k0_pay9 P)) := rfl

/-! ## The scores -/

/-- The score's hyperbolic tangent, from the raw product and the scale. -/
def tanhOf (s g : EReal) : EReal :=
  Ideal.tanh (Ideal.div (s * g * Named.named (F := Ideal) (φ := .f32) κ "score_scale" 0x3DB504F3#32) (Ideal.ofBits .f32 0x42480000#32))

theorem pay17_apply (v1 : FVec Ideal S16x16x128 .bf16) (v70 : Vec Ideal S16x32768x128 .fp8e4m3) (b h : Fin 16) (j : Fin 32768) :
    k0_pay17 (F := Ideal) v1 v70 (ix3 b h j) = ∑ x, v1 (ix3 b h x) * v70 (ix3 b j x) := by
  pointwise [k0_pay17, dot_S16x16x128_S16x32768x128_S16x16x32768_2_2_1_1_0_0]

theorem pay18_apply (v1 : FVec Ideal S16x16x128 .bf16) (v21 : FVec Ideal S16x1x1 .f32) (v31 : FVec Ideal S16x1x128 .fp8e4m3)
    (b h : Fin 16) : k0_pay18 (F := Ideal) v1 v21 v31 (ix3 b h 0)
      = Ideal.ofBits .f32 0x42480000#32 * tanhOf (∑ x, v1 (ix3 b h x) * v31 (ix3 b 0 x)) (v21 (ix3 b 0 0)) := by
  unfold tanhOf
  pointwise [k0_pay18, dot_S16x16x128_S16x1x128_S16x16x1_2_2_1_1_0_0]
  try rfl

/-- The words the reference's mask compares. -/
def liveBit (n : BitVec 32) (j : ℕ) : BitVec 1 :=
  IntOp.andi (IntOp.cmpi .slt (BitVec.ofNat 32 j) n) (IntOp.cmpi .sgt (BitVec.ofNat 32 j) (IntOp.subi n 1024#32))

theorem pay19_apply (v73 : FVec Ideal S16x16x32768 .f32) (v74 : Vec Ideal S16x1x32768 .f32) (v96 : Vec Ideal S16x1x1 .i32)
    (b h : Fin 16) (j : Fin 32768) : k0_pay19 (F := Ideal) v73 v74 v96 (ix3 b h j)
      = Scalar.select (liveBit (v96 (ix3 b 0 0)) j.val)
          (Ideal.ofBits .f32 0x42480000#32 * tanhOf (v73 (ix3 b h j)) (v74 (ix3 b 0 j))) (Ideal.ofBits .f32 0xFF800000#32) := by
  unfold tanhOf liveBit
  pointwise [k0_pay19]
  try rfl

theorem pay21_apply (v1 : FVec Ideal S16x16x128 .bf16) (v21 : FVec Ideal S16x1x1 .f32) (v31 : FVec Ideal S16x1x128 .fp8e4m3)
    (v73 : FVec Ideal S16x16x32768 .f32) (v74 : Vec Ideal S16x1x32768 .f32) (v96 : Vec Ideal S16x1x1 .i32) (b h : Fin 16) (j : Fin 32768) :
    k0_pay21 (F := Ideal) v1 v21 v31 v73 v74 v96 (ix3 b h j)
      = Ideal.exp (k0_pay19 (F := Ideal) v73 v74 v96 (ix3 b h j) - k0_pay20 (F := Ideal) v1 v21 v31 v73 v74 v96 (ix3 b h 0)) := by
  unfold k0_pay21
  generalize k0_pay19 (F := Ideal) v73 v74 v96 = A
  generalize k0_pay20 (F := Ideal) v1 v21 v31 v73 v74 v96 = B
  pointwise []

theorem pay22_apply (v1 : FVec Ideal S16x16x128 .bf16) (v21 : FVec Ideal S16x1x1 .f32) (v31 : FVec Ideal S16x1x128 .fp8e4m3)
    (v73 : FVec Ideal S16x16x32768 .f32) (v74 : Vec Ideal S16x1x32768 .f32) (v96 : Vec Ideal S16x1x1 .i32) (b h : Fin 16) :
    k0_pay22 (F := Ideal) v1 v21 v31 v73 v74 v96 (ix3 b h 0)
      = Ideal.exp (k0_pay18 (F := Ideal) v1 v21 v31 (ix3 b h 0) - k0_pay20 (F := Ideal) v1 v21 v31 v73 v74 v96 (ix3 b h 0)) := rfl

theorem pay1_apply (v51 : FVec Ideal S16x1x1 .f32) (v61 : FVec Ideal S16x1x128 .fp8e4m3) (v117 : FVec Ideal S16x16x32768 .f32)
    (v119 : FVec Ideal S16x16x1 .f32) (v125 : Vec Ideal S16x1x32768 .f32) (v134 : Vec Ideal S16x32768x128 .fp8e4m3)
    (b h : Fin 16) (d : Fin 128) : k0_pay1 (F := Ideal) v51 v61 v117 v119 v125 v134 (ix3 b h d)
      = ∑ j, Ideal.div (v117 (ix3 b h j)) (∑ j, v117 (ix3 b h j) + v119 (ix3 b h 0)) * v125 (ix3 b 0 j) * v134 (ix3 b j d)
        + Ideal.div (v119 (ix3 b h 0)) (∑ j, v117 (ix3 b h j) + v119 (ix3 b h 0)) * v51 (ix3 b 0 0) * v61 (ix3 b 0 d) := by
  have h1 : k0_pay1 (F := Ideal) v51 v61 v117 v119 v125 v134 (ix3 b h d)
      = ∑ j, Ideal.div (v117 (ix3 b h j)) (∑ j, v117 (ix3 b h j) + v119 (ix3 b h 0)) * v125 (ix3 b 0 j) * v134 (ix3 b j d)
        + ∑ x : Fin 1, Ideal.div (v119 (ix3 b h x)) (∑ j, v117 (ix3 b h j) + v119 (ix3 b h x)) * v51 (ix3 b 0 0) * v61 (ix3 b x d) := by
    pointwise [k0_pay1, dot_S16x16x32768_S16x32768x128_S16x16x128_2_1_1_2_0_0, dot_S16x16x1_S16x1x128_S16x16x128_2_1_1_2_0_0]
  rw [h1, Fin.sum_univ_one]

end Cert.ReferenceIdeal.Hand

end
-- ==== Proof.InRange.lean ====
/-
  Rows in range: what the precondition says of a new key's or value's row, and that on such a row the kernel's way of taking
  the scale — comparing against assembled powers of two — and the reference's — rounding a logarithm up — agree.
-/
module

public import proofs.«01_k».proof.Pre_rows_in_range
public import proofs.«01_k».proof.Proof.RefPay
public import Idealize.ShloMosaic.Lib.Pointwise

@[expose] public section

set_option maxRecDepth 16384

noncomputable section

namespace Cert.InRange

open Idealize.ShloMosaic
open Cert.KernelIdeal.Hand (rowMax level)
open Cert.ReferenceIdeal.Hand (expo zero_bits)

/-- The side conditions of the precondition's own operations. -/
theorem facts : Cert.Pre_rows_in_range.Facts :=
  ⟨by decide, by decide, by decide, by decide, by decide⟩

/-! ## The two bounds -/

theorem low_bits : Ideal.ofBits .f32 0x04600000#32 = ((448 * (2 : ℝ) ^ (-127 : ℤ) : ℝ) : EReal) := by
  have h : ¬ BitVec.extractLsb' 31 1 (0x04600000#32 : BitVec 32) = 1#1 := by decide
  norm_num [Ideal.ofBits, Ideal.ieee, Nat.shiftRight_eq_div_pow, h]

theorem high_bits : Ideal.ofBits .f32 0x7F7F0000#32 = ((255 * (2 : ℝ) ^ (120 : ℤ) : ℝ) : EReal) := by
  have h : ¬ BitVec.extractLsb' 31 1 (0x7F7F0000#32 : BitVec 32) = 1#1 := by decide
  norm_num [Ideal.ofBits, Ideal.ieee, Nat.shiftRight_eq_div_pow, h]

/-! ## In range, the scales agree -/

/-- The row's largest magnitude is zero or at least `448 * 2^-127`, and no more than the largest finite bf16. -/
def InRange (u : Fin 128 → EReal) : Prop :=
  (rowMax u = Ideal.ofBits .f32 0x00000000#32 ∨ Ideal.ofBits .f32 0x04600000#32 ≤ rowMax u)
    ∧ rowMax u ≤ Ideal.ofBits .f32 0x7F7F0000#32

theorem scales_agree (u : Fin 128 → EReal) (h : InRange u) :
    Scales.scale (level u) = Ideal.exp2 (expo u) ∧ Scales.inv (level u) = Ideal.exp2 (0 - expo u) := by
  obtain ⟨h1, h2⟩ := h
  unfold expo level
  rw [zero_bits, low_bits] at h1
  rw [high_bits] at h2
  generalize rowMax u = a at h1 h2
  induction a with
  | bot =>
    rcases h1 with h1 | h1
    · exact absurd h1 EReal.bot_ne_zero
    · exact absurd h1 (not_le.mpr (EReal.bot_lt_coe _))
  | top => exact absurd h2 (not_le.mpr (EReal.coe_lt_top _))
  | coe a =>
    rw [EReal.coe_le_coe_iff] at h2
    rw [← EReal.coe_mul]
    rcases h1 with h1 | h1
    · have h0 : a = 0 := EReal.coe_eq_zero.mp h1
      subst h0
      refine Scales.scale_eq _ _ ⟨fun _ => by simp, fun _ => EReal.coe_zero⟩ (.inl (by simp))
    · rw [EReal.coe_le_coe_iff] at h1
      have hp : 0 < a := lt_of_lt_of_le (by positivity) h1
      refine Scales.scale_eq _ _ ⟨fun e => absurd (EReal.coe_eq_zero.mp e) hp.ne', fun e => ?_⟩ (.inr ⟨?_, ?_⟩)
      · exact absurd e (mul_pos hp (by norm_num)).ne'
      · generalize (2 : ℝ) ^ (-127 : ℤ) = q at h1 ⊢
        linarith
      · have : (2 : ℝ) ^ (126 : ℤ) = 64 * (2 : ℝ) ^ (120 : ℤ) := by norm_num
        have hq : (0 : ℝ) < (2 : ℝ) ^ (120 : ℤ) := by positivity
        rw [this]
        generalize (2 : ℝ) ^ (120 : ℤ) = q at h2 hq ⊢
        linarith

/-! ## What the precondition says -/

/-- The precondition's bit for a row. -/
def rowBit (u : Fin 128 → EReal) : BitVec 1 :=
  (BitVec.ofBool (decide (rowMax u = Ideal.ofBits .f32 0x00000000#32))
      ||| BitVec.ofBool (decide (Ideal.ofBits .f32 0x04600000#32 ≤ rowMax u)))
    &&& BitVec.ofBool (decide (rowMax u ≤ Ideal.ofBits .f32 0x7F7F0000#32))

theorem both_bits (x y : BitVec 1) (h : x &&& y = 1#1) : x = 1#1 ∧ y = 1#1 := by
  revert x y; decide

theorem either_bit (x y : BitVec 1) (h : x ||| y = 1#1) : x = 1#1 ∨ y = 1#1 := by
  revert x y; decide

theorem of_bit (p : Prop) [Decidable p] (h : BitVec.ofBool (decide p) = 1#1) : p := by
  by_cases hp : p
  · exact hp
  · rw [decide_eq_false hp] at h; exact absurd h (by decide)

theorem inRange_of_bit (u : Fin 128 → EReal) (h : rowBit u = 1#1) : InRange u := by
  obtain ⟨h1, h2⟩ := both_bits _ _ h
  exact ⟨(either_bit _ _ h1).imp (of_bit _) (of_bit _), of_bit _ h2⟩

open Cert.Pre_rows_in_range in
theorem fn_apply [Facts] (a0 : FVec Ideal S16x1x16x128 .bf16) (a1 a2 : FVec Ideal S16x1x1x128 .bf16)
    (a3 a4 : FVec Ideal S16x32768x1x128 .fp8e4m3) (a5 a6 : FVec Ideal S16x32768x1 .f32) (a7 : IVec S16 32) (b : Fin 16) :
    fn (F := Ideal) a0 a1 a2 a3 a4 a5 a6 a7 (ix1 b)
      = rowBit (fun x => a1 (ix4 b 0 0 x)) &&& rowBit (fun x => a2 (ix4 b 0 0 x)) := by
  unfold rowBit rowMax
  pointwise [fn, fn_part1]
  rfl

end Cert.InRange

end
-- ==== Proof.ArgsI.lean ====
/-
  The arrays the kernel's body reads, as functions of the arguments: each is an argument reshaped.
-/
module

public import proofs.«01_k».proof.Proof.Gen.KernelIdeal.Frame
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

theorem read0 : V m c main_v0 = shapeCast S16x16x128 (m ((c : Thread nD τ).loc main_arg0)) shapeCasts_S16x1x16x128_S16x16x128 := rfl

theorem read1 : V m c main_v1 = shapeCast S16x128 (m ((c : Thread nD τ).loc main_arg1)) shapeCasts_S16x1x1x128_S16x128 := rfl

theorem read2 : V m c main_v2 = shapeCast S16x128 (m ((c : Thread nD τ).loc main_arg2)) shapeCasts_S16x1x1x128_S16x128 := rfl

theorem read3 : V m c main_v3 = shapeCast S16x32768x128 (m ((c : Thread nD τ).loc main_arg3)) shapeCasts_S16x32768x1x128_S16x32768x128 := rfl

theorem read4 : V m c main_v4 = shapeCast S16x32768x128 (m ((c : Thread nD τ).loc main_arg4)) shapeCasts_S16x32768x1x128_S16x32768x128 := rfl

theorem read5 : V m c main_v5 = shapeCast S16x1x32768 (m ((c : Thread nD τ).loc main_arg5)) shapeCasts_S16x32768x1_S16x1x32768 := rfl

theorem read6 : V m c main_v6 = shapeCast S16x1x32768 (m ((c : Thread nD τ).loc main_arg6)) shapeCasts_S16x32768x1_S16x1x32768 := rfl

/-! ## The reshapes, element by element -/

theorem cast0 (a : S16x1x16x128.Idx → EReal) (b h : Fin 16) (d : Fin 128) :
    shapeCast S16x16x128 a shapeCasts_S16x1x16x128_S16x16x128 (ix3 b h d) = a (ix4 b 0 h d) := by
  pointwise

theorem cast1 (a : S16x1x1x128.Idx → EReal) (b : Fin 16) (d : Fin 128) :
    shapeCast S16x128 a shapeCasts_S16x1x1x128_S16x128 (ix2 b d) = a (ix4 b 0 0 d) := by
  pointwise

theorem cast3 (a : S16x32768x1x128.Idx → EReal) (b : Fin 16) (p : Fin 32768) (d : Fin 128) :
    shapeCast S16x32768x128 a shapeCasts_S16x32768x1x128_S16x32768x128 (ix3 b p d) = a (ix4 b p 0 d) := by
  pointwise

theorem cast5 (a : S16x32768x1.Idx → EReal) (b : Fin 16) (p : Fin 32768) :
    shapeCast S16x1x32768 a shapeCasts_S16x32768x1_S16x1x32768 (ix3 b 0 p) = a (ix3 b p 0) := by
  pointwise

/-! ## The arrays, element by element -/

theorem el0 (b h : Fin 16) (d : Fin 128) : (V m c main_v0 : S16x16x128.Idx → EReal) (ix3 b h d)
    = (m ((c : Thread nD τ).loc main_arg0) : S16x1x16x128.Idx → EReal) (ix4 b 0 h d) := by
  rw [read0]; exact cast0 _ b h d

theorem el1 (b : Fin 16) (d : Fin 128) : (V m c main_v1 : S16x128.Idx → EReal) (ix2 b d)
    = (m ((c : Thread nD τ).loc main_arg1) : S16x1x1x128.Idx → EReal) (ix4 b 0 0 d) := by
  rw [read1]; exact cast1 _ b d

theorem el2 (b : Fin 16) (d : Fin 128) : (V m c main_v2 : S16x128.Idx → EReal) (ix2 b d)
    = (m ((c : Thread nD τ).loc main_arg2) : S16x1x1x128.Idx → EReal) (ix4 b 0 0 d) := by
  rw [read2]; exact cast1 _ b d

theorem el3 (b : Fin 16) (p : Fin 32768) (d : Fin 128) : (V m c main_v3 : S16x32768x128.Idx → EReal) (ix3 b p d)
    = (m ((c : Thread nD τ).loc main_arg3) : S16x32768x1x128.Idx → EReal) (ix4 b p 0 d) := by
  rw [read3]; exact cast3 _ b p d

theorem el4 (b : Fin 16) (p : Fin 32768) (d : Fin 128) : (V m c main_v4 : S16x32768x128.Idx → EReal) (ix3 b p d)
    = (m ((c : Thread nD τ).loc main_arg4) : S16x32768x1x128.Idx → EReal) (ix4 b p 0 d) := by
  rw [read4]; exact cast3 _ b p d

theorem el5 (b : Fin 16) (p : Fin 32768) : (V m c main_v5 : S16x1x32768.Idx → EReal) (ix3 b 0 p)
    = (m ((c : Thread nD τ).loc main_arg5) : S16x32768x1.Idx → EReal) (ix3 b p 0) := by
  rw [read5]; exact cast5 _ b p

theorem el6 (b : Fin 16) (p : Fin 32768) : (V m c main_v6 : S16x1x32768.Idx → EReal) (ix3 b 0 p)
    = (m ((c : Thread nD τ).loc main_arg6) : S16x32768x1.Idx → EReal) (ix3 b p 0) := by
  rw [read6]; exact cast5 _ b p

theorem el7 (b : Fin 16) : (V m c main_arg7 : S16.Idx → BitVec 32) (ix1 b)
    = (m ((c : Thread nD τ).loc main_arg7) : S16.Idx → BitVec 32) (ix1 b) := by
  rw [V_main_arg7]

end Cert.KernelIdeal.Hand

end
-- ==== Proof.PairVec.lean ====
/-
  What the decode kernel computes for two sequences at a time, as whole-vector functions in the kernel's own operations.

  The two sequences' queries stand on the diagonal of one 32 x 256 matrix, so one product with the two windows of keys side
  by side gives both score blocks (`scores`). Each of the nine tiles of 128 positions of sequence `i` is scaled, capped,
  exponentiated and masked (`tileE`); the sum over the window and the new position is inverted (`inverse`); the weights
  times the value scales (`weights`) of both sequences are stacked (`stacked`) and multiplied with the two windows of values
  side by side, and each sequence takes its own block and adds the new value's share (`outRow`).
-/
module

public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

theorem tile_inb : ∀ (i : Fin 2) (t : Fin 9), S32x1152.Slices ![16 * i.val, 128 * t.val] S16x128 := by decide

theorem block_inb : ∀ i : Fin 2, S32x256.Slices ![16 * i.val, 128 * i.val] S16x128 := by decide

/-- The lane numbers `0 .. 127`. -/
def lanes : IVec S1x128 32 := iota .tc S1x128 32 [1] iota_S1x128_d1_w32

/-- The new position's exponentiated score, per head, in every lane. -/
def newE (x : Vec F S1x16x128 .bf16) (kf ks : Vec F S1x128 .f32) : FVec F S16x128 .f32 := k0_pay30 x kf ks

/-- Both sequences' scores over their windows. -/
def scores (x0 x1 : Vec F S1x16x128 .bf16) (k0 k1 : Vec F S1x1152x128 .fp8e4m3) : FVec F S32x1152 .f32 :=
  k0_pay52 k0_pay51 x0 x1 k0 k1

/-- Sequence `i`'s exponentiated scores over tile `t`, zero where the position is not strictly between `low` and `high`. -/
def tileE (s : FVec F S32x1152 .f32) (i : Fin 2) (low high : BitVec 32) (t : Fin 9) (c : Vec F S1x1x128 .f32) :
    FVec F S16x128 .f32 :=
  let z := extractStridedSlice S16x128 ![16 * i.val, 128 * t.val] s (tile_inb i t)
  let c' : FVec F S1x128 .f32 :=
    mulf (shapeCast S1x128 c shapeCasts_S1x1x128_S1x128) (broadcast S1x128 (Named.named κ "score_over_softcap" 0x3AE7B46A#32))
  let e : FVec F S16x128 .f32 :=
    exp2 (mulf (broadcast S16x128 (Named.named κ "softcap_log2_e" 0x429044FE#32))
      (tanh (mulf z (broadcastTo S16x128 c' broadcasts_S1x128_S16x128))))
  let at' : IVec S1x128 32 := addi lanes (broadcast S1x128 (BitVec.ofNat 32 (128 * t.val)))
  let m : IVec S1x128 1 := andi (cmpi .sgt at' (broadcast S1x128 low)) (cmpi .slt at' (broadcast S1x128 high))
  select (broadcastTo S16x128 (shapeCast S1x128 m shapeCasts_S1x128_S1x128) broadcasts_S1x128_S16x128) e
    (broadcast S16x128 (Scalar.ofBits .f32 0x00000000#32))

/-- One over the sum of sequence `i`'s exponentiated scores. -/
def inverse (e : Fin 9 → FVec F S16x128 .f32) (en : FVec F S16x128 .f32) : FVec F S16x128 .f32 :=
  let total := addf (addf (addf (addf (addf (addf (addf (addf (e 0) (e 1)) (e 2)) (e 3)) (e 4)) (e 5)) (e 6)) (e 7)) (e 8)
  let sum : FVec F S16 .f32 := multiReduction .add [1] S16 total 0x00000000#32 reduces_S16x128_S16 (.inl rfl) rfl
  divf (broadcast S16x128 (Scalar.ofBits .f32 0x3F800000#32))
    (addf (broadcastTo S16x128 (shapeCast S16x1 sum shapeCasts_S16_S16x1) broadcasts_S16x1_S16x128) en)

/-- One tile of a sequence's weights: the normalised exponentials times the value scales. -/
def weight (e inv : FVec F S16x128 .f32) (c : Vec F S1x1x128 .f32) : FVec F S16x128 .bf16 :=
  truncf .bf16 (mulf (mulf e inv)
    (broadcastTo S16x128 (shapeCast S1x128 c shapeCasts_S1x1x128_S1x128 : FVec F S1x128 .f32) broadcasts_S1x128_S16x128))
    bitsLt_bf16_f32

/-- A sequence's weights over its window. -/
def weights (e : Fin 9 → FVec F S16x128 .f32) (inv : FVec F S16x128 .f32) (c : Fin 9 → Vec F S1x1x128 .f32) :
    FVec F S16x1152 .bf16 :=
  concatenate S16x1152 1 [⟨S16x128, weight (e 0) inv (c 0)⟩, ⟨S16x128, weight (e 1) inv (c 1)⟩,
    ⟨S16x128, weight (e 2) inv (c 2)⟩, ⟨S16x128, weight (e 3) inv (c 3)⟩, ⟨S16x128, weight (e 4) inv (c 4)⟩,
    ⟨S16x128, weight (e 5) inv (c 5)⟩, ⟨S16x128, weight (e 6) inv (c 6)⟩, ⟨S16x128, weight (e 7) inv (c 7)⟩,
    ⟨S16x128, weight (e 8) inv (c 8)⟩]
    concatenates_S16x128_S16x128_S16x128_S16x128_S16x128_S16x128_S16x128_S16x128_S16x128_S16x1152_d1

/-- Both sequences' weights. -/
def stacked (p0 p1 : FVec F S16x1152 .bf16) : FVec F S32x1152 .bf16 :=
  concatenate S32x1152 0 [⟨S16x1152, p0⟩, ⟨S16x1152, p1⟩] concatenates_S16x1152_S16x1152_S32x1152_d0

/-- The new value's weight. -/
def newP (en inv : FVec F S16x128 .f32) (vs : Vec F S1x128 .f32) : FVec F S16x128 .f32 :=
  extf .f32 (truncf .bf16 (mulf (mulf en inv) (broadcastTo S16x128 vs broadcasts_S1x128_S16x128)) bitsLt_bf16_f32 :
    FVec F S16x128 .bf16) bitsLt_bf16_f32

/-- Sequence `i`'s output. -/
def outRow (i : Fin 2) (p : FVec F S32x1152 .bf16) (v0 v1 : Vec F S1x1152x128 .fp8e4m3) (pn : FVec F S16x128 .f32)
    (vf : Vec F S1x128 .f32) : FVec F S1x16x128 .bf16 :=
  let o : FVec F S32x256 .f32 := k0_pay720 p (k0_pay719 v0 v1) (constant S32x256 .f32 0x00000000#32)
  shapeCast S1x16x128
    (truncf .bf16 (addf (extractStridedSlice S16x128 ![16 * i.val, 128 * i.val] o (block_inb i))
      (mulf pn (broadcastTo S16x128 vf broadcasts_S1x128_S16x128))) bitsLt_bf16_f32 : FVec F S16x128 .bf16)
    shapeCasts_S16x128_S1x16x128

/-- The two sequences' output. For each of the two: its queries, its window of keys and of values, its new key and value
    and their scales, the bounds of its mask, and its windows' scales by tile. -/
def pairOut (i : Fin 2) (x : Fin 2 → Vec F S1x16x128 .bf16) (k v : Fin 2 → Vec F S1x1152x128 .fp8e4m3)
    (kf ks vf vs : Fin 2 → Vec F S1x128 .f32) (low high : Fin 2 → BitVec 32)
    (ck cv : Fin 2 → Fin 9 → Vec F S1x1x128 .f32) : FVec F S1x16x128 .bf16 :=
  let s := scores (x 0) (x 1) (k 0) (k 1)
  let e : Fin 2 → Fin 9 → FVec F S16x128 .f32 := fun i t => tileE s i (low i) (high i) t (ck i t)
  let en : Fin 2 → FVec F S16x128 .f32 := fun i => newE (x i) (kf i) (ks i)
  let inv : Fin 2 → FVec F S16x128 .f32 := fun i => inverse (e i) (en i)
  outRow i (stacked (weights (e 0) (inv 0) (cv 0)) (weights (e 1) (inv 1) (cv 1))) (v 0) (v 1)
    (newP (en i) (inv i) (vs i)) (vf i)

end Cert.KernelIdeal.Hand
-- ==== Proof.LoadsI.lean ====
/-
  What the decode kernel's body loads for sequence `i`, once for every sequence: its length, its queries, its windows of keys
  and of values and of their scales, and its new key and value with their scales.
-/
module

public import proofs.«01_k».proof.Proof.RunI7

@[expose] public section

noncomputable section

namespace Cert.KernelIdeal.Hand

open Cert.KernelIdeal Cert.KernelIdeal.Gen
open Idealize.ShloMosaic Idealize.ShloMosaic.TcCoe

variable {F : FTy → Type} [FloatOps F] [Named F]

theorem inbLen : ∀ i : Fin 16, ∀ a, (![i.val] : Fin 1 → ℕ) a + S1.size a ≤ S16.size a := by decide
theorem inbX : ∀ i : Fin 16, ∀ a, (![i.val, 0, 0] : Fin 3 → ℕ) a + S1x16x128.size a ≤ S16x16x128.size a := by decide
theorem inbSlab : ∀ i : Fin 16, ∀ a, (![i.val, 0, 0] : Fin 3 → ℕ) a + S1x1152x128.size a ≤ S16x1152x128.size a := by decide
theorem inbRow : ∀ i : Fin 16, ∀ a, (![i.val, 0, 0] : Fin 3 → ℕ) a + S1x1x1152.size a ≤ S16x1x1152.size a := by decide
theorem inbNew : ∀ i : Fin 16, ∀ a, (![i.val, 0] : Fin 2 → ℕ) a + S1x128.size a ≤ S16x128.size a := by decide

theorem inbTile (i : Fin 16) (t : Fin 9) (a) :
    (![i.val, 0, 128 * t.val] : Fin 3 → ℕ) a + S1x1x128.size a ≤ S16x1x1152.size a := by
  match a with
  | 0 => show i.val + 1 ≤ 16; omega
  | 1 => show 0 + 1 ≤ 1; omega
  | 2 => show 128 * t.val + 128 ≤ 1152; omega

theorem inbWin (i : Fin 16) (w : BitVec 32) (a) :
    (![i.val, (Decode.first w).toNat, 0] : Fin 3 → ℕ) a + S1x1152x128.size a ≤ S16x32768x128.size a :=
  (chk_all i.val i.isLt w).2.1 a

theorem inbSwin (i : Fin 16) (w : BitVec 32) (a) :
    (![i.val, 0, (Decode.first w).toNat] : Fin 3 → ℕ) a + S1x1x1152.size a ≤ S16x1x32768.size a :=
  (chk_all i.val i.isLt w).2.2.2 a

/-- The length of sequence `i`. -/
def lenOf (c : Dev nD) (faLen : Bf (F := F) c aLen) (fsLen : Bf (F := F) c sLen) (i : Fin 16) : BitVec 32 :=
  View.readAt (Elt F) sLen.view (Rect.unit (s := S16) ![i.val] S1.size (inbLen i)).toLoadRect
    (View.write (Elt F) sLen.view fsLen (ReadAs.same.apply (View.read (Elt F) aLen.view faLen)) Finset.univ)
    (Shape.Idx.first (by decide : 0 < S1.numel))

/-- The queries of sequence `i`. -/
def xOf (c : Dev nD) (faX : Bf (F := F) c aX) (fsX : Bf (F := F) c sX) (i : Fin 16) : Vec F S1x16x128 .bf16 :=
  View.readAt (Elt F) sX.view (Rect.unit (s := S16x16x128) ![i.val, 0, 0] S1x16x128.size (inbX i)).toLoadRect
    (View.write (Elt F) sX.view fsX (ReadAs.same.apply (View.read (Elt F) aX.view faX)) Finset.univ)

/-- The window of the cache `M` that sequence `i` of length `w` reads, out of the slab of `S` it lands in. -/
def winOf (c : Dev nD) (S : Memref sig .tc .vmem S16x1152x128 .fp8e4m3) (M : Memref sig .tc .hbm S16x32768x128 .fp8e4m3)
    (f : Bf (F := F) c M) (i : Fin 16) (w : BitVec 32) : Vec F S1x1152x128 .fp8e4m3 :=
  View.readAt (Elt F) S.view (Rect.unit (s := S16x1152x128) ![i.val, 0, 0] S1x1152x128.size (inbSlab i)).toLoadRect
    ((slab S i.val (inbSlab i)).view.writes (Elt F) (slab S i.val (inbSlab i)).view.junk
      [⟨Rect.whole S1152x128, ReadAs.same.apply
        (View.read (Elt F) (win M ![i.val, (Decode.first w).toNat, 0] (inbWin i w)).view f)⟩])

/-- Tile `t` of the window's scales. -/
def scaleOf (c : Dev nD) (S : Memref sig .tc .vmem S16x1x1152 .f32) (M : Memref sig .tc .hbm S16x1x32768 .f32)
    (f : Bf (F := F) c M) (i : Fin 16) (w : BitVec 32) (t : Fin 9) : Vec F S1x1x128 .f32 :=
  View.readAt (Elt F) S.view (Rect.unit (s := S16x1x1152) ![i.val, 0, 128 * t.val] S1x1x128.size (inbTile i t)).toLoadRect
    ((row S i.val (inbRow i)).view.writes (Elt F) (row S i.val (inbRow i)).view.junk
      [⟨Rect.whole S1x1152, ReadAs.same.apply
        (View.read (Elt F) (swin M ![i.val, 0, (Decode.first w).toNat] (inbSwin i w)).view f)⟩])

/-- Row `i` of the quantised new rows, or of their scales, out of the scratch `S` that `H` was written to. -/
def newOf (S : Memref sig .tc .vmem S16x128 .f32) (H : List (View.Piece (Elt F) S16x128 .f32)) (i : Fin 16) :
    Vec F S1x128 .f32 :=
  S.view.readCov H (Rect.unit (s := S16x128) ![i.val, 0] S1x128.size (inbNew i)).toLoadRect

/-- The bounds of the mask of a sequence of length `w`. -/
def lowOf (w : BitVec 32) : BitVec 32 := Scalar.subi (Scalar.subi w 1024#32) (Decode.first w)
def highOf (w : BitVec 32) : BitVec 32 := Scalar.subi w (Decode.first w)

end Cert.KernelIdeal.Hand
-- ==== Proof.RowsI.lean ====
/-
  The rows the decode kernel stores into its output window, one sequence after another: each is the pair's computation of
  what the kernel loads for that sequence.
-/
module
public import proofs.«01_k».proof.Proof.RunI7
public import proofs.«01_k».proof.Proof.PairVec
public import proofs.«01_k».proof.Proof.LoadsI
import all proofs.«01_k».proof.Proof.RunI1
import all proofs.«01_k».proof.Proof.RunI2
import all proofs.«01_k».proof.Proof.RunI3
import all proofs.«01_k».proof.Proof.RunI4
import all proofs.«01_k».proof.Proof.RunI5
import all proofs.«01_k».proof.Proof.RunI6
import all proofs.«01_k».proof.Proof.RunI7
@[expose] public section
set_option maxRecDepth 16384
set_option maxHeartbeats 0
noncomputable section
namespace Cert.KernelIdeal.Hand
open Cert.KernelIdeal Cert.KernelIdeal.Gen
open Idealize.ShloMosaic Idealize.ShloMosaic.TcCoe
variable {F : FTy → Type} [FloatOps F] [Named F]

/-- Sequence `i` of pair `q`. -/
def seq (q : Fin 8) (i : Fin 2) : Fin 16 := ⟨2 * q.val + i.val, by omega⟩

/-- What the kernel computes of sequence `i` of pair `q`, of what it loads. -/
def rowOf (c : Dev nD) (faLen : Bf (F := F) c aLen) (faX : Bf (F := F) c aX) (faKn : Bf (F := F) c aKn)
    (faVn : Bf (F := F) c aVn) (faCk : Bf (F := F) c aCk) (faCv : Bf (F := F) c aCv) (faCks : Bf (F := F) c aCks)
    (faCvs : Bf (F := F) c aCvs) (fsLen : Bf (F := F) c sLen) (fsX : Bf (F := F) c sX) (fsKn : Bf (F := F) c sKn)
    (fsVn : Bf (F := F) c sVn) (q : Fin 8) (i : Fin 2) : FVec F S1x16x128 .bf16 :=
  pairOut i (fun i => xOf c faX fsX (seq q i))
    (fun i => winOf c sK aCk faCk (seq q i) (lenOf c faLen fsLen (seq q i)))
    (fun i => winOf c sV aCv faCv (seq q i) (lenOf c faLen fsLen (seq q i)))
    (fun i => newOf sKf (s1.sl.HsKf_1 c faKn fsKn) (seq q i)) (fun i => newOf sKb (s1.sl.HsKb_1 c faKn fsKn) (seq q i))
    (fun i => newOf sVf (s1.sl.HsVf_1 c faVn fsVn) (seq q i)) (fun i => newOf sVb (s1.sl.HsVb_1 c faVn fsVn) (seq q i))
    (fun i => lowOf (lenOf c faLen fsLen (seq q i))) (fun i => highOf (lenOf c faLen fsLen (seq q i)))
    (fun i t => scaleOf c sKs aCks faCks (seq q i) (lenOf c faLen fsLen (seq q i)) t)
    (fun i t => scaleOf c sVs aCvs faCvs (seq q i) (lenOf c faLen fsLen (seq q i)) t)

variable (c : Dev nD) (faLen : Bf (F := F) c aLen) (faX : Bf (F := F) c aX) (faKn : Bf (F := F) c aKn)
    (faVn : Bf (F := F) c aVn) (faCk : Bf (F := F) c aCk) (faCv : Bf (F := F) c aCv) (faCks : Bf (F := F) c aCks)
    (faCvs : Bf (F := F) c aCvs) (fsLen : Bf (F := F) c sLen) (fsX : Bf (F := F) c sX) (fsKn : Bf (F := F) c sKn)
    (fsVn : Bf (F := F) c sVn)

/-- The piece of the output scratch that holds sequence `j`. -/
def outPiece (j : Fin 16) : View.Piece (Elt F) S16x16x128 .bf16 :=
  ⟨Rect.unit (s := S16x16x128) ![j.val, 0, 0] S1x16x128.size (inbX j),
    rowOf c faLen faX faKn faVn faCk faCv faCks faCvs fsLen fsX fsKn fsVn ⟨j.val / 2, by omega⟩ ⟨j.val % 2, by omega⟩⟩

/-- The sixteen stores to the output scratch, the last first. -/
theorem outPieces_eq : s7.sl.HsOut_16 c faLen faX faKn faVn faCk faCv faCks faCvs fsLen fsX fsKn fsVn
    (lenOf c faLen fsLen 0) (lenOf c faLen fsLen 1) (lenOf c faLen fsLen 2) (lenOf c faLen fsLen 3) (lenOf c faLen fsLen 4) (lenOf c faLen fsLen 5) (lenOf c faLen fsLen 6) (lenOf c faLen fsLen 7) (lenOf c faLen fsLen 8) (lenOf c faLen fsLen 9) (lenOf c faLen fsLen 10) (lenOf c faLen fsLen 11) (lenOf c faLen fsLen 12) (lenOf c faLen fsLen 13) (lenOf c faLen fsLen 14) (lenOf c faLen fsLen 15)
    = [15, 14, 13, 12, 11, 10, 9, 8, 7, 6, 5, 4, 3, 2, 1, 0].map (outPiece c faLen faX faKn faVn faCk faCv faCks faCvs fsLen fsX fsKn fsVn) := rfl

end Cert.KernelIdeal.Hand
-- ==== Proof.OutI.lean ====
/-
  The attention result at the end of the kernel's body: row `j` is what the pair's computation makes of sequence `j`'s loads.
-/
module

public import proofs.«01_k».proof.Proof.RunI8
public import proofs.«01_k».proof.Proof.RowsI
public import Idealize.ShloMosaic.Lib.Pointwise
public import Idealize.ShloMosaic.Lib.VecWindow
public import Idealize.ShloMosaic.Lib.Pipeline.Value
import all proofs.«01_k».proof.Proof.RunI1
import all proofs.«01_k».proof.Proof.RunI7

@[expose] public section

set_option maxRecDepth 16384
set_option maxHeartbeats 0

noncomputable section

namespace Cert.KernelIdeal.Hand

open Cert.KernelIdeal Cert.KernelIdeal.Gen
open Idealize.ShloMosaic Idealize.ShloMosaic.TcCoe

variable {F : FTy → Type} [FloatOps F] [Named F]

variable (c : Dev nD) (faLen : Bf (F := F) c aLen) (faX : Bf (F := F) c aX) (faKn : Bf (F := F) c aKn)
    (faVn : Bf (F := F) c aVn) (faCk : Bf (F := F) c aCk) (faCv : Bf (F := F) c aCv) (faCks : Bf (F := F) c aCks)
    (faCvs : Bf (F := F) c aCvs) (fsLen : Bf (F := F) c sLen) (fsX : Bf (F := F) c sX) (fsKn : Bf (F := F) c sKn)
    (fsVn : Bf (F := F) c sVn)

/-- The stores cover the window, and each holds its own row. -/
theorem canon_rows (j h : Fin 16) (d : Fin 128) :
    View.canon ([15, 14, 13, 12, 11, 10, 9, 8, 7, 6, 5, 4, 3, 2, 1, 0].map
        (outPiece c faLen faX faKn faVn faCk faCv faCks faCvs fsLen fsX fsKn fsVn)) (ix3 j h d)
      = rowOf c faLen faX faKn faVn faCk faCv faCks faCvs fsLen fsX fsKn fsVn ⟨j.val / 2, by omega⟩ ⟨j.val % 2, by omega⟩
          (ix3 0 h d) := by
  let G : S16x16x128.Idx → F .bf16 := fun y =>
    rowOf c faLen faX faKn faVn faCk faCv faCks faCvs fsLen fsX fsKn fsVn
      ⟨(y 0).val / 2, by have : (y 0).val < 16 := (y 0).isLt; omega⟩ ⟨(y 0).val % 2, by omega⟩
      (ix3 0 ⟨(y 1).val, (y 1).isLt⟩ ⟨(y 2).val, (y 2).isLt⟩)
  refine View.canon_apply_of_pieces (Val := Elt F) (S := S16x16x128) (e := .bf16) G _ ?_ (ix3 j h d) ?_
  · intro p hp x
    obtain ⟨i, -, rfl⟩ := List.mem_map.mp hp
    have x0 : (x 0).val = 0 := by have : (x 0).val < 1 := (x 0).isLt; omega
    have e0 : (((outPiece c faLen faX faKn faVn faCk faCv faCks faCvs fsLen fsX fsKn fsVn i).1.emb x) 0).val = i.val := by
      show i.val + 1 * (x 0).val = i.val
      omega
    have e1 : (((outPiece c faLen faX faKn faVn faCk faCv faCks faCvs fsLen fsX fsKn fsVn i).1.emb x) 1).val = (x 1).val := by
      show 0 + 1 * (x 1).val = (x 1).val
      omega
    have e2 : (((outPiece c faLen faX faKn faVn faCk faCv faCks faCvs fsLen fsX fsKn fsVn i).1.emb x) 2).val = (x 2).val := by
      show 0 + 1 * (x 2).val = (x 2).val
      omega
    have ex : x = ix3 0 ⟨(x 1).val, (x 1).isLt⟩ ⟨(x 2).val, (x 2).isLt⟩ := by
      funext a
      match a with
      | 0 => exact Fin.ext x0
      | 1 => rfl
      | 2 => rfl
    show rowOf c faLen faX faKn faVn faCk faCv faCks faCvs fsLen fsX fsKn fsVn _ _ x = _
    refine (congrArg _ ex).trans ?_
    simp only [G, e0, e1, e2]
    rfl
  · refine ⟨_, List.mem_map.mpr ⟨j, ?_, rfl⟩, ?_⟩
    · revert j; decide
    · refine (Rect.mem_set_unit (inb := inbX j)).mpr fun a => ?_
      match a with
      | 0 => exact ⟨le_refl j.val, Nat.lt_succ_self j.val⟩
      | 1 => exact ⟨Nat.zero_le _, by show h.val < 0 + 16; omega⟩
      | 2 => exact ⟨Nat.zero_le _, by show d.val < 0 + 128; omega⟩

theorem endOut_apply (fsOut : Bf (F := F) c sOut) (frOut : Bf (F := F) c rOut) (j h : Fin 16) (d : Fin 128) :
    (endOut c faLen faX faKn faVn faCk faCv faCks faCvs fsLen fsX fsKn fsVn fsOut frOut : S16x16x128.Idx → F .bf16) (ix3 j h d)
      = rowOf c faLen faX faKn faVn faCk faCv faCks faCvs fsLen fsX fsKn fsVn ⟨j.val / 2, by omega⟩ ⟨j.val % 2, by omega⟩
          (ix3 0 h d) := by
  refine (congrFun (View.read_write_univ (Val := Elt F) (v := rOut.view) frOut _) (ix3 j h d)).trans ?_
  unfold s7.sl.dma14
  show View.read (Elt F) sOut.view (sOut.view.writes (Elt F) fsOut (s7.sl.HsOut_16 c faLen faX faKn faVn faCk faCv faCks faCvs
    fsLen fsX fsKn fsVn (lenOf c faLen fsLen 0) (lenOf c faLen fsLen 1) (lenOf c faLen fsLen 2) (lenOf c faLen fsLen 3)
    (lenOf c faLen fsLen 4) (lenOf c faLen fsLen 5) (lenOf c faLen fsLen 6) (lenOf c faLen fsLen 7) (lenOf c faLen fsLen 8)
    (lenOf c faLen fsLen 9) (lenOf c faLen fsLen 10) (lenOf c faLen fsLen 11) (lenOf c faLen fsLen 12)
    (lenOf c faLen fsLen 13) (lenOf c faLen fsLen 14) (lenOf c faLen fsLen 15))) (ix3 j h d) = _
  rw [outPieces_eq]
  refine (View.read_writes_apply_eq_canon (Val := Elt F) sOut.view fsOut (ix3 j h d) _ ?_).trans
    (canon_rows c faLen faX faKn faVn faCk faCv faCks faCvs fsLen fsX fsKn fsVn j h d)
  refine ⟨_, List.mem_map.mpr ⟨j, ?_, rfl⟩, ?_⟩
  · revert j; decide
  · refine (Rect.mem_set_unit (inb := inbX j)).mpr fun a => ?_
    match a with
    | 0 => exact ⟨le_refl j.val, Nat.lt_succ_self j.val⟩
    | 1 => exact ⟨Nat.zero_le _, by show h.val < 0 + 16; omega⟩
    | 2 => exact ⟨Nat.zero_le _, by show d.val < 0 + 128; omega⟩

end Cert.KernelIdeal.Hand

end
-- ==== Proof.PairIdeal.lean ====
/-
  The two sequences' output (`pairOut`) read at an index over the extended reals: a sequence's row of one head is the sum
  over its window of 1152 positions of the normalised exponential times the value's scale times the value, plus the new
  value's share (`pairOut_apply`).
-/
module

public import proofs.«01_k».proof.Proof.PairVec
public import Idealize.ShloMosaic.Lib.Pointwise

@[expose] public section

set_option maxRecDepth 16384

noncomputable section

namespace Cert.KernelIdeal.Hand

open Cert.KernelIdeal Cert.KernelIdeal.Gen
open Idealize.ShloMosaic

/-- The two named constants. -/
def cScore : EReal := Named.named (F := Ideal) (φ := .f32) κ "score_over_softcap" 0x3AE7B46A#32
def cLog : EReal := Named.named (F := Ideal) (φ := .f32) κ "softcap_log2_e" 0x429044FE#32

/-- Position `128 t + l` of a window. -/
def pos (t : Fin 9) (l : Fin 128) : Fin 1152 := ⟨128 * t.val + l.val, by omega⟩

/-- Row `16 i + h` of the stacked score blocks. -/
def blockRow (i : Fin 2) (h : Fin 16) : Fin 32 := ⟨16 * i.val + h.val, by omega⟩

theorem pos_eq (r : Fin 1152) : r = pos ⟨r.val / 128, by omega⟩ ⟨r.val % 128, by omega⟩ :=
  Fin.ext (by simp only [pos]; omega)

/-- A sum over a window, tile by tile. -/
theorem sum_pos {M : Type} [AddCommMonoid M] (f : Fin 1152 → M) : ∑ r, f r = ∑ l, ∑ t, f (pos t l) := by
  rw [Finset.sum_comm]
  rw [← Fintype.sum_prod_type' (f := fun t l => f (pos t l))]
  refine (Fintype.sum_bijective (fun q : Fin 9 × Fin 128 => pos q.1 q.2) ⟨?_, ?_⟩ _ _ fun _ => rfl).symm
  · rintro ⟨t, l⟩ ⟨t', l'⟩ h
    have h := congrArg Fin.val h
    simp only [pos] at h
    exact Prod.ext (Fin.ext (by simp only; omega)) (Fin.ext (by simp only; omega))
  · intro r
    exact ⟨⟨⟨r.val / 128, by omega⟩, ⟨r.val % 128, by omega⟩⟩, (pos_eq r).symm⟩

theorem lanes_apply (l : Fin 128) : lanes (ix2 0 l) = BitVec.ofNat 32 l.val := by pointwise [lanes]

/-- Position `r` of a window is strictly between the two bounds, as the kernel's words compare. -/
def between (low high : BitVec 32) (r : ℕ) : BitVec 1 :=
  IntOp.andi (IntOp.cmpi .sgt (BitVec.ofNat 32 r) low) (IntOp.cmpi .slt (BitVec.ofNat 32 r) high)

theorem tileE_apply (s : FVec Ideal S32x1152 .f32) (i : Fin 2) (low high : BitVec 32) (t : Fin 9)
    (c : Vec Ideal S1x1x128 .f32) (h : Fin 16) (l : Fin 128) :
    tileE s i low high t c (ix2 h l) = Scalar.select (between low high (pos t l).val)
      (Ideal.exp2 (cLog * Ideal.tanh (s (ix2 (blockRow i h) (pos t l)) * (c (ix3 0 0 l) * cScore)))) 0 := by
  have hw : (BitVec.ofNat 32 (pos t l).val) = IntOp.addi (lanes (ix2 0 l)) (BitVec.ofNat 32 (128 * t.val)) := by
    rw [lanes_apply]
    show _ = BitVec.ofNat 32 l.val + BitVec.ofNat 32 (128 * t.val)
    rw [← BitVec.ofNat_add]
    exact congrArg _ (by simp only [pos]; omega)
  unfold between
  rw [hw]
  pointwise [tileE]
  rfl

theorem newE_apply (x : Vec Ideal S1x16x128 .bf16) (kf ks : Vec Ideal S1x128 .f32) (h : Fin 16) (l : Fin 128) :
    newE x kf ks (ix2 h l)
      = Ideal.exp2 (cLog * Ideal.tanh ((∑ d, x (ix3 0 h d) * kf (ix2 0 d)) * (ks (ix2 0 l) * cScore))) := by
  unfold newE
  pointwise [k0_pay30]
  rfl

theorem sum_nine {M : Type} [AddCommMonoid M] (g : Fin 9 → M) :
    ∑ t, g t = g 0 + g 1 + g 2 + g 3 + g 4 + g 5 + g 6 + g 7 + g 8 := by
  rw [Fin.sum_univ_castSucc, Fin.sum_univ_eight]; rfl

theorem inverse_apply (e : Fin 9 → FVec Ideal S16x128 .f32) (en : FVec Ideal S16x128 .f32) (h : Fin 16) (l : Fin 128) :
    inverse e en (ix2 h l) = Ideal.div 1 (∑ l', ∑ t, e t (ix2 h l') + en (ix2 h l)) := by
  pointwise [inverse]
  exact congrArg (fun s => Ideal.div 1 (s + en (ix2 h l)))
    (Finset.sum_congr rfl fun x _ => (sum_nine fun t => e t (ix2 h x)).symm)

theorem weight_apply (e inv : FVec Ideal S16x128 .f32) (c : Vec Ideal S1x1x128 .f32) (h : Fin 16) (l : Fin 128) :
    weight e inv c (ix2 h l) = e (ix2 h l) * inv (ix2 h l) * c (ix3 0 0 l) := by
  pointwise [weight]

theorem newP_apply (en inv : FVec Ideal S16x128 .f32) (vs : Vec Ideal S1x128 .f32) (h : Fin 16) (l : Fin 128) :
    newP en inv vs (ix2 h l) = en (ix2 h l) * inv (ix2 h l) * vs (ix2 0 l) := by
  pointwise [newP]

/-- A family read at two indices that are known by their numbers. -/
theorem pick {α : Type} {n m : ℕ} (w : Fin n → Fin m → α) (a t : Fin n) (k : ℕ) (hk : k < m) (l : Fin m)
    (ha : a.val = t.val) (hl : k = l.val) : w a ⟨k, hk⟩ = w t l := by
  obtain rfl := Fin.ext ha
  subst hl
  rfl

theorem cat9_apply (w : Fin 9 → FVec Ideal S16x128 .bf16) (h : Fin 16) (t : Fin 9) (l : Fin 128) :
    concatenate S16x1152 1 [⟨S16x128, w 0⟩, ⟨S16x128, w 1⟩, ⟨S16x128, w 2⟩, ⟨S16x128, w 3⟩, ⟨S16x128, w 4⟩,
      ⟨S16x128, w 5⟩, ⟨S16x128, w 6⟩, ⟨S16x128, w 7⟩, ⟨S16x128, w 8⟩]
      concatenates_S16x128_S16x128_S16x128_S16x128_S16x128_S16x128_S16x128_S16x128_S16x128_S16x1152_d1 (ix2 h (pos t l))
    = w t (ix2 h l) := by
  have hp : (pos t l).val = 128 * t.val + l.val := rfl
  pointwise
  split_ifs <;> first
    | exact absurd rfl (by assumption)
    | exact pick (fun t l => w t (ix2 h l)) 0 t _ _ l (by show 0 = t.val; omega) (by omega)
    | exact pick (fun t l => w t (ix2 h l)) 1 t _ _ l (by show 1 = t.val; omega) (by omega)
    | exact pick (fun t l => w t (ix2 h l)) 2 t _ _ l (by show 2 = t.val; omega) (by omega)
    | exact pick (fun t l => w t (ix2 h l)) 3 t _ _ l (by show 3 = t.val; omega) (by omega)
    | exact pick (fun t l => w t (ix2 h l)) 4 t _ _ l (by show 4 = t.val; omega) (by omega)
    | exact pick (fun t l => w t (ix2 h l)) 5 t _ _ l (by show 5 = t.val; omega) (by omega)
    | exact pick (fun t l => w t (ix2 h l)) 6 t _ _ l (by show 6 = t.val; omega) (by omega)
    | exact pick (fun t l => w t (ix2 h l)) 7 t _ _ l (by show 7 = t.val; omega) (by omega)
    | exact pick (fun t l => w t (ix2 h l)) 8 t _ _ l (by show 8 = t.val; omega) (by omega)

theorem weights_apply (e : Fin 9 → FVec Ideal S16x128 .f32) (inv : FVec Ideal S16x128 .f32)
    (c : Fin 9 → Vec Ideal S1x1x128 .f32) (h : Fin 16) (t : Fin 9) (l : Fin 128) :
    weights e inv c (ix2 h (pos t l)) = e t (ix2 h l) * inv (ix2 h l) * c t (ix3 0 0 l) :=
  (cat9_apply (fun t => weight (e t) inv (c t)) h t l).trans (weight_apply _ _ _ _ _)

theorem stacked_apply (p : Fin 2 → FVec Ideal S16x1152 .bf16) (i : Fin 2) (h : Fin 16) (r : Fin 1152) :
    stacked (p 0) (p 1) (ix2 (blockRow i h) r) = p i (ix2 h r) := by
  have hp : (blockRow i h).val = 16 * i.val + h.val := rfl
  pointwise [stacked]
  split_ifs <;> first
    | exact absurd rfl (by assumption)
    | exact pick (fun i h => p i (ix2 h r)) 0 i _ _ h (by show 0 = i.val; omega) (by omega)
    | exact pick (fun i h => p i (ix2 h r)) 1 i _ _ h (by show 1 = i.val; omega) (by omega)

theorem outRow_apply (i : Fin 2) (p : FVec Ideal S32x1152 .bf16) (v : Fin 2 → Vec Ideal S1x1152x128 .fp8e4m3)
    (pn : FVec Ideal S16x128 .f32) (vf : Vec Ideal S1x128 .f32) (h : Fin 16) (d : Fin 128) :
    outRow i p (v 0) (v 1) pn vf (ix3 0 h d)
      = ∑ r, p (ix2 (blockRow i h) r) * v i (ix3 0 r d) + pn (ix2 h d) * vf (ix2 0 d) := by
  pointwise [outRow, k0_pay720, k0_pay719, dot_S32x1152_S1152x256_S32x256_1_0_0_1_n_n]
  refine congrArg (· + pn (ix2 h d) * vf (ix2 0 d)) (Finset.sum_congr rfl fun x _ =>
    congrArg (p (ix2 (blockRow i h) x) * ·) ?_)
  split_ifs <;> first
    | exact absurd rfl (by assumption)
    | exact pick (fun i d => v i (ix3 0 x d)) 0 i _ _ d (by show 0 = i.val; omega) (by omega)
    | exact pick (fun i d => v i (ix3 0 x d)) 1 i _ _ d (by show 1 = i.val; omega) (by omega)

theorem scores_apply (x : Fin 2 → Vec Ideal S1x16x128 .bf16) (k : Fin 2 → Vec Ideal S1x1152x128 .fp8e4m3) (i : Fin 2)
    (h : Fin 16) (r : Fin 1152) :
    scores (x 0) (x 1) (k 0) (k 1) (ix2 (blockRow i h) r) = ∑ d, x i (ix3 0 h d) * k i (ix3 0 r d) := by
  have hp : (blockRow i h).val = 16 * i.val + h.val := rfl
  pointwise [scores, k0_pay52, k0_pay51, dot_S32x256_S1152x256_S32x1152_1_1_0_0_n_n]
  by_cases hi : (blockRow i h).val < 16
  · simp only [dif_pos hi, zero_mul, Finset.sum_const_zero, add_zero]
    exact pick (fun i h => ∑ d, x i (ix3 0 h d) * k i (ix3 0 r d)) 0 i _ hi h (by show 0 = i.val; omega) (by omega)
  · simp only [dif_neg hi, zero_mul, Finset.sum_const_zero, zero_add]
    exact pick (fun i h => ∑ d, x i (ix3 0 h d) * k i (ix3 0 r d)) 1 i _ (by omega) h (by show 1 = i.val; omega) (by omega)

/-- Sequence `i`'s output at head `h` and dimension `d`. -/
theorem pairOut_apply (i : Fin 2) (x : Fin 2 → Vec Ideal S1x16x128 .bf16) (k v : Fin 2 → Vec Ideal S1x1152x128 .fp8e4m3)
    (kf ks vf vs : Fin 2 → Vec Ideal S1x128 .f32) (low high : Fin 2 → BitVec 32)
    (ck cv : Fin 2 → Fin 9 → Vec Ideal S1x1x128 .f32) (h : Fin 16) (d : Fin 128) :
    pairOut i x k v kf ks vf vs low high ck cv (ix3 0 h d)
      = let e : Fin 9 → Fin 128 → EReal := fun t l => Scalar.select (between (low i) (high i) (pos t l).val)
          (Ideal.exp2 (cLog * Ideal.tanh ((∑ y, x i (ix3 0 h y) * k i (ix3 0 (pos t l) y)) * (ck i t (ix3 0 0 l) * cScore)))) 0
        let en : Fin 128 → EReal := fun l =>
          Ideal.exp2 (cLog * Ideal.tanh ((∑ y, x i (ix3 0 h y) * kf i (ix2 0 y)) * (ks i (ix2 0 l) * cScore)))
        let inv : Fin 128 → EReal := fun l => Ideal.div 1 (∑ l', ∑ t, e t l' + en l)
        ∑ l, ∑ t, e t l * inv l * cv i t (ix3 0 0 l) * v i (ix3 0 (pos t l) d)
          + en d * inv d * vs i (ix2 0 d) * vf i (ix2 0 d) := by
  unfold pairOut
  have hs := scores_apply x k i h
  generalize hS : scores (x 0) (x 1) (k 0) (k 1) = s at hs ⊢
  have he : ∀ t l, tileE s i (low i) (high i) t (ck i t) (ix2 h l) = Scalar.select (between (low i) (high i) (pos t l).val)
      (Ideal.exp2 (cLog * Ideal.tanh ((∑ y, x i (ix3 0 h y) * k i (ix3 0 (pos t l) y)) * (ck i t (ix3 0 0 l) * cScore)))) 0 := by
    intro t l
    rw [tileE_apply, hs]
  have hn := newE_apply (x i) (kf i) (ks i) h
  have hi : ∀ l, inverse (fun t => tileE s i (low i) (high i) t (ck i t)) (newE (x i) (kf i) (ks i)) (ix2 h l)
      = Ideal.div 1 (∑ l', ∑ t, tileE s i (low i) (high i) t (ck i t) (ix2 h l') + newE (x i) (kf i) (ks i) (ix2 h l)) :=
    fun l => inverse_apply _ _ h l
  simp only [he, hn] at hi
  refine (outRow_apply i _ v _ _ h d).trans ?_
  dsimp only
  rw [newP_apply, hn, hi, sum_pos]
  refine congrArg (· + _) (Finset.sum_congr rfl fun l _ => Finset.sum_congr rfl fun t _ => ?_)
  rw [stacked_apply (fun i => weights (fun t => tileE s i (low i) (high i) t (ck i t))
    (inverse (fun t => tileE s i (low i) (high i) t (ck i t)) (newE (x i) (kf i) (ks i))) (cv i)) i h (pos t l)]
  rw [weights_apply, he, hi]

end Cert.KernelIdeal.Hand
-- ==== Proof.ReadsI.lean ====
/-
  The loads of the decode kernel's body read at an index: the arguments' own elements.
-/
module

public import proofs.«01_k».proof.Proof.LoadsI
public import Idealize.ShloMosaic.Lib.Pointwise
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe

variable {F : FTy → Type} [FloatOps F] [Named F]

theorem casts_scale : S1x1x1152.ShapeCasts S1x1152 := by decide

theorem lenOf_eq (c : Dev nD) (faLen : Bf (F := F) c aLen) (fsLen : Bf (F := F) c sLen) (i : Fin 16) :
    lenOf c faLen fsLen i = (faLen : S16.Idx → BitVec 32) (ix1 i) := by
  unfold lenOf
  rw [View.readAt_rect]
  show View.read (Elt F) sLen.view (View.write (Elt F) sLen.view fsLen _ Finset.univ) _ = _
  rw [View.read_write_univ]
  refine congrArg (faLen : S16.Idx → BitVec 32) (funext fun a => Fin.ext ?_)
  match a with
  | 0 => show i.val + 1 * 0 = i.val; omega

theorem xOf_apply (c : Dev nD) (faX : Bf (F := F) c aX) (fsX : Bf (F := F) c sX) (i h : Fin 16) (d : Fin 128) :
    xOf c faX fsX i (ix3 0 h d) = (faX : S16x16x128.Idx → F .bf16) (ix3 i h d) := by
  unfold xOf
  rw [View.readAt_rect]
  show View.read (Elt F) sX.view (View.write (Elt F) sX.view fsX _ Finset.univ) _ = _
  rw [View.read_write_univ]
  refine congrArg (faX : S16x16x128.Idx → F .bf16) (funext fun a => Fin.ext ?_)
  match a with
  | 0 => show i.val + 1 * 0 = i.val; omega
  | 1 => show 0 + 1 * h.val = h.val; omega
  | 2 => show 0 + 1 * d.val = d.val; omega

theorem winOf_apply (c : Dev nD) (S : Memref sig .tc .vmem S16x1152x128 .fp8e4m3)
    (M : Memref sig .tc .hbm S16x32768x128 .fp8e4m3) (f : Bf (F := F) c M) (i : Fin 16) (w : BitVec 32) (r : Fin 1152)
    (d : Fin 128) :
    winOf c S M f i w (ix3 0 r d)
      = View.read (Elt F) M.view f (ix3 i ⟨(Decode.first w).toNat + r.val, by have := Decode.first_le w; omega⟩ d) := by
  have e3 : ∀ u : Vec F S1x1152x128 .fp8e4m3,
      shapeCast S1152x128 u shapeCasts_S1x1152x128_S1152x128 (ix2 r d) = u (ix3 0 r d) := by
    intro u
    pointwise
  have e2 : shapeCast S1152x128 (winOf c S M f i w) shapeCasts_S1x1152x128_S1152x128
      = View.read (Elt F) (win M ![i.val, (Decode.first w).toNat, 0] (inbWin i w)).view f :=
    View.read_writes_whole (slab S i.val (inbSlab i)).view _ _
  refine (e3 _).symm.trans ((congrFun e2 _).trans ?_)
  refine (congrFun (Memref.read_squeeze_slice M _ _ _ shapeCasts_S1x1152x128_S1152x128 f) _).trans ((e3 _).trans ?_)
  refine congrArg (View.read (Elt F) M.view f) (funext fun a => Fin.ext ?_)
  match a with
  | 0 => show i.val + 1 * 0 = i.val; omega
  | 1 => show (Decode.first w).toNat + 1 * r.val = (Decode.first w).toNat + r.val; omega
  | 2 => show 0 + 1 * d.val = d.val; omega

theorem scaleOf_apply (c : Dev nD) (S : Memref sig .tc .vmem S16x1x1152 .f32) (M : Memref sig .tc .hbm S16x1x32768 .f32)
    (f : Bf (F := F) c M) (i : Fin 16) (w : BitVec 32) (t : Fin 9) (l : Fin 128) :
    scaleOf c S M f i w t (ix3 0 0 l) = View.read (Elt F) M.view f
      (ix3 i 0 ⟨(Decode.first w).toNat + (128 * t.val + l.val), by have := Decode.first_le w; omega⟩) := by
  let g := (row S i.val (inbRow i)).view.writes (Elt F) (row S i.val (inbRow i)).view.junk
      [⟨Rect.whole S1x1152, ReadAs.same.apply
        (View.read (Elt F) (swin M ![i.val, 0, (Decode.first w).toNat] (inbSwin i w)).view f)⟩]
  let R : Rect S16x1x1152 := Rect.unit (s := S16x1x1152) ![i.val, 0, 0] S1x1x1152.size (inbRow i)
  let u : Vec F S1x1x1152 .f32 := View.readAt (Elt F) S.view R.toLoadRect g
  have hp : 128 * t.val + l.val < 1152 := by omega
  have e0 : scaleOf c S M f i w t (ix3 0 0 l) = u (ix3 0 0 ⟨128 * t.val + l.val, hp⟩) := by
    refine congrArg (View.read (Elt F) S.view g) (funext fun a => Fin.ext ?_)
    match a with
    | 0 => show i.val + 1 * 0 = i.val + 1 * 0; omega
    | 1 => show 0 + 1 * 0 = 0 + 1 * 0; omega
    | 2 => show 128 * t.val + 1 * l.val = 0 + 1 * (128 * t.val + l.val); omega
  have e1 : ∀ u : Vec F S1x1x1152 .f32, shapeCast S1x1152 u casts_scale (ix2 0 ⟨128 * t.val + l.val, hp⟩)
      = u (ix3 0 0 ⟨128 * t.val + l.val, hp⟩) := by
    intro u
    pointwise
  have e2 : shapeCast S1x1152 u casts_scale
      = View.read (Elt F) (swin M ![i.val, 0, (Decode.first w).toNat] (inbSwin i w)).view f :=
    View.read_writes_whole (row S i.val (inbRow i)).view _ _
  refine e0.trans ((e1 u).symm.trans ((congrFun e2 _).trans ?_))
  refine (congrFun (Memref.read_squeeze_slice M _ _ _ casts_scale f) _).trans ((e1 _).trans ?_)
  refine congrArg (View.read (Elt F) M.view f) (funext fun a => Fin.ext ?_)
  match a with
  | 0 => show i.val + 1 * 0 = i.val; omega
  | 1 => show 0 + 1 * 0 = 0; omega
  | 2 => show (Decode.first w).toNat + 1 * (128 * t.val + l.val) = (Decode.first w).toNat + (128 * t.val + l.val); omega

theorem newOf_apply (S : Memref sig .tc .vmem S16x128 .f32) (v : FVec F S16x128 .f32) (i : Fin 16) (d : Fin 128) :
    newOf (F := F) S [⟨Rect.unit ![0, 0] S16x128.size inb_S16x128_S16x128_0_0, v⟩] i (ix2 0 d) = v (ix2 i d) := by
  have h := View.read_writes_full (Val := Elt F) S.view S.view.junk inb_S16x128_S16x128_0_0 v []
  refine Eq.trans ?_ (congrFun h (ix2 i d))
  refine congrArg (View.read (Elt F) S.view _) (funext fun a => Fin.ext ?_)
  match a with
  | 0 => show i.val + 1 * 0 = i.val; omega
  | 1 => show 0 + 1 * d.val = d.val; omega

end Cert.KernelIdeal.Hand
-- ==== Proof.QuantI.lean ====
/-
  What the kernel stores of the new keys and values, as the quantiser's functions of what it loads.
-/
module

public import proofs.«01_k».proof.Proof.RunI1
public import proofs.«01_k».proof.Proof.QuantVec
import all proofs.«01_k».proof.Proof.RunI1

@[expose] public section

set_option maxRecDepth 16384
set_option maxHeartbeats 0

noncomputable section

namespace Cert.KernelIdeal.Hand

open Cert.KernelIdeal Cert.KernelIdeal.Gen
open Idealize.ShloMosaic Idealize.ShloMosaic.TcCoe

variable {F : FTy → Type} [FloatOps F] [Named F]
variable (c : Dev nD) (faKn : Bf (F := F) c aKn) (fsKn : Bf (F := F) c sKn) (faVn : Bf (F := F) c aVn)
  (fsVn : Bf (F := F) c sVn)

/-- The new keys as loaded. -/
def knOf : Vec F S16x128 .bf16 :=
  View.readAt (Elt F) sKn.view (Rect.unit ![0, 0] S16x128.size inb_S16x128_S16x128_0_0).toLoadRect
    (View.write (Elt F) sKn.view fsKn (ReadAs.same.apply (View.read (Elt F) aKn.view faKn)) Finset.univ)

/-- The new values as loaded. -/
def vnOf : Vec F S16x128 .bf16 :=
  View.readAt (Elt F) sVn.view (Rect.unit ![0, 0] S16x128.size inb_S16x128_S16x128_0_0).toLoadRect
    (View.write (Elt F) sVn.view fsVn (ReadAs.same.apply (View.read (Elt F) aVn.view faVn)) Finset.univ)

theorem kscale_eq : s1.sl.v573_r0 c faKn fsKn = vScale (k0_pay3 (knOf c faKn fsKn)) := rfl

theorem kclip_eq : s1.sl.v583_r0 c faKn fsKn = vClip (knOf c faKn fsKn) := rfl

theorem vscale_eq : s1.sl.v682_r0 c faVn fsVn = vScale (k0_pay3 (vnOf c faVn fsVn)) := rfl

theorem vclip_eq : s1.sl.v692_r0 c faVn fsVn = vClip (vnOf c faVn fsVn) := rfl

theorem HsKf_eq : s1.sl.HsKf_1 c faKn fsKn =
    [⟨Rect.unit ![0, 0] S16x128.size inb_S16x128_S16x128_0_0, k0_pay26 (vClip (knOf c faKn fsKn))⟩] := rfl

theorem HsKb_eq : s1.sl.HsKb_1 c faKn fsKn =
    [⟨Rect.unit ![0, 0] S16x128.size inb_S16x128_S16x128_0_0, k0_pay14 (vScale (k0_pay3 (knOf c faKn fsKn)))⟩] := rfl

theorem HsVf_eq : s1.sl.HsVf_1 c faVn fsVn =
    [⟨Rect.unit ![0, 0] S16x128.size inb_S16x128_S16x128_0_0, k0_pay26 (vClip (vnOf c faVn fsVn))⟩] := rfl

theorem HsVb_eq : s1.sl.HsVb_1 c faVn fsVn =
    [⟨Rect.unit ![0, 0] S16x128.size inb_S16x128_S16x128_0_0, k0_pay14 (vScale (k0_pay3 (vnOf c faVn fsVn)))⟩] := rfl

theorem HsKc_eq : s1.sl.HsKc_1 c faKn fsKn =
    [⟨Rect.unit ![0, 0] S16x128.size inb_S16x128_S16x128_0_0, k0_pay24 (vClip (knOf c faKn fsKn))⟩] := rfl

theorem HsKrow_eq : s1.sl.HsKrow_1 c faKn fsKn =
    [⟨Rect.unit ![0, 0] S1x16.size inb_S1x16_S1x16_0_0, k0_pay25 (vScale (k0_pay3 (knOf c faKn fsKn)))⟩] := rfl

theorem HsVc_eq : s1.sl.HsVc_1 c faVn fsVn =
    [⟨Rect.unit ![0, 0] S16x128.size inb_S16x128_S16x128_0_0, k0_pay24 (vClip (vnOf c faVn fsVn))⟩] := rfl

theorem HsVrow_eq : s1.sl.HsVrow_1 c faVn fsVn =
    [⟨Rect.unit ![0, 0] S1x16.size inb_S1x16_S1x16_0_0, k0_pay25 (vScale (k0_pay3 (vnOf c faVn fsVn)))⟩] := rfl

end Cert.KernelIdeal.Hand

end
-- ==== Proof.EndI.lean ====
/-
  The four quantised results at the end of the kernel's body, and the new rows as loaded: functions of the arguments alone.
-/
module

public import proofs.«01_k».proof.Proof.RunI8
public import proofs.«01_k».proof.Proof.QuantI
public import Idealize.ShloMosaic.Lib.Pointwise
public import Idealize.ShloMosaic.Lib.VecWindow
public import Idealize.ShloMosaic.Lib.Pipeline.Value
import all proofs.«01_k».proof.Proof.RunI1
import all proofs.«01_k».proof.Proof.RunI2

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]
variable (c : Dev nD) (faKn : Bf (F := F) c aKn) (fsKn : Bf (F := F) c sKn) (faVn : Bf (F := F) c aVn)
  (fsVn : Bf (F := F) c sVn)

theorem knOf_eq : knOf c faKn fsKn = (faKn : S16x128.Idx → F .bf16) := by
  funext y
  unfold knOf
  rw [View.readAt_rect]
  show View.read (Elt F) sKn.view (View.write (Elt F) sKn.view fsKn _ Finset.univ) _ = _
  rw [View.read_write_univ]
  refine congrArg (faKn : S16x128.Idx → F .bf16) (funext fun a => Fin.ext ?_)
  match a with
  | 0 => show 0 + 1 * (y 0).val = (y 0).val; omega
  | 1 => show 0 + 1 * (y 1).val = (y 1).val; omega

theorem vnOf_eq : vnOf c faVn fsVn = (faVn : S16x128.Idx → F .bf16) := by
  funext y
  unfold vnOf
  rw [View.readAt_rect]
  show View.read (Elt F) sVn.view (View.write (Elt F) sVn.view fsVn _ Finset.univ) _ = _
  rw [View.read_write_univ]
  refine congrArg (faVn : S16x128.Idx → F .bf16) (funext fun a => Fin.ext ?_)
  match a with
  | 0 => show 0 + 1 * (y 0).val = (y 0).val; omega
  | 1 => show 0 + 1 * (y 1).val = (y 1).val; omega

theorem endKc_eq (fsKc : Bf (F := F) c sKc) (frKc : Bf (F := F) c rKc) :
    endKc c faKn fsKn fsKc frKc = k0_pay24 (vClip (faKn : S16x128.Idx → F .bf16)) := by
  refine (View.read_write_univ (Val := Elt F) (v := rKc.view) frKc (s2.sl.dma0 c faKn fsKn fsKc)).trans ?_
  conv_rhs => rw [← knOf_eq c faKn fsKn]
  show View.read (Elt F) sKc.view (sKc.view.writes (Elt F) fsKc (s1.sl.HsKc_1 c faKn fsKn)) = _
  rw [HsKc_eq]
  exact View.read_writes_full (Val := Elt F) sKc.view fsKc inb_S16x128_S16x128_0_0 _ []

theorem endKs_eq (fsKrow : Bf (F := F) c sKrow) (frKs : Bf (F := F) c rKs) :
    endKs c faKn fsKn fsKrow frKs = k0_pay25 (vScale (k0_pay3 (faKn : S16x128.Idx → F .bf16))) := by
  refine (View.read_write_univ (Val := Elt F) (v := rKs.view) frKs (s2.sl.dma0_1 c faKn fsKn fsKrow)).trans ?_
  conv_rhs => rw [← knOf_eq c faKn fsKn]
  show View.read (Elt F) sKrow.view (sKrow.view.writes (Elt F) fsKrow (s1.sl.HsKrow_1 c faKn fsKn)) = _
  rw [HsKrow_eq]
  exact View.read_writes_full (Val := Elt F) sKrow.view fsKrow inb_S1x16_S1x16_0_0 _ []

theorem endVc_eq (fsVc : Bf (F := F) c sVc) (frVc : Bf (F := F) c rVc) :
    endVc c faVn fsVn fsVc frVc = k0_pay24 (vClip (faVn : S16x128.Idx → F .bf16)) := by
  refine (View.read_write_univ (Val := Elt F) (v := rVc.view) frVc (s2.sl.dma0_2 c faVn fsVn fsVc)).trans ?_
  conv_rhs => rw [← vnOf_eq c faVn fsVn]
  show View.read (Elt F) sVc.view (sVc.view.writes (Elt F) fsVc (s1.sl.HsVc_1 c faVn fsVn)) = _
  rw [HsVc_eq]
  exact View.read_writes_full (Val := Elt F) sVc.view fsVc inb_S16x128_S16x128_0_0 _ []

theorem endVs_eq (fsVrow : Bf (F := F) c sVrow) (frVs : Bf (F := F) c rVs) :
    endVs c faVn fsVn fsVrow frVs = k0_pay25 (vScale (k0_pay3 (faVn : S16x128.Idx → F .bf16))) := by
  refine (View.read_write_univ (Val := Elt F) (v := rVs.view) frVs (s2.sl.dma0_3 c faVn fsVn fsVrow)).trans ?_
  conv_rhs => rw [← vnOf_eq c faVn fsVn]
  show View.read (Elt F) sVrow.view (sVrow.view.writes (Elt F) fsVrow (s1.sl.HsVrow_1 c faVn fsVn)) = _
  rw [HsVrow_eq]
  exact View.read_writes_full (Val := Elt F) sVrow.view fsVrow inb_S1x16_S1x16_0_0 _ []

end Cert.KernelIdeal.Hand

end
-- ==== Proof.OutIdeal.lean ====
/-
  The attention result at the end of the kernel's body over the extended reals, as a function of the arguments alone.
-/
module

public import proofs.«01_k».proof.Proof.OutI
public import proofs.«01_k».proof.Proof.PairIdeal
public import proofs.«01_k».proof.Proof.ReadsI
public import proofs.«01_k».proof.Proof.EndI
public import proofs.«01_k».proof.Proof.QuantIdeal
public import proofs.«01_k».proof.Proof.Softmax

@[expose] public section

set_option maxRecDepth 16384

noncomputable section

namespace Cert.KernelIdeal.Hand

open Cert.KernelIdeal Cert.KernelIdeal.Gen
open Idealize.ShloMosaic Idealize.ShloMosaic.TcCoe

/-- One head's attention of one sequence, the way the kernel computes it: `x` is the query, `kn`, `vn` the new rows, `ck`,
    `cv` the caches with their scales `cks`, `cvs`, and `w` the length. -/
def kRow (x kn vn : Fin 128 → EReal) (ck cv : Fin 32768 → Fin 128 → EReal) (cks cvs : Fin 32768 → EReal) (w : BitVec 32)
    (d : Fin 128) : EReal :=
  let at1 : Fin 9 → Fin 128 → Fin 32768 := fun t l => Attend.at' (Decode.first w).toNat (Decode.first_le w) (pos t l)
  let e : Fin 9 → Fin 128 → EReal := fun t l => Scalar.select (between (lowOf w) (highOf w) (pos t l).val)
    (Ideal.exp2 (cLog * Ideal.tanh ((∑ y, x y * ck (at1 t l) y) * (cks (at1 t l) * cScore)))) 0
  let en : EReal := Ideal.exp2 (cLog * Ideal.tanh ((∑ y, x y * clip (kn y) (Scales.inv (level kn)))
    * (Scales.scale (level kn) * cScore)))
  let inv : EReal := Ideal.div 1 (∑ l', ∑ t, e t l' + en)
  ∑ l, ∑ t, e t l * inv * cvs (at1 t l) * cv (at1 t l) d
    + en * inv * Scales.scale (level vn) * clip (vn d) (Scales.inv (level vn))

variable (c : Dev nD) (faLen : Bf (F := Ideal) c aLen) (faX : Bf (F := Ideal) c aX) (faKn : Bf (F := Ideal) c aKn)
    (faVn : Bf (F := Ideal) c aVn) (faCk : Bf (F := Ideal) c aCk) (faCv : Bf (F := Ideal) c aCv)
    (faCks : Bf (F := Ideal) c aCks) (faCvs : Bf (F := Ideal) c aCvs) (fsLen : Bf (F := Ideal) c sLen)
    (fsX : Bf (F := Ideal) c sX) (fsKn : Bf (F := Ideal) c sKn) (fsVn : Bf (F := Ideal) c sVn)

theorem seq_half (j : Fin 16) : seq ⟨j.val / 2, by omega⟩ ⟨j.val % 2, by omega⟩ = j :=
  Fin.ext (by show 2 * (j.val / 2) + j.val % 2 = j.val; omega)

theorem newKf_apply (j : Fin 16) (y : Fin 128) : newOf sKf (s1.sl.HsKf_1 c faKn fsKn) j (ix2 0 y)
    = clip ((faKn : S16x128.Idx → EReal) (ix2 j y)) (Scales.inv (level fun x => (faKn : S16x128.Idx → EReal) (ix2 j x))) := by
  rw [HsKf_eq, newOf_apply, pay26_apply, knOf_eq, vClip_apply]

theorem newVf_apply (j : Fin 16) (y : Fin 128) : newOf sVf (s1.sl.HsVf_1 c faVn fsVn) j (ix2 0 y)
    = clip ((faVn : S16x128.Idx → EReal) (ix2 j y)) (Scales.inv (level fun x => (faVn : S16x128.Idx → EReal) (ix2 j x))) := by
  rw [HsVf_eq, newOf_apply, pay26_apply, vnOf_eq, vClip_apply]

theorem newKb_apply (j : Fin 16) (y : Fin 128) : newOf sKb (s1.sl.HsKb_1 c faKn fsKn) j (ix2 0 y)
    = Scales.scale (level fun x => (faKn : S16x128.Idx → EReal) (ix2 j x)) := by
  rw [HsKb_eq, newOf_apply, pay14_apply, knOf_eq, vScale_apply, pay3_apply]

theorem newVb_apply (j : Fin 16) (y : Fin 128) : newOf sVb (s1.sl.HsVb_1 c faVn fsVn) j (ix2 0 y)
    = Scales.scale (level fun x => (faVn : S16x128.Idx → EReal) (ix2 j x)) := by
  rw [HsVb_eq, newOf_apply, pay14_apply, vnOf_eq, vScale_apply, pay3_apply]

/-- The attention result of the whole launch. -/
def kOut : S16x16x128.Idx → EReal := fun y =>
  kRow (fun d => (faX : S16x16x128.Idx → EReal) (ix3 (y 0) (y 1) d)) (fun d => (faKn : S16x128.Idx → EReal) (ix2 (y 0) d))
    (fun d => (faVn : S16x128.Idx → EReal) (ix2 (y 0) d))
    (fun p d => (faCk : S16x32768x128.Idx → EReal) (ix3 (y 0) p d)) (fun p d => (faCv : S16x32768x128.Idx → EReal) (ix3 (y 0) p d))
    (fun p => (faCks : S16x1x32768.Idx → EReal) (ix3 (y 0) 0 p)) (fun p => (faCvs : S16x1x32768.Idx → EReal) (ix3 (y 0) 0 p))
    ((faLen : S16.Idx → BitVec 32) (ix1 (y 0))) (y 2)

theorem endOut_eq (fsOut : Bf (F := Ideal) c sOut) (frOut : Bf (F := Ideal) c rOut) :
    endOut c faLen faX faKn faVn faCk faCv faCks faCvs fsLen fsX fsKn fsVn fsOut frOut
      = kOut c faLen faX faKn faVn faCk faCv faCks faCvs := by
  funext y
  obtain ⟨j, h, d, rfl⟩ : ∃ (j h : Fin 16) (d : Fin 128), y = ix3 j h d := ⟨y 0, y 1, y 2, by
    funext a
    match a with
    | 0 => rfl
    | 1 => rfl
    | 2 => rfl⟩
  refine (endOut_apply c faLen faX faKn faVn faCk faCv faCks faCvs fsLen fsX fsKn fsVn fsOut frOut j h d).trans ?_
  unfold rowOf
  rw [pairOut_apply]
  simp only [seq_half, xOf_apply, winOf_apply, scaleOf_apply, newKf_apply, newVf_apply, newKb_apply, newVb_apply, lenOf_eq]
  rfl

end Cert.KernelIdeal.Hand

end
-- ==== Proof.FrameIG.lean ====
/-
  What the decode kernel leaves in its five results, over the extended reals: the launch of FrameI with the results named.
-/
module

public import proofs.«01_k».proof.Proof.FrameI
public import proofs.«01_k».proof.Proof.OutIdeal
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ## The results -/

/-- The attention result. -/
def gOut (c : Dev nD) : Buf (Elt Ideal) ((c.tc : Thread nD τ).loc main_v7_0) :=
  kOut c (V m c main_arg7) (V m c main_v0) (V m c main_v1) (V m c main_v2) (V m c main_v3) (V m c main_v4) (V m c main_v5) (V m c main_v6)

/-- The new key's codes. -/
def gKc (c : Dev nD) : Buf (Elt Ideal) ((c.tc : Thread nD τ).loc main_v7_1) :=
  k0_pay24 (F := Ideal) (vClip (V m c main_v1 : S16x128.Idx → EReal))

/-- The new key's scales. -/
def gKs (c : Dev nD) : Buf (Elt Ideal) ((c.tc : Thread nD τ).loc main_v7_2) :=
  k0_pay25 (F := Ideal) (vScale (k0_pay3 (F := Ideal) (V m c main_v1 : S16x128.Idx → EReal)))

/-- The new value's codes. -/
def gVc (c : Dev nD) : Buf (Elt Ideal) ((c.tc : Thread nD τ).loc main_v7_3) :=
  k0_pay24 (F := Ideal) (vClip (V m c main_v2 : S16x128.Idx → EReal))

/-- The new value's scales. -/
def gVs (c : Dev nD) : Buf (Elt Ideal) ((c.tc : Thread nD τ).loc main_v7_4) :=
  k0_pay25 (F := Ideal) (vScale (k0_pay3 (F := Ideal) (V m c main_v2 : S16x128.Idx → EReal)))

/-- The memory after the launch: the five results, everything else as the launch found it. -/
def G (c : Dev nD) : (b : Ref sig .tc) → Buf (Elt Ideal) ((c.tc : Thread nD τ).loc b) :=
  Function.update (Function.update (Function.update (Function.update (Function.update (V m c)
    main_v7_4 (gVs m c)) main_v7_3 (gVc m c)) main_v7_2 (gKs m c)) main_v7_1 (gKc m c)) main_v7_0 (gOut m c)

theorem G_Out (c : Dev nD) : G m c main_v7_0 = gOut m c := by
  unfold G; rw [Function.update_self]
theorem G_Kc (c : Dev nD) : G m c main_v7_1 = gKc m c := by
  unfold G; rw [Function.update_of_ne (by decide), Function.update_self]
theorem G_Ks (c : Dev nD) : G m c main_v7_2 = gKs m c := by
  unfold G; rw [Function.update_of_ne (by decide), Function.update_of_ne (by decide), Function.update_self]
theorem G_Vc (c : Dev nD) : G m c main_v7_3 = gVc m c := by
  unfold G; rw [Function.update_of_ne (by decide), Function.update_of_ne (by decide), Function.update_of_ne (by decide),
    Function.update_self]
theorem G_Vs (c : Dev nD) : G m c main_v7_4 = gVs m c := by
  unfold G; rw [Function.update_of_ne (by decide), Function.update_of_ne (by decide), Function.update_of_ne (by decide),
    Function.update_of_ne (by decide), Function.update_self]

/-! ## The invariant -/

theorem routed0_eq (c : Dev nD) (W : (b : Ref sig .tc) → Buf (Elt Ideal) ((c.tc : Thread nD τ).loc b)) :
    (Pipeline.routed R0 c W : sProp 𝕄)
      = iprop(pt c rOut (W main_v7_0) ∗ pt c rKc (W main_v7_1) ∗ pt c rKs (W main_v7_2) ∗ pt c rVc (W main_v7_3) ∗ pt c rVs (W main_v7_4)) := by
  unfold Pipeline.routed; rw [BI.bigSep_eq_bigSepL_of_eq [main_v7_0, main_v7_1, main_v7_2, main_v7_3, main_v7_4] (by decide) (by decide)]; rfl

/-- Everything the body is lent, in one row, the results at `W`. -/
def lentAt (c : Dev nD) (W : (b : Ref sig .tc) → Buf (Elt Ideal) ((c.tc : Thread nD τ).loc b)) : sProp 𝕄 :=
  iprop(iprop((∃ f : Bf (F := Ideal) c sX, pt c sX f) ∗ (∃ f : Bf (F := Ideal) c sKn, pt c sKn f) ∗ (∃ f : Bf (F := Ideal) c sVn, pt c sVn f) ∗ (∃ f : Bf (F := Ideal) c sK, pt c sK f) ∗ (∃ f : Bf (F := Ideal) c sV, pt c sV f) ∗ (∃ f : Bf (F := Ideal) c sKs, pt c sKs f) ∗ (∃ f : Bf (F := Ideal) c sVs, pt c sVs f) ∗ (∃ f : Bf (F := Ideal) c sOut, pt c sOut f) ∗ (∃ f : Bf (F := Ideal) c sKc, pt c sKc f) ∗ (∃ f : Bf (F := Ideal) c sKrow, pt c sKrow f) ∗ (∃ f : Bf (F := Ideal) c sVc, pt c sVc f) ∗ (∃ f : Bf (F := Ideal) c sVrow, pt c sVrow f) ∗ (∃ f : Bf (F := Ideal) c sKf, pt c sKf f) ∗ (∃ f : Bf (F := Ideal) c sKb, pt c sKb f) ∗ (∃ f : Bf (F := Ideal) c sVf, pt c sVf f) ∗ (∃ f : Bf (F := Ideal) c sVb, pt c sVb f) ∗ (∃ f : Bf (F := Ideal) c sLen, pt c sLen f))
    ∗ (∃ r, prngReg c r)
    ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
    ∗ iprop(pt c aLen (V m c main_arg7) ∗ pt c aX (V m c main_v0) ∗ pt c aKn (V m c main_v1) ∗ pt c aVn (V m c main_v2) ∗ pt c aCk (V m c main_v3) ∗ pt c aCv (V m c main_v4) ∗ pt c aCks (V m c main_v5) ∗ pt c aCvs (V m c main_v6))
    ∗ iprop(pt c rOut (W main_v7_0) ∗ pt c rKc (W main_v7_1) ∗ pt c rKs (W main_v7_2) ∗ pt c rVc (W main_v7_3) ∗ pt c rVs (W main_v7_4)))

theorem PhiDRG0_eq (W : (c : Dev nD) → (b : Ref sig .tc) → Buf (Elt Ideal) ((c.tc : Thread nD τ).loc b)) (c : Dev nD) :
    (Pipeline.ΦDRG osem0 (cfg0.spec) H0 R0 (V m) W c : sProp 𝕄) = lentAt m c (W c) := by
  rw [Pipeline.ΦDRG_eq, scoped0_eq, ownSems00_eq, hbmPts0_eq, routed0_eq]; rfl

/-- The results before the only step and after it. -/
def GAt (n : ℕ) (c : Dev nD) : (b : Ref sig .tc) → Buf (Elt Ideal) ((c.tc : Thread nD τ).loc b) :=
  if n = 0 then V m c else G m c

/-! ## The body obligation -/

def datsG (_ : Fin 1) (c : Dev nD) : Dat τ (Elt Ideal) Unit ℕ (Pipeline.UD sig nD τ) ℕ cfg0 c where
  A w := V m c (Pipeline.arrRef (cfg0.spec) w)
  after w t := w.elim0
  Φ t := Pipeline.ΦDRG osem0 (cfg0.spec) H0 R0 (V m) (GAt m t.val) c
  q _ := fullShare
  owed _ := 0

theorem A_eqG (c : Dev nD) (w : Fin cfg0.W) : (datsG m 0 c).A w = V m c (Pipeline.arrRef (cfg0.spec) w) := by
  dsimp only [datsG]

def bodyPreG (c : Dev nD) (t : Fin cfg0.N) : sProp 𝕄 :=
  iprop((datsG m 0 c).Φ t.castSucc ∗ (datsG m 0 c).owesAt () t.castSucc ∗ (BI.emp : sProp 𝕄))
def bodyPostG (c : Dev nD) (t : Fin cfg0.N) : sProp 𝕄 :=
  iprop((datsG m 0 c).Φ t.succ ∗ (datsG m 0 c).owesAt () t.succ ∗ (BI.emp : sProp 𝕄))

theorem step_zero (t : Fin cfg0.N) : t.val = 0 := by
  have h : t.val < 1 := N_0 ▸ t.isLt
  omega

theorem sound_bodyG (c : Dev nD) (t : Fin cfg0.N) :
    bodyPreG m c t ⊢ wp Idealize.ShloMosaic.frame (wpE (defs₀ (F := Ideal)) Variants.none c none) Set.univ (bodyAt0 t) (fun _ => bodyPostG m c t) := by
  unfold bodyPreG bodyPostG bodyAt0
  rw [show (datsG m 0 c).Φ t.succ = lentAt m c (G m c) from PhiDRG0_eq m (GAt m t.succ.val) c,
    show (datsG m 0 c).Φ t.castSucc = lentAt m c (V m c) from
      (PhiDRG0_eq m (GAt m t.castSucc.val) c).trans (congrArg (lentAt m c) (if_pos (step_zero t)))]
  unfold Dat.owesAt Pipeline.owesWithin lentAt
  rw [show (datsG m 0 c).owed t.castSucc = 0 from rfl, show (datsG m 0 c).owed t.succ = 0 from rfl]
  iintro ⟨⟨⟨⟨%fsX, HsX⟩, ⟨%fsKn, HsKn⟩, ⟨%fsVn, HsVn⟩, ⟨%fsK, HsK⟩, ⟨%fsV, HsV⟩, ⟨%fsKs, HsKs⟩, ⟨%fsVs, HsVs⟩, ⟨%fsOut, HsOut⟩, ⟨%fsKc, HsKc⟩, ⟨%fsKrow, HsKrow⟩, ⟨%fsVc, HsVc⟩, ⟨%fsVrow, HsVrow⟩, ⟨%fsKf, HsKf⟩, ⟨%fsKb, HsKb⟩, ⟨%fsVf, HsVf⟩, ⟨%fsVb, HsVb⟩, ⟨%fsLen, HsLen⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40⟩,
    ⟨HaLen, HaX, HaKn, HaVn, HaCk, HaCv, HaCks, HaCvs⟩, ⟨HrOut, HrKc, HrKs, HrVc, HrVs⟩⟩, ⟨%W, -, HW⟩, -⟩
  iapply (body_run c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) fsLen fsX fsKn fsVn fsK fsV fsKs fsVs fsOut fsKc fsKrow fsVc fsVrow fsKf fsKb fsVf fsVb W _)
  isplitl [HaLen]; · iexact HaLen
  isplitl [HaX]; · iexact HaX
  isplitl [HaKn]; · iexact HaKn
  isplitl [HaVn]; · iexact HaVn
  isplitl [HaCk]; · iexact HaCk
  isplitl [HaCv]; · iexact HaCv
  isplitl [HaCks]; · iexact HaCks
  isplitl [HaCvs]; · iexact HaCvs
  isplitl [HrOut]; · iexact HrOut
  isplitl [HrKc]; · iexact HrKc
  isplitl [HrKs]; · iexact HrKs
  isplitl [HrVc]; · iexact HrVc
  isplitl [HrVs]; · iexact HrVs
  isplitl [HsLen]; · iexact HsLen
  isplitl [HsX]; · iexact HsX
  isplitl [HsKn]; · iexact HsKn
  isplitl [HsVn]; · iexact HsVn
  isplitl [HsK]; · iexact HsK
  isplitl [HsV]; · iexact HsV
  isplitl [HsKs]; · iexact HsKs
  isplitl [HsVs]; · iexact HsVs
  isplitl [HsOut]; · iexact HsOut
  isplitl [HsKc]; · iexact HsKc
  isplitl [HsKrow]; · iexact HsKrow
  isplitl [HsVc]; · iexact HsVc
  isplitl [HsVrow]; · iexact HsVrow
  isplitl [HsKf]; · iexact HsKf
  isplitl [HsKb]; · iexact HsKb
  isplitl [HsVf]; · iexact HsVf
  isplitl [HsVb]; · iexact HsVb
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [HW]; · iexact HW
  iintro ⟨HaLen, HaX, HaKn, HaVn, HaCk, HaCv, HaCks, HaCvs, HrOut, HrKc, HrKs, HrVc, HrVs, HsLen, HsX, HsKn, HsVn, HsK, HsV, HsKs, HsVs, HsOut, HsKc, HsKrow, HsVc, HsVrow, HsKf, HsKb, HsVf, HsVb, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, ⟨%W', HW'⟩⟩
  isplitr [HW']
  · isplitl [HsX HsKn HsVn HsK HsV HsKs HsVs HsOut HsKc HsKrow HsVc HsVrow HsKf HsKb HsVf HsVb HsLen]
    · isplitl [HsX]; · iexact HsX
      isplitl [HsKn]; · iexact HsKn
      isplitl [HsVn]; · iexact HsVn
      isplitl [HsK]; · iexact HsK
      isplitl [HsV]; · iexact HsV
      isplitl [HsKs]; · iexact HsKs
      isplitl [HsVs]; · iexact HsVs
      isplitl [HsOut]; · iexact HsOut
      isplitl [HsKc]; · iexact HsKc
      isplitl [HsKrow]; · iexact HsKrow
      isplitl [HsVc]; · iexact HsVc
      isplitl [HsVrow]; · iexact HsVrow
      isplitl [HsKf]; · iexact HsKf
      isplitl [HsKb]; · iexact HsKb
      isplitl [HsVf]; · iexact HsVf
      isplitl [HsVb]; · iexact HsVb
      iexact HsLen
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      iexact Hq40
    isplitl [HaLen HaX HaKn HaVn HaCk HaCv HaCks HaCvs]
    · isplitl [HaLen]; · iexact HaLen
      isplitl [HaX]; · iexact HaX
      isplitl [HaKn]; · iexact HaKn
      isplitl [HaVn]; · iexact HaVn
      isplitl [HaCk]; · iexact HaCk
      isplitl [HaCv]; · iexact HaCv
      isplitl [HaCks]; · iexact HaCks
      iexact HaCvs
    isplitl [HrOut]; · rw [G_Out m c, show gOut m c = _ from (endOut_eq c (V m c main_arg7) (V m c main_v0) (V m c main_v1) (V m c main_v2) (V m c main_v3) (V m c main_v4) (V m c main_v5) (V m c main_v6) fsLen fsX fsKn fsVn fsOut (V m c main_v7_0)).symm]; iexact HrOut
    isplitl [HrKc]; · rw [G_Kc m c, show gKc m c = _ from (endKc_eq c (V m c main_v1) fsKn fsKc (V m c main_v7_1)).symm]; iexact HrKc
    isplitl [HrKs]; · rw [G_Ks m c, show gKs m c = _ from (endKs_eq c (V m c main_v1) fsKn fsKrow (V m c main_v7_2)).symm]; iexact HrKs
    isplitl [HrVc]; · rw [G_Vc m c, show gVc m c = _ from (endVc_eq c (V m c main_v2) fsVn fsVc (V m c main_v7_3)).symm]; iexact HrVc
    rw [G_Vs m c, show gVs m c = _ from (endVs_eq c (V m c main_v2) fsVn fsVrow (V m c main_v7_4)).symm]; iexact HrVs
  isplitl [HW']
  · iexists W'; isplitr; · ipureintro; exact fun _ _ => Or.inl trivial
    iexact HW'
  iempintro

theorem body_obligationG (c : Dev nD) : BodyObligation (datsG m 0 c) (defs₀ (F := Ideal)) Variants.none () Set.univ := fun t => by
  rw [bigSep_none, bigSep_none, defs₀_row]
  exact triple_restated (sound_bodyG m c t) rfl .rfl fun _ => .rfl

/-! ## The run -/

set_option backward.isDefEq.respectTransparency.types false in
theorem run_mainG : θ_run defs (onTc (τ := τ) (main (F := Ideal))) (s₀ m ρ) (fun r => Pipeline.FramePostRG cfgs (datsG m) 0 R0 (V m) (G m) r ∧ r.2.sem = fun _ => 0) :=
  Pipeline.θ_run_frame_dmaRG (Q' := _) cfgs (datsG m) (0 : Fin 1) launch0 osem0 defs₀ Variants.none ownSemFacts0 H0 R0 H0_sub R0_sub m ρ main
    (hbody := fun c => (body_obligationG m c).loose) (hshare := fun c => (datsG m 0 c).share_full fun _ => rfl)
    (howed := fun _ _ => rfl) (V := V m) (hmain := hmain m Variants.none) (hA := A_eqG m) (G := G m)
    (hin := fun _ => .rfl) (hout := fun _ => .rfl)

/-- What the launch leaves: the five results, and the arguments as they were. -/
theorem run_results : θ_run defs (onTc (τ := τ) (main (F := Ideal))) ⟨m, fun _ => 0, ρ⟩ (fun r => ∀ c : Dev nD,
      r.2.mem ((c.tc : Thread nD τ).loc main_v7_0) = gOut m c
      ∧ r.2.mem ((c.tc : Thread nD τ).loc main_v7_1) = gKc m c
      ∧ r.2.mem ((c.tc : Thread nD τ).loc main_v7_2) = gKs m c
      ∧ r.2.mem ((c.tc : Thread nD τ).loc main_v7_3) = gVc m c
      ∧ r.2.mem ((c.tc : Thread nD τ).loc main_v7_4) = gVs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1.written c (by decide)).trans (G_Out m c), (h.1.written c (by decide)).trans (G_Kc m c),
      (h.1.written c (by decide)).trans (G_Ks m c), (h.1.written c (by decide)).trans (G_Vc m c),
      (h.1.written c (by decide)).trans (G_Vs m c),
      ((h.1.toR c).2 main_arg0 (Finset.mem_sdiff.mpr ⟨Pipeline.mem_restRefs_of main_arg0 (by decide) (by decide), by decide⟩)).trans (Gen.V_main_arg0 m c),
      ((h.1.toR c).2 main_arg1 (Finset.mem_sdiff.mpr ⟨Pipeline.mem_restRefs_of main_arg1 (by decide) (by decide), by decide⟩)).trans (Gen.V_main_arg1 m c),
      ((h.1.toR c).2 main_arg2 (Finset.mem_sdiff.mpr ⟨Pipeline.mem_restRefs_of main_arg2 (by decide) (by decide), by decide⟩)).trans (Gen.V_main_arg2 m c),
      ((h.1.toR c).2 main_arg3 (Finset.mem_sdiff.mpr ⟨Pipeline.mem_restRefs_of main_arg3 (by decide) (by decide), by decide⟩)).trans (Gen.V_main_arg3 m c),
      ((h.1.toR c).2 main_arg4 (Finset.mem_sdiff.mpr ⟨Pipeline.mem_restRefs_of main_arg4 (by decide) (by decide), by decide⟩)).trans (Gen.V_main_arg4 m c),
      ((h.1.toR c).2 main_arg5 (Finset.mem_sdiff.mpr ⟨Pipeline.mem_restRefs_of main_arg5 (by decide) (by decide), by decide⟩)).trans (Gen.V_main_arg5 m c),
      ((h.1.toR c).2 main_arg6 (Finset.mem_sdiff.mpr ⟨Pipeline.mem_restRefs_of main_arg6 (by decide) (by decide), by decide⟩)).trans (Gen.V_main_arg6 m c),
      ((h.1.toR c).2 main_arg7 (Finset.mem_sdiff.mpr ⟨Pipeline.mem_restRefs_of main_arg7 (by decide) (by decide), by decide⟩)).trans (Gen.V_main_arg7 m c)⟩) (run_mainG m ρ)

end Cert.KernelIdeal.Hand

end
-- ==== Proof.KerOut.lean ====
/-
  The kernel's results, element by element, as functions of its arguments.
-/
module

public import proofs.«01_k».proof.Proof.ArgsI
public import proofs.«01_k».proof.Proof.FrameIG
public import proofs.«01_k».proof.Proof.QuantIdeal

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

theorem gOut_apply (b h : Fin 16) (d : Fin 128) : (gOut m c : S16x16x128.Idx → EReal) (ix3 b h d)
    = kRow (fun d => (m ((c : Thread nD τ).loc main_arg0) : S16x1x16x128.Idx → EReal) (ix4 b 0 h d))
        (fun d => (m ((c : Thread nD τ).loc main_arg1) : S16x1x1x128.Idx → EReal) (ix4 b 0 0 d))
        (fun d => (m ((c : Thread nD τ).loc main_arg2) : S16x1x1x128.Idx → EReal) (ix4 b 0 0 d))
        (fun p d => (m ((c : Thread nD τ).loc main_arg3) : S16x32768x1x128.Idx → EReal) (ix4 b p 0 d))
        (fun p d => (m ((c : Thread nD τ).loc main_arg4) : S16x32768x1x128.Idx → EReal) (ix4 b p 0 d))
        (fun p => (m ((c : Thread nD τ).loc main_arg5) : S16x32768x1.Idx → EReal) (ix3 b p 0))
        (fun p => (m ((c : Thread nD τ).loc main_arg6) : S16x32768x1.Idx → EReal) (ix3 b p 0))
        ((m ((c : Thread nD τ).loc main_arg7) : S16.Idx → BitVec 32) (ix1 b)) d := by
  unfold gOut kOut
  simp only [← el0 m c, ← el1 m c, ← el2 m c, ← el3 m c, ← el4 m c, ← el5 m c, ← el6 m c, ← el7 m c]
  rfl

theorem gKc_apply (b : Fin 16) (d : Fin 128) : (gKc m c : S16x128.Idx → EReal) (ix2 b d)
    = clip ((m ((c : Thread nD τ).loc main_arg1) : S16x1x1x128.Idx → EReal) (ix4 b 0 0 d)) (Scales.inv (level fun x => (m ((c : Thread nD τ).loc main_arg1) : S16x1x1x128.Idx → EReal) (ix4 b 0 0 x))) := by
  simp only [← el1 m c]
  unfold gKc
  rw [pay24_apply, vClip_apply]

theorem gKs_apply (b : Fin 16) : (gKs m c : S1x16.Idx → EReal) (ix2 0 b)
    = Scales.scale (level fun x => (m ((c : Thread nD τ).loc main_arg1) : S16x1x1x128.Idx → EReal) (ix4 b 0 0 x)) := by
  simp only [← el1 m c]
  unfold gKs
  rw [pay25_apply, vScale_apply, pay3_apply]

theorem gVc_apply (b : Fin 16) (d : Fin 128) : (gVc m c : S16x128.Idx → EReal) (ix2 b d)
    = clip ((m ((c : Thread nD τ).loc main_arg2) : S16x1x1x128.Idx → EReal) (ix4 b 0 0 d)) (Scales.inv (level fun x => (m ((c : Thread nD τ).loc main_arg2) : S16x1x1x128.Idx → EReal) (ix4 b 0 0 x))) := by
  simp only [← el2 m c]
  unfold gVc
  rw [pay24_apply, vClip_apply]

theorem gVs_apply (b : Fin 16) : (gVs m c : S1x16.Idx → EReal) (ix2 0 b)
    = Scales.scale (level fun x => (m ((c : Thread nD τ).loc main_arg2) : S16x1x1x128.Idx → EReal) (ix4 b 0 0 x)) := by
  simp only [← el2 m c]
  unfold gVs
  rw [pay25_apply, vScale_apply, pay3_apply]

end Cert.KernelIdeal.Hand

end
-- ==== Proof.ArgsR.lean ====
/-
  The arrays the reference's body reads, as functions of the arguments: each is an argument reshaped.
-/
module

public import proofs.«01_k».proof.Proof.Gen.ReferenceIdeal.Frame
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem read0 : V m c main_v0 = shapeCast S16x16x128 (m ((c : Thread nD τ).loc main_arg0)) shapeCasts_S16x1x16x128_S16x16x128 := rfl

theorem read1 : V m c main_v1 = shapeCast S16x1x128 (m ((c : Thread nD τ).loc main_arg1)) shapeCasts_S16x1x1x128_S16x1x128 := rfl

theorem read2 : V m c main_v2 = shapeCast S16x1x128 (m ((c : Thread nD τ).loc main_arg2)) shapeCasts_S16x1x1x128_S16x1x128 := rfl

theorem read3 : V m c main_v3 = shapeCast S16x32768x128 (m ((c : Thread nD τ).loc main_arg3)) shapeCasts_S16x32768x1x128_S16x32768x128 := rfl

theorem read4 : V m c main_v4 = shapeCast S16x32768x128 (m ((c : Thread nD τ).loc main_arg4)) shapeCasts_S16x32768x1x128_S16x32768x128 := rfl

theorem read5 : V m c main_v5 = shapeCast S16x1x32768 (m ((c : Thread nD τ).loc main_arg5)) shapeCasts_S16x32768x1_S16x1x32768 := rfl

theorem read6 : V m c main_v6 = shapeCast S16x1x32768 (m ((c : Thread nD τ).loc main_arg6)) shapeCasts_S16x32768x1_S16x1x32768 := rfl

theorem read7 : V m c main_v7 = shapeCast S16x1x1 (m ((c : Thread nD τ).loc main_arg7)) shapeCasts_S16_S16x1x1 := rfl

/-! ## The reshapes, element by element -/

theorem cast0 (a : S16x1x16x128.Idx → EReal) (b h : Fin 16) (d : Fin 128) :
    shapeCast S16x16x128 a shapeCasts_S16x1x16x128_S16x16x128 (ix3 b h d) = a (ix4 b 0 h d) := by
  pointwise

theorem cast1 (a : S16x1x1x128.Idx → EReal) (b : Fin 16) (d : Fin 128) :
    shapeCast S16x1x128 a shapeCasts_S16x1x1x128_S16x1x128 (ix3 b 0 d) = a (ix4 b 0 0 d) := by
  pointwise

theorem cast3 (a : S16x32768x1x128.Idx → EReal) (b : Fin 16) (p : Fin 32768) (d : Fin 128) :
    shapeCast S16x32768x128 a shapeCasts_S16x32768x1x128_S16x32768x128 (ix3 b p d) = a (ix4 b p 0 d) := by
  pointwise

theorem cast5 (a : S16x32768x1.Idx → EReal) (b : Fin 16) (p : Fin 32768) :
    shapeCast S16x1x32768 a shapeCasts_S16x32768x1_S16x1x32768 (ix3 b 0 p) = a (ix3 b p 0) := by
  pointwise

theorem cast7 (a : S16.Idx → BitVec 32) (b : Fin 16) :
    shapeCast S16x1x1 a shapeCasts_S16_S16x1x1 (ix3 b 0 0) = a (ix1 b) := by
  pointwise

/-! ## The arrays, element by element -/

theorem el0 (b h : Fin 16) (d : Fin 128) : (V m c main_v0 : S16x16x128.Idx → EReal) (ix3 b h d)
    = (m ((c : Thread nD τ).loc main_arg0) : S16x1x16x128.Idx → EReal) (ix4 b 0 h d) := by
  rw [read0]; exact cast0 _ b h d

theorem el1 (b : Fin 16) (d : Fin 128) : (V m c main_v1 : S16x1x128.Idx → EReal) (ix3 b 0 d)
    = (m ((c : Thread nD τ).loc main_arg1) : S16x1x1x128.Idx → EReal) (ix4 b 0 0 d) := by
  rw [read1]; exact cast1 _ b d

theorem el2 (b : Fin 16) (d : Fin 128) : (V m c main_v2 : S16x1x128.Idx → EReal) (ix3 b 0 d)
    = (m ((c : Thread nD τ).loc main_arg2) : S16x1x1x128.Idx → EReal) (ix4 b 0 0 d) := by
  rw [read2]; exact cast1 _ b d

theorem el3 (b : Fin 16) (p : Fin 32768) (d : Fin 128) : (V m c main_v3 : S16x32768x128.Idx → EReal) (ix3 b p d)
    = (m ((c : Thread nD τ).loc main_arg3) : S16x32768x1x128.Idx → EReal) (ix4 b p 0 d) := by
  rw [read3]; exact cast3 _ b p d

theorem el4 (b : Fin 16) (p : Fin 32768) (d : Fin 128) : (V m c main_v4 : S16x32768x128.Idx → EReal) (ix3 b p d)
    = (m ((c : Thread nD τ).loc main_arg4) : S16x32768x1x128.Idx → EReal) (ix4 b p 0 d) := by
  rw [read4]; exact cast3 _ b p d

theorem el5 (b : Fin 16) (p : Fin 32768) : (V m c main_v5 : S16x1x32768.Idx → EReal) (ix3 b 0 p)
    = (m ((c : Thread nD τ).loc main_arg5) : S16x32768x1.Idx → EReal) (ix3 b p 0) := by
  rw [read5]; exact cast5 _ b p

theorem el6 (b : Fin 16) (p : Fin 32768) : (V m c main_v6 : S16x1x32768.Idx → EReal) (ix3 b 0 p)
    = (m ((c : Thread nD τ).loc main_arg6) : S16x32768x1.Idx → EReal) (ix3 b p 0) := by
  rw [read6]; exact cast5 _ b p

theorem el7 (b : Fin 16) : (V m c main_v7 : S16x1x1.Idx → BitVec 32) (ix3 b 0 0)
    = (m ((c : Thread nD τ).loc main_arg7) : S16.Idx → BitVec 32) (ix1 b) := by
  rw [read7]; exact cast7 _ b

end Cert.ReferenceIdeal.Hand

end
-- ==== Proof.RefArr.lean ====
/-
  The reference runs its body once, on whole arrays: what each result array holds at the end, as the body's values of the
  argument arrays.
-/
module

public import proofs.«01_k».proof.Proof.Gen.ReferenceIdeal.Value
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

/-! ## Each input block is its whole array -/

theorem block0 (t : Fin cfg0.N) : iblk m c 0 t = V m c main_v0 := by
  have e : ∀ t : Fin cfg0.N, win0_0.index t = ![0, 0, 0] := (by decide +kernel : ∀ t : Fin grid0.N, _)
  funext y
  blk_simp [iblk]
  blk_ext [e]

theorem block1 (t : Fin cfg0.N) : iblk m c 1 t = V m c main_v1 := by
  have e : ∀ t : Fin cfg0.N, win0_1.index t = ![0, 0, 0] := (by decide +kernel : ∀ t : Fin grid0.N, _)
  funext y
  blk_simp [iblk]
  blk_ext [e]

theorem block2 (t : Fin cfg0.N) : iblk m c 2 t = V m c main_v2 := by
  have e : ∀ t : Fin cfg0.N, win0_2.index t = ![0, 0, 0] := (by decide +kernel : ∀ t : Fin grid0.N, _)
  funext y
  blk_simp [iblk]
  blk_ext [e]

theorem block3 (t : Fin cfg0.N) : iblk m c 3 t = V m c main_v3 := by
  have e : ∀ t : Fin cfg0.N, win0_3.index t = ![0, 0, 0] := (by decide +kernel : ∀ t : Fin grid0.N, _)
  funext y
  blk_simp [iblk]
  blk_ext [e]

theorem block4 (t : Fin cfg0.N) : iblk m c 4 t = V m c main_v4 := by
  have e : ∀ t : Fin cfg0.N, win0_4.index t = ![0, 0, 0] := (by decide +kernel : ∀ t : Fin grid0.N, _)
  funext y
  blk_simp [iblk]
  blk_ext [e]

theorem block5 (t : Fin cfg0.N) : iblk m c 5 t = V m c main_v5 := by
  have e : ∀ t : Fin cfg0.N, win0_5.index t = ![0, 0, 0] := (by decide +kernel : ∀ t : Fin grid0.N, _)
  funext y
  blk_simp [iblk]
  blk_ext [e]

theorem block6 (t : Fin cfg0.N) : iblk m c 6 t = V m c main_v6 := by
  have e : ∀ t : Fin cfg0.N, win0_6.index t = ![0, 0, 0] := (by decide +kernel : ∀ t : Fin grid0.N, _)
  funext y
  blk_simp [iblk]
  blk_ext [e]

theorem block7 (t : Fin cfg0.N) : iblk m c 7 t = V m c main_v7 := by
  have e : ∀ t : Fin cfg0.N, win0_7.index t = ![0, 0, 0] := (by decide +kernel : ∀ t : Fin grid0.N, _)
  funext y
  blk_simp [iblk]
  blk_ext [e]

/-- The body's one run. -/
abbrev t₀ : Fin cfg0.N := ⟨0, by decide⟩

/-! ## Each result array is what the body stored -/

theorem array8 : (dats m 0 c).arrAt 8 cfg0.N
    = out0_8 (V m c main_v0) (V m c main_v1) (V m c main_v2) (V m c main_v3) (V m c main_v4) (V m c main_v5) (V m c main_v6) (V m c main_v7) := by
  refine (dats m 0 c).arrAt_eq_of_after_last 8 t₀ (by decide +kernel) _ fun j => ?_
  rw [after0_8, block0, block1, block2, block3, block4, block5, block6, block7]
  rfl

theorem array9 : (dats m 0 c).arrAt 9 cfg0.N
    = out0_9 (V m c main_v0) (V m c main_v1) (V m c main_v2) (V m c main_v3) (V m c main_v4) (V m c main_v5) (V m c main_v6) (V m c main_v7) := by
  refine (dats m 0 c).arrAt_eq_of_after_last 9 t₀ (by decide +kernel) _ fun j => ?_
  rw [after0_9, block0, block1, block2, block3, block4, block5, block6, block7]
  rfl

theorem array10 : (dats m 0 c).arrAt 10 cfg0.N
    = out0_10 (V m c main_v0) (V m c main_v1) (V m c main_v2) (V m c main_v3) (V m c main_v4) (V m c main_v5) (V m c main_v6) (V m c main_v7) := by
  refine (dats m 0 c).arrAt_eq_of_after_last 10 t₀ (by decide +kernel) _ fun j => ?_
  rw [after0_10, block0, block1, block2, block3, block4, block5, block6, block7]
  rfl

theorem array11 : (dats m 0 c).arrAt 11 cfg0.N
    = out0_11 (V m c main_v0) (V m c main_v1) (V m c main_v2) (V m c main_v3) (V m c main_v4) (V m c main_v5) (V m c main_v6) (V m c main_v7) := by
  refine (dats m 0 c).arrAt_eq_of_after_last 11 t₀ (by decide +kernel) _ fun j => ?_
  rw [after0_11, block0, block1, block2, block3, block4, block5, block6, block7]
  rfl

theorem array12 : (dats m 0 c).arrAt 12 cfg0.N
    = out0_12 (V m c main_v0) (V m c main_v1) (V m c main_v2) (V m c main_v3) (V m c main_v4) (V m c main_v5) (V m c main_v6) (V m c main_v7) := by
  refine (dats m 0 c).arrAt_eq_of_after_last 12 t₀ (by decide +kernel) _ fun j => ?_
  rw [after0_12, block0, block1, block2, block3, block4, block5, block6, block7]
  rfl

end Cert.ReferenceIdeal.Hand

end
-- ==== Proof.Mask.lean ====
/-
  The window's mask is the reference's. The kernel tests position `r` of the window of a sequence of length `w` against
  `w - 1024 - first w` and `w - first w`; the reference tests position `j` of the cache against `w - 1024` and `w`. With
  `j = first w + r` the two agree, and the reference's mask lies inside the window.
-/
module

public import proofs.«01_k».proof.Proof.Words

@[expose] public section

noncomputable section

namespace Decode

open Idealize.ShloMosaic

/-- The reference's mask: position `j` is among the last 1024 before the length `w`. -/
def live (w : BitVec 32) (j : ℕ) : Prop := (j : Int) < w.toInt ∧ (w - 1024#32).toInt < (j : Int)

instance (w : BitVec 32) : DecidablePred (live w) := fun j => by unfold live; infer_instance

theorem toInt_small (j : ℕ) (h : j < 2 ^ 31) : (BitVec.ofNat 32 j).toInt = (j : Int) := by
  rw [BitVec.toInt_eq_toNat_cond, BitVec.toNat_ofNat]
  split <;> omega

theorem range (w : BitVec 32) : -2 ^ 31 ≤ w.toInt ∧ w.toInt < 2 ^ 31 := by
  have h := w.isLt
  rw [BitVec.toInt_eq_toNat_cond]
  split <;> omega

theorem live_window (w : BitVec 32) (j : ℕ) (hj : j < 32768) (h : live w j) :
    (first w).toNat ≤ j ∧ j < (first w).toNat + 1152 := by
  obtain ⟨h1, h2⟩ := h
  have hr := range w
  have e := first_toNat w
  have f := first_toInt w
  have s : (w - 1024#32).toInt = (w.toInt - 1024).bmod (2 ^ 32) := by rw [BitVec.toInt_sub]; rfl
  rw [s] at h2
  rw [Int.bmod_def] at h2 f
  omega

theorem live_iff (w : BitVec 32) (r : ℕ) (hr : r < 1152) :
    ((w - 1024#32 - first w).toInt < (r : Int) ∧ (r : Int) < (w - first w).toInt) ↔ live w ((first w).toNat + r) := by
  have hw := range w
  have e := first_toNat w
  have f := first_toInt w
  have s : (w - 1024#32).toInt = (w.toInt - 1024).bmod (2 ^ 32) := by rw [BitVec.toInt_sub]; rfl
  have s1 : (w - 1024#32 - first w).toInt = ((w - 1024#32).toInt - (first w).toInt).bmod (2 ^ 32) := by rw [BitVec.toInt_sub]
  have s2 : (w - first w).toInt = (w.toInt - (first w).toInt).bmod (2 ^ 32) := by rw [BitVec.toInt_sub]
  unfold live
  rw [s1, s2, s]
  rw [Int.bmod_def] at f
  simp only [Int.bmod_def]
  push_cast
  omega

end Decode

end
-- ==== Proof.Match.lean ====
/-
  One row of attention: the kernel's windowed way and the reference's plain way give the same value.
-/
module

public import proofs.«01_k».proof.Proof.RefPay
public import proofs.«01_k».proof.Proof.OutIdeal
public import proofs.«01_k».proof.Proof.Mask

@[expose] public section

set_option maxRecDepth 16384

noncomputable section

namespace Cert.Match

open Idealize.ShloMosaic
open Cert.KernelIdeal.Hand (kRow cLog cScore between lowOf highOf pos sum_pos level rowMax clip)
open Cert.ReferenceIdeal.Hand (tanhOf liveBit expo)

/-! ## The scores -/

/-- The hyperbolic tangent of an extended real is a real number. -/
theorem tanh_real (z : EReal) : Ideal.tanh z = (((Ideal.tanh z).toReal : ℝ) : EReal) := by
  induction z with
  | bot => show (-1 : EReal) = (((-1 : EReal).toReal : ℝ) : EReal); simp
  | top => show (1 : EReal) = (((1 : EReal).toReal : ℝ) : EReal); simp
  | coe r => rfl

/-- The score's hyperbolic tangent as a real number. -/
def T (s g : EReal) : ℝ := (tanhOf s g).toReal

theorem tanhOf_eq (s g : EReal) : tanhOf s g = ((T s g : ℝ) : EReal) := tanh_real _

theorem fifty : Ideal.ofBits .f32 0x42480000#32 = ((50 : ℝ) : EReal) := by
  have h : ¬ BitVec.extractLsb' 31 1 (0x42480000#32 : BitVec 32) = 1#1 := by decide
  norm_num [Ideal.ofBits, Ideal.ieee, Nat.shiftRight_eq_div_pow, h]

/-- The kernel scales the score first and divides by 50 in the constant; the reference scales last. -/
theorem arg_eq (s g : EReal) : Ideal.tanh (s * (g * cScore)) = ((T s g : ℝ) : EReal) := by
  rw [← tanhOf_eq]
  unfold tanhOf
  rw [fifty, Ideal.div_coe (by norm_num : (50 : ℝ) ≠ 0)]
  rw [mul_assoc, mul_assoc]
  congr 3

theorem cLog_eq : cLog = ((50 * (Real.log 2)⁻¹ : ℝ) : EReal) := by
  show ((_ : ℝ) : EReal) = _
  rfl

/-! ## The masks -/

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_bit {α : Type} (p : Prop) [Decidable p] (x y : α) :
    Scalar.select (BitVec.ofBool (decide p)) x y = if p then x else y := by
  by_cases h : p <;> simp [h, Scalar.select]

theorem liveBit_eq (n : BitVec 32) (j : ℕ) (hj : j < 32768) : liveBit n j = BitVec.ofBool (decide (Decode.live n j)) := by
  have e := Decode.toInt_small j (by omega)
  unfold liveBit
  refine Eq.trans ?_ (and_bits ((j : Int) < n.toInt) ((n - 1024#32).toInt < (j : Int)))
  rw [← e]
  rfl

theorem between_eq (w : BitVec 32) (r : ℕ) (hr : r < 1152) :
    between (lowOf w) (highOf w) r = BitVec.ofBool (decide (Decode.live w ((Decode.first w).toNat + r))) := by
  have e := Decode.toInt_small r (by omega)
  have h := Decode.live_iff w r hr
  rw [← decide_eq_decide.mpr h, ← and_bits, ← e]
  rfl

/-! ## The row -/

/-- One head's attention of one sequence, the kernel's, as the windowed form. -/
theorem kRow_windowed (x kn vn : Fin 128 → EReal) (ck cv : Fin 32768 → Fin 128 → EReal) (cks cvs : Fin 32768 → EReal)
    (w : BitVec 32) (d : Fin 128) : kRow x kn vn ck cv cks cvs w d
      = Attend.windowed (fun j : Fin 32768 => Decode.live w j.val) (Decode.first w).toNat (Decode.first_le w)
          (fun j => T (∑ y, x y * ck j y) (cks j))
          (T (∑ y, x y * clip (kn y) (Scales.inv (level kn))) (Scales.scale (level kn)))
          cvs (fun j => cv j d) (Scales.scale (level vn)) (clip (vn d) (Scales.inv (level vn))) := by
  unfold kRow Attend.windowed
  simp only [arg_eq, cLog_eq, sum_pos, between_eq _ _ (pos _ _).isLt, select_bit]
  rfl

/-- One head's attention of one sequence, the reference's; `m` is what it subtracts before exponentiating. -/
def rRow (x kn vn : Fin 128 → EReal) (ck cv : Fin 32768 → Fin 128 → EReal) (cks cvs : Fin 32768 → EReal)
    (w : BitVec 32) (m : ℝ) (d : Fin 128) : EReal :=
  Attend.plain (fun j : Fin 32768 => Decode.live w j.val) (fun j => T (∑ y, x y * ck j y) (cks j))
    (T (∑ y, x y * clip (kn y) (Ideal.exp2 (0 - expo kn))) (Ideal.exp2 (expo kn))) m
    cvs (fun j => cv j d) (Ideal.exp2 (expo vn)) (clip (vn d) (Ideal.exp2 (0 - expo vn)))

/-- Where the two ways of taking the scale agree on both new rows, the two rows agree. -/
theorem kRow_eq (x kn vn : Fin 128 → EReal) (ck cv : Fin 32768 → Fin 128 → EReal) (cks cvs : Fin 32768 → EReal)
    (w : BitVec 32) (m : ℝ) (d : Fin 128)
    (hk : Scales.scale (level kn) = Ideal.exp2 (expo kn) ∧ Scales.inv (level kn) = Ideal.exp2 (0 - expo kn))
    (hv : Scales.scale (level vn) = Ideal.exp2 (expo vn) ∧ Scales.inv (level vn) = Ideal.exp2 (0 - expo vn)) :
    kRow x kn vn ck cv cks cvs w d = rRow x kn vn ck cv cks cvs w m d := by
  rw [kRow_windowed, hk.1, hk.2, hv.1, hv.2]
  exact Attend.attend_eq _ _ _ (fun j h => Decode.live_window w j.val j.isLt h) _ _ m _ _ _ _

end Cert.Match

end
-- ==== Proof.RefRow.lean ====
/-
  What the reference stores, as functions of its arguments, over the extended reals.
-/
module

public import proofs.«01_k».proof.Proof.Match

@[expose] public section

set_option maxRecDepth 16384

noncomputable section

namespace Cert.ReferenceIdeal.Hand

open Cert.ReferenceIdeal Cert.ReferenceIdeal.Gen
open Idealize.ShloMosaic
open Cert.KernelIdeal.Hand (rowMax level clip)
open Cert.Match (T tanhOf_eq fifty liveBit_eq select_bit rRow)

theorem bot_bits : Ideal.ofBits .f32 0xFF800000#32 = ⊥ := by
  have h : BitVec.extractLsb' 31 1 (0xFF800000#32 : BitVec 32) = 1#1 := by decide
  norm_num [Ideal.ofBits, Ideal.ieee, Nat.shiftRight_eq_div_pow, h]

theorem pay2_eq (x : Vec Ideal S16x16x128 .bf16) (b h : Fin 16) (d : Fin 128) : k0_pay2 (F := Ideal) x (ix3 b h d) = x (ix3 b h d) := by
  pointwise [k0_pay2]

/-! ## What is subtracted before exponentiating is a real number -/

/-- The larger of a number below `⊤` and a real number is a real number. -/
theorem max_real (a : EReal) (ha : a < ⊤) (r : ℝ) : ∃ m : ℝ, max a (r : EReal) = (m : EReal) := by
  induction a with
  | bot => exact ⟨r, max_eq_right bot_le⟩
  | top => exact absurd ha (lt_irrefl _)
  | coe x =>
    rcases le_total x r with h | h
    · exact ⟨r, max_eq_right (EReal.coe_le_coe_iff.mpr h)⟩
    · exact ⟨x, max_eq_left (EReal.coe_le_coe_iff.mpr h)⟩

/-- A masked score: a real number or `⊥`. -/
theorem score_lt_top (b : BitVec 1) (r : ℝ) :
    Scalar.select b (Ideal.ofBits .f32 0x42480000#32 * (r : EReal)) (Ideal.ofBits .f32 0xFF800000#32) < ⊤ := by
  rw [fifty, bot_bits, ← EReal.coe_mul]
  unfold Scalar.select
  split
  · exact EReal.coe_lt_top _
  · exact bot_lt_top

theorem idx3 {n₀ n₁ n₂ : ℕ} (y : (⟨3, ![n₀, n₁, n₂]⟩ : Shape).Idx) : ∃ a b c, y = ix3 a b c := ⟨y 0, y 1, y 2, by
  funext a
  match a with
  | 0 => rfl
  | 1 => rfl
  | 2 => rfl⟩

/-- The largest of numbers below `⊤` is below `⊤`. -/
theorem fold_lt_top {ι : Type} (s : Finset ι) (f : ι → EReal) (a : EReal) (ha : a < ⊤) (hf : ∀ i, f i < ⊤) :
    s.fold (FloatOps.maximumf (F := Ideal) (φ := .f32)) a f < (⊤ : EReal) :=
  (Finset.fold_max_lt (⊤ : EReal)).mpr ⟨ha, fun y _ => hf y⟩

theorem reduce_lt_top {s t : Shape} {axes : List (Fin s.rank)} (A : FVec Ideal s .f32) (hA : ∀ y, A y < (⊤ : EReal))
    (acc : BitVec (FTy.bits .f32)) (h0 : Ideal.ofBits .f32 acc < ⊤) (h : s.Reduces axes t) (hf : FKind.Formats .f32)
    (ha : acc = FKind.maximumf.neutral .f32 hf) (j : t.Idx) :
    multiReduction (F := Ideal) .maximumf axes t A acc h hf ha j < (⊤ : EReal) := by
  rw [multiReduction_maximumf_eq_fold]
  exact fold_lt_top _ _ _ h0 hA

/-- A masked score of the stored part is below `⊤`. -/
theorem pay19_lt_top (v73 : FVec Ideal S16x16x32768 .f32) (v74 : Vec Ideal S16x1x32768 .f32) (v96 : Vec Ideal S16x1x1 .i32)
    (y : S16x16x32768.Idx) : k0_pay19 (F := Ideal) v73 v74 v96 y < (⊤ : EReal) := by
  obtain ⟨a, b, c, rfl⟩ := idx3 y
  rw [pay19_apply, tanhOf_eq]
  exact score_lt_top _ _

/-- The new position's score is a real number. -/
theorem pay18_real (v1 : FVec Ideal S16x16x128 .bf16) (v21 : FVec Ideal S16x1x1 .f32) (v31 : FVec Ideal S16x1x128 .fp8e4m3)
    (b h : Fin 16) : ∃ r : ℝ, k0_pay18 (F := Ideal) v1 v21 v31 (ix3 b h 0) = (r : EReal) :=
  ⟨_, by rw [pay18_apply, tanhOf_eq, fifty, ← EReal.coe_mul]⟩

theorem cast_lt_top {s t : Shape} (v : s.Idx → EReal) (hv : ∀ y, v y < ⊤) (h : s.ShapeCasts t) (j : t.Idx) :
    shapeCast t v h j < ⊤ := hv _

theorem max_cast_real {s t u : Shape} {axes : List (Fin s.rank)} (A : FVec Ideal s .f32) (hA : ∀ y, A y < (⊤ : EReal))
    (acc : BitVec (FTy.bits .f32)) (h0 : Ideal.ofBits .f32 acc < ⊤) (h : s.Reduces axes t) (hf : FKind.Formats .f32)
    (ha : acc = FKind.maximumf.neutral .f32 hf) (hc : t.ShapeCasts u) (B : FVec Ideal u .f32) (j : u.Idx)
    (hB : ∃ r : ℝ, B j = (r : EReal)) :
    ∃ m : ℝ, maximumf (shapeCast u (multiReduction (F := Ideal) .maximumf axes t A acc h hf ha) hc) B j = (m : EReal) := by
  obtain ⟨r, e⟩ := hB
  obtain ⟨m, hm⟩ := max_real (shapeCast u (multiReduction (F := Ideal) .maximumf axes t A acc h hf ha) hc j)
    (cast_lt_top _ (fun y => reduce_lt_top A hA acc h0 h hf ha y) hc j) r
  refine ⟨m, ?_⟩
  rw [← hm, ← e]
  rfl

theorem bot_bits_lt : Ideal.ofBits .f32 0xFF800000#32 < ⊤ := by rw [bot_bits]; exact bot_lt_top

theorem pay20_real (v1 : FVec Ideal S16x16x128 .bf16) (v21 : FVec Ideal S16x1x1 .f32) (v31 : FVec Ideal S16x1x128 .fp8e4m3)
    (v73 : FVec Ideal S16x16x32768 .f32) (v74 : Vec Ideal S16x1x32768 .f32) (v96 : Vec Ideal S16x1x1 .i32) (b h : Fin 16) :
    ∃ m : ℝ, k0_pay20 (F := Ideal) v1 v21 v31 v73 v74 v96 (ix3 b h 0) = (m : EReal) :=
  max_cast_real (k0_pay19 (F := Ideal) v73 v74 v96) (pay19_lt_top v73 v74 v96) 0xFF800000#32 bot_bits_lt
    reduces_S16x16x32768_S16x16 (.inl rfl) rfl shapeCasts_S16x16_S16x16x1 (k0_pay18 (F := Ideal) v1 v21 v31) (ix3 b h 0)
    (pay18_real v1 v21 v31 b h)

/-! ## The attention result -/

theorem zeros3 : (![0, 0, 0] : Fin 3 → ℕ) = fun _ => 0 := by decide
theorem zeros2 : (![0, 0] : Fin 2 → ℕ) = fun _ => 0 := by decide

theorem pay1_row (x : Vec Ideal S16x16x128 .bf16) (kn vn : Vec Ideal S16x1x128 .bf16) (ck cv : Vec Ideal S16x32768x128 .fp8e4m3)
    (cks cvs : Vec Ideal S16x1x32768 .f32) (w : Vec Ideal S16x1x1 .i32) (b h : Fin 16) (d : Fin 128) :
    ∃ m : ℝ, k0_pay1 (F := Ideal) (k0_pay11 (k0_pay8 vn) (k0_pay9 vn)) (k0_pay12 (k0_pay7 vn) (k0_pay8 vn) (k0_pay9 vn))
        (k0_pay21 (k0_pay2 x) (k0_pay5 kn) (k0_pay6 kn) (k0_pay17 (k0_pay2 x) ck) cks w)
        (k0_pay22 (k0_pay2 x) (k0_pay5 kn) (k0_pay6 kn) (k0_pay17 (k0_pay2 x) ck) cks w) cvs cv (ix3 b h d)
      = rRow (fun d => x (ix3 b h d)) (fun d => kn (ix3 b 0 d)) (fun d => vn (ix3 b 0 d)) (fun j d => ck (ix3 b j d))
          (fun j d => cv (ix3 b j d)) (fun j => cks (ix3 b 0 j)) (fun j => cvs (ix3 b 0 j)) (w (ix3 b 0 0)) m d := by
  obtain ⟨m, hm⟩ := pay20_real (k0_pay2 x) (k0_pay5 kn) (k0_pay6 kn) (k0_pay17 (k0_pay2 x) ck) cks w b h
  refine ⟨m, ?_⟩
  have hl : ∀ j : Fin 32768, liveBit (w (ix3 b 0 0)) j.val = BitVec.ofBool (decide (Decode.live (w (ix3 b 0 0)) j.val)) :=
    fun j => liveBit_eq _ _ j.isLt
  simp only [pay1_apply, pay21_apply, pay22_apply, hm, pay11_apply, pay12_apply, pay19_apply, pay18_apply, pay17_apply, pay2_eq,
    pay5_apply, pay6_apply, tanhOf_eq, hl, select_bit, fifty, bot_bits, ← EReal.coe_mul]
  rfl

end Cert.ReferenceIdeal.Hand

end
-- ==== Proof.RefOut.lean ====
/-
  The reference's results, element by element, as functions of the arrays its body reads.
-/
module

public import proofs.«01_k».proof.Proof.RefArr
public import proofs.«01_k».proof.Proof.RefRow

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (rowMax level clip)
open Cert.Match (rRow)

/-! ## What the body stores, with each load and store of a whole buffer the buffer itself -/

theorem out8_eq (x0 : Vec Ideal S16x16x128 .bf16) (x1 x2 : Vec Ideal S16x1x128 .bf16) (x3 x4 : Vec Ideal S16x32768x128 .fp8e4m3)
    (x5 x6 : Vec Ideal S16x1x32768 .f32) (x7 : Vec Ideal S16x1x1 .i32) :
    out0_8 (F := Ideal) x0 x1 x2 x3 x4 x5 x6 x7 = k0_pay1 (F := Ideal) (k0_pay11 (k0_pay8 x2) (k0_pay9 x2)) (k0_pay12 (k0_pay7 x2) (k0_pay8 x2) (k0_pay9 x2))
      (k0_pay21 (k0_pay2 x0) (k0_pay5 x1) (k0_pay6 x1) (k0_pay17 (k0_pay2 x0) x3) x5 x7)
      (k0_pay22 (k0_pay2 x0) (k0_pay5 x1) (k0_pay6 x1) (k0_pay17 (k0_pay2 x0) x3) x5 x7) x6 x4 := by
  unfold_out out0_8
  simp only [View.ld_unit_zero (S := S16x16x128) zeros3,
    View.ld_unit_zero (S := S16x1x128) zeros3,
    View.ld_unit_zero (S := S16x32768x128) zeros3,
    View.ld_unit_zero (S := S16x1x32768) zeros3,
    View.ld_unit_zero (S := S16x1x1) zeros3]
  exact View.canon_cons_unit_zero (S := S16x16x128) zeros3 _ _ _

theorem out9_eq (x0 : Vec Ideal S16x16x128 .bf16) (x1 x2 : Vec Ideal S16x1x128 .bf16) (x3 x4 : Vec Ideal S16x32768x128 .fp8e4m3)
    (x5 x6 : Vec Ideal S16x1x32768 .f32) (x7 : Vec Ideal S16x1x1 .i32) :
    out0_9 (F := Ideal) x0 x1 x2 x3 x4 x5 x6 x7 = k0_pay13 (F := Ideal) (k0_pay6 x1) := by
  unfold_out out0_9
  simp only [View.ld_unit_zero (S := S16x1x128) zeros3]
  exact View.canon_cons_unit_zero (S := S16x128) zeros2 _ _ _

theorem out10_eq (x0 : Vec Ideal S16x16x128 .bf16) (x1 x2 : Vec Ideal S16x1x128 .bf16) (x3 x4 : Vec Ideal S16x32768x128 .fp8e4m3)
    (x5 x6 : Vec Ideal S16x1x32768 .f32) (x7 : Vec Ideal S16x1x1 .i32) :
    out0_10 (F := Ideal) x0 x1 x2 x3 x4 x5 x6 x7 = k0_pay14 (F := Ideal) (k0_pay5 x1) := by
  unfold_out out0_10
  simp only [View.ld_unit_zero (S := S16x1x128) zeros3]
  exact View.canon_cons_unit_zero (S := S1x16) zeros2 _ _ _

theorem out11_eq (x0 : Vec Ideal S16x16x128 .bf16) (x1 x2 : Vec Ideal S16x1x128 .bf16) (x3 x4 : Vec Ideal S16x32768x128 .fp8e4m3)
    (x5 x6 : Vec Ideal S16x1x32768 .f32) (x7 : Vec Ideal S16x1x1 .i32) :
    out0_11 (F := Ideal) x0 x1 x2 x3 x4 x5 x6 x7 = k0_pay15 (F := Ideal) (k0_pay7 x2) (k0_pay8 x2) (k0_pay9 x2) := by
  unfold_out out0_11
  simp only [View.ld_unit_zero (S := S16x1x128) zeros3]
  exact View.canon_cons_unit_zero (S := S16x128) zeros2 _ _ _

theorem out12_eq (x0 : Vec Ideal S16x16x128 .bf16) (x1 x2 : Vec Ideal S16x1x128 .bf16) (x3 x4 : Vec Ideal S16x32768x128 .fp8e4m3)
    (x5 x6 : Vec Ideal S16x1x32768 .f32) (x7 : Vec Ideal S16x1x1 .i32) :
    out0_12 (F := Ideal) x0 x1 x2 x3 x4 x5 x6 x7 = k0_pay16 (F := Ideal) (k0_pay8 x2) (k0_pay9 x2) := by
  unfold_out out0_12
  simp only [View.ld_unit_zero (S := S16x1x128) zeros3]
  exact View.canon_cons_unit_zero (S := S1x16) zeros2 _ _ _

/-! ## The result arrays -/

variable (m : (ℓ : Loc nD τ sig) → Buf (Elt Ideal) ℓ) (c : Dev nD)

theorem result8 (b h : Fin 16) (d : Fin 128) : ∃ s : ℝ, ((dats m 0 c).arrAt 8 cfg0.N : S16x16x128.Idx → EReal) (ix3 b h d)
    = rRow (fun d => (V m c main_v0 : S16x16x128.Idx → EReal) (ix3 b h d)) (fun d => (V m c main_v1 : S16x1x128.Idx → EReal) (ix3 b 0 d))
        (fun d => (V m c main_v2 : S16x1x128.Idx → EReal) (ix3 b 0 d)) (fun j d => (V m c main_v3 : S16x32768x128.Idx → EReal) (ix3 b j d))
        (fun j d => (V m c main_v4 : S16x32768x128.Idx → EReal) (ix3 b j d)) (fun j => (V m c main_v5 : S16x1x32768.Idx → EReal) (ix3 b 0 j))
        (fun j => (V m c main_v6 : S16x1x32768.Idx → EReal) (ix3 b 0 j)) ((V m c main_v7 : S16x1x1.Idx → BitVec 32) (ix3 b 0 0)) s d := by
  obtain ⟨s, hs⟩ := pay1_row (V m c main_v0) (V m c main_v1) (V m c main_v2) (V m c main_v3) (V m c main_v4) (V m c main_v5)
    (V m c main_v6) (V m c main_v7) b h d
  refine ⟨s, ?_⟩
  rw [array8, out8_eq]
  exact hs

theorem result9 (b : Fin 16) (d : Fin 128) : ((dats m 0 c).arrAt 9 cfg0.N : S16x128.Idx → EReal) (ix2 b d)
    = clip ((V m c main_v1 : S16x1x128.Idx → EReal) (ix3 b 0 d))
        (Ideal.exp2 (0 - expo fun x => (V m c main_v1 : S16x1x128.Idx → EReal) (ix3 b 0 x))) := by
  rw [array9, out9_eq, pay13_apply, pay6_apply]

theorem result10 (b : Fin 16) : ((dats m 0 c).arrAt 10 cfg0.N : S1x16.Idx → EReal) (ix2 0 b)
    = Ideal.exp2 (expo fun x => (V m c main_v1 : S16x1x128.Idx → EReal) (ix3 b 0 x)) := by
  rw [array10, out10_eq, pay14_apply, pay5_apply]

theorem result11 (b : Fin 16) (d : Fin 128) : ((dats m 0 c).arrAt 11 cfg0.N : S16x128.Idx → EReal) (ix2 b d)
    = clip ((V m c main_v2 : S16x1x128.Idx → EReal) (ix3 b 0 d))
        (Ideal.exp2 (0 - expo fun x => (V m c main_v2 : S16x1x128.Idx → EReal) (ix3 b 0 x))) := by
  rw [array11, out11_eq, pay15_eq, pay13_apply, pay12_apply]

theorem result12 (b : Fin 16) : ((dats m 0 c).arrAt 12 cfg0.N : S1x16.Idx → EReal) (ix2 0 b)
    = Ideal.exp2 (expo fun x => (V m c main_v2 : S16x1x128.Idx → EReal) (ix3 b 0 x)) := by
  rw [array12, out12_eq, pay16_eq, pay14_apply, pay11_apply]

end Cert.ReferenceIdeal.Hand

end
-- ==== Proof.RefRes.lean ====
/-
  The reference's results, element by element, as functions of its arguments.
-/
module

public import proofs.«01_k».proof.Proof.ArgsR
public import proofs.«01_k».proof.Proof.RefOut

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (clip)
open Cert.Match (rRow)

variable (m : (ℓ : Loc nD τ sig) → Buf (Elt Ideal) ℓ) (c : Dev nD)

theorem rOut_apply (b h : Fin 16) (d : Fin 128) : ∃ s : ℝ, ((dats m 0 c).arrAt 8 cfg0.N : S16x16x128.Idx → EReal) (ix3 b h d)
    = rRow (fun d => (m ((c : Thread nD τ).loc main_arg0) : S16x1x16x128.Idx → EReal) (ix4 b 0 h d))
        (fun d => (m ((c : Thread nD τ).loc main_arg1) : S16x1x1x128.Idx → EReal) (ix4 b 0 0 d))
        (fun d => (m ((c : Thread nD τ).loc main_arg2) : S16x1x1x128.Idx → EReal) (ix4 b 0 0 d))
        (fun p d => (m ((c : Thread nD τ).loc main_arg3) : S16x32768x1x128.Idx → EReal) (ix4 b p 0 d))
        (fun p d => (m ((c : Thread nD τ).loc main_arg4) : S16x32768x1x128.Idx → EReal) (ix4 b p 0 d))
        (fun p => (m ((c : Thread nD τ).loc main_arg5) : S16x32768x1.Idx → EReal) (ix3 b p 0))
        (fun p => (m ((c : Thread nD τ).loc main_arg6) : S16x32768x1.Idx → EReal) (ix3 b p 0))
        ((m ((c : Thread nD τ).loc main_arg7) : S16.Idx → BitVec 32) (ix1 b)) s d := by
  obtain ⟨s, hs⟩ := result8 m c b h d
  refine ⟨s, hs.trans ?_⟩
  simp only [el0 m c, el1 m c, el2 m c, el3 m c, el4 m c, el5 m c, el6 m c, el7 m c]

theorem rKc_apply (b : Fin 16) (d : Fin 128) : ((dats m 0 c).arrAt 9 cfg0.N : S16x128.Idx → EReal) (ix2 b d)
    = clip ((m ((c : Thread nD τ).loc main_arg1) : S16x1x1x128.Idx → EReal) (ix4 b 0 0 d)) (Ideal.exp2 (0 - expo fun x => (m ((c : Thread nD τ).loc main_arg1) : S16x1x1x128.Idx → EReal) (ix4 b 0 0 x))) := by
  rw [result9]
  simp only [el1 m c]

theorem rKs_apply (b : Fin 16) : ((dats m 0 c).arrAt 10 cfg0.N : S1x16.Idx → EReal) (ix2 0 b)
    = Ideal.exp2 (expo fun x => (m ((c : Thread nD τ).loc main_arg1) : S16x1x1x128.Idx → EReal) (ix4 b 0 0 x)) := by
  rw [result10]
  simp only [el1 m c]

theorem rVc_apply (b : Fin 16) (d : Fin 128) : ((dats m 0 c).arrAt 11 cfg0.N : S16x128.Idx → EReal) (ix2 b d)
    = clip ((m ((c : Thread nD τ).loc main_arg2) : S16x1x1x128.Idx → EReal) (ix4 b 0 0 d)) (Ideal.exp2 (0 - expo fun x => (m ((c : Thread nD τ).loc main_arg2) : S16x1x1x128.Idx → EReal) (ix4 b 0 0 x))) := by
  rw [result11]
  simp only [el2 m c]

theorem rVs_apply (b : Fin 16) : ((dats m 0 c).arrAt 12 cfg0.N : S1x16.Idx → EReal) (ix2 0 b)
    = Ideal.exp2 (expo fun x => (m ((c : Thread nD τ).loc main_arg2) : S16x1x1x128.Idx → EReal) (ix4 b 0 0 x)) := by
  rw [result12]
  simp only [el2 m c]

end Cert.ReferenceIdeal.Hand

end
-- ==== Proof.Same.lean ====
/-
  From equal arguments whose new rows are in range, the reference's result arrays are the kernel's.
-/
module

public import proofs.«01_k».proof.Defs
public import proofs.«01_k».proof.Proof.Gen.KernelIdeal
public import proofs.«01_k».proof.Proof.Gen.ReferenceIdeal
public import proofs.«01_k».proof.Proof.InRange
public import proofs.«01_k».proof.Proof.KerOut
public import proofs.«01_k».proof.Proof.RefRes

@[expose] public section

set_option maxRecDepth 16384

noncomputable section

namespace Cert.Same

open Idealize.ShloMosaic Idealize.ShloMosaic.TcCoe
open Idealize.SL.Sem
open Cert.KernelIdeal.Hand (gOut gKc gKs gVc gVs kRow level gOut_apply gKc_apply gKs_apply gVc_apply gVs_apply)
open Cert.ReferenceIdeal.Hand (expo idx3 rOut_apply rKc_apply rKs_apply rVc_apply rVs_apply)
open Cert.InRange (InRange scales_agree)

/-- A memory of the kernel. -/
abbrev MemK : Type := (ℓ : Loc Cert.KernelIdeal.nD Cert.KernelIdeal.τ Cert.KernelIdeal.sig) → Buf (Elt Ideal) ℓ
/-- A memory of the reference. -/
abbrev MemR : Type := (ℓ : Loc Cert.ReferenceIdeal.nD Cert.ReferenceIdeal.τ Cert.ReferenceIdeal.sig) → Buf (Elt Ideal) ℓ

/-- The two memories hold the same arguments on device `c`. -/
def Agree (m : MemK) (m' : MemR) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The new key's row `b`. -/
def keyRow (m : MemK) (c : Dev Cert.KernelIdeal.nD) (b : Fin 16) : Fin 128 → EReal := fun x => (m ((c.tc : Thread Cert.KernelIdeal.nD Cert.KernelIdeal.τ).loc Cert.KernelIdeal.main_arg1) : Cert.KernelIdeal.S16x1x1x128.Idx → EReal) (ix4 b 0 0 x)

/-- The new value's row `b`. -/
def valRow (m : MemK) (c : Dev Cert.KernelIdeal.nD) (b : Fin 16) : Fin 128 → EReal := fun x => (m ((c.tc : Thread Cert.KernelIdeal.nD Cert.KernelIdeal.τ).loc Cert.KernelIdeal.main_arg2) : Cert.KernelIdeal.S16x1x1x128.Idx → EReal) (ix4 b 0 0 x)

/-- The precondition at a batch: both new rows are in range. -/
theorem rows_in_range (m : MemK) (hpre : Cert.Pre_KernelIdeal_rows_in_range (hPre_rows_in_range := Cert.InRange.facts) m)
    (c : Dev Cert.KernelIdeal.nD) (b : Fin 16) : InRange (keyRow m c b) ∧ InRange (valRow m c b) := by
  have h := congrFun (hpre c) (ix1 b)
  have h' := (Cert.InRange.both_bits _ _ (((@Cert.InRange.fn_apply Cert.InRange.facts _ _ _ _ _ _ _ _ b).symm.trans h)))
  exact ⟨Cert.InRange.inRange_of_bit _ h'.1, Cert.InRange.inRange_of_bit _ h'.2⟩

theorem idx2 {n₀ n₁ : ℕ} (y : (⟨2, ![n₀, n₁]⟩ : Shape).Idx) : ∃ a b, y = ix2 a b := ⟨y 0, y 1, by
  funext a
  match a with
  | 0 => rfl
  | 1 => rfl⟩

variable (m : MemK) (m' : MemR) (c : Dev Cert.KernelIdeal.nD) (ha : Agree m m' c)
  (hk : ∀ b, InRange (keyRow m c b)) (hv : ∀ b, InRange (valRow m c b))

include ha hk hv in
theorem same_out : ((Cert.ReferenceIdeal.Gen.dats m' 0 c).arrAt 8 Cert.ReferenceIdeal.cfg0.N : Cert.KernelIdeal.S16x16x128.Idx → EReal) = gOut m c := by
  obtain ⟨h0, h1, h2, h3, h4, h5, h6, h7⟩ := ha
  funext y
  obtain ⟨b, h, d, rfl⟩ := idx3 y
  obtain ⟨s, hs⟩ := rOut_apply m' c b h d
  rw [h0, h1, h2, h3, h4, h5, h6, h7] at hs
  exact hs.trans ((gOut_apply m c b h d).trans
    (Cert.Match.kRow_eq _ _ _ _ _ _ _ _ s d (scales_agree _ (hk b)) (scales_agree _ (hv b)))).symm

include ha hk in
theorem same_Kc : ((Cert.ReferenceIdeal.Gen.dats m' 0 c).arrAt 9 Cert.ReferenceIdeal.cfg0.N : Cert.KernelIdeal.S16x128.Idx → EReal) = gKc m c := by
  obtain ⟨h0, h1, h2, h3, h4, h5, h6, h7⟩ := ha
  funext y
  obtain ⟨b, d, rfl⟩ := idx2 y
  have hr := rKc_apply m' c b d
  rw [h1] at hr
  have hg := gKc_apply m c b d
  exact hr.trans (hg.trans (congrArg (Cert.KernelIdeal.Hand.clip _) (scales_agree _ (hk b)).2)).symm

include ha hk in
theorem same_Ks : ((Cert.ReferenceIdeal.Gen.dats m' 0 c).arrAt 10 Cert.ReferenceIdeal.cfg0.N : Cert.KernelIdeal.S1x16.Idx → EReal) = gKs m c := by
  obtain ⟨h0, h1, h2, h3, h4, h5, h6, h7⟩ := ha
  funext y
  obtain ⟨a, b, rfl⟩ := idx2 y
  obtain rfl : a = 0 := Subsingleton.elim _ _
  have hr := rKs_apply m' c b
  rw [h1] at hr
  exact hr.trans ((gKs_apply m c b).trans (scales_agree _ (hk b)).1).symm

include ha hv in
theorem same_Vc : ((Cert.ReferenceIdeal.Gen.dats m' 0 c).arrAt 11 Cert.ReferenceIdeal.cfg0.N : Cert.KernelIdeal.S16x128.Idx → EReal) = gVc m c := by
  obtain ⟨h0, h1, h2, h3, h4, h5, h6, h7⟩ := ha
  funext y
  obtain ⟨b, d, rfl⟩ := idx2 y
  have hr := rVc_apply m' c b d
  rw [h2] at hr
  have hg := gVc_apply m c b d
  exact hr.trans (hg.trans (congrArg (Cert.KernelIdeal.Hand.clip _) (scales_agree _ (hv b)).2)).symm

include ha hv in
theorem same_Vs : ((Cert.ReferenceIdeal.Gen.dats m' 0 c).arrAt 12 Cert.ReferenceIdeal.cfg0.N : Cert.KernelIdeal.S1x16.Idx → EReal) = gVs m c := by
  obtain ⟨h0, h1, h2, h3, h4, h5, h6, h7⟩ := ha
  funext y
  obtain ⟨a, b, rfl⟩ := idx2 y
  obtain rfl : a = 0 := Subsingleton.elim _ _
  have hr := rVs_apply m' c b
  rw [h2] at hr
  exact hr.trans ((gVs_apply m c b).trans (scales_agree _ (hv b)).1).symm

/-- THE RESULTS AGREE. -/
theorem algebraic : Cert.algebraic_KernelIdeal_ReferenceIdeal_pre_rows_in_range (hKernelIdeal := Cert.KernelIdeal.Gen.facts)
    (hReferenceIdeal := Cert.ReferenceIdeal.Gen.facts) (hPre_rows_in_range := Cert.InRange.facts) := by
  intro m ρ m' ρ' hpre hagree
  refine ⟨gOut m, gKc m, gKs m, gVc m, gVs m, Cert.KernelIdeal.Hand.run_results m ρ, ?_⟩
  refine (θ_run (Cert.ReferenceIdeal.defs (F := Ideal)) _ _).mono (fun r h c => ?_) (Cert.ReferenceIdeal.Value.run_blocks (F := Ideal) m' ρ')
  obtain ⟨e0, e1, e2, e3, e4, kept⟩ := h c
  have ha : Agree m m' c := hagree c
  have hk : ∀ b, InRange (keyRow m c b) := fun b => (rows_in_range m hpre c b).1
  have hv : ∀ b, InRange (valRow m c b) := fun b => (rows_in_range m hpre c b).2
  exact ⟨e0.trans (same_out m m' c ha hk hv), e1.trans (same_Kc m m' c ha hk), e2.trans (same_Ks m m' c ha hk),
    e3.trans (same_Vc m m' c ha hv), e4.trans (same_Vs m m' c ha hv), kept⟩

end Cert.Same

end
-- ==== Proof.lean ====
/-
  The proof of `Cert.Claim`: the frames of the four programs, that the idealised programs differ from the printed ones
  only in literals that name the real numbers they stand for, and that over the extended reals the kernel and the reference
  end with equal results.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Frame
public import proofs.«01_k».proof.Proof.Gen.ReferenceIdeal
public import proofs.«01_k».proof.Proof.Gen.ReferenceIdeal.Frame
public import proofs.«01_k».proof.Proof.FrameK
public import proofs.«01_k».proof.Proof.FrameI
public import proofs.«01_k».proof.Proof.Gen.ReferenceIdeal.Value
public import proofs.«01_k».proof.Proof.Same

@[expose] public section

noncomputable section

namespace Cert.Proof

open Idealize.ShloMosaic Idealize.SL.Sem

/-- The kernel's named literals. -/
theorem preserves_kernel : Cert.preserves_Kernel_KernelIdeal :=
  ⟨IdealRules.named_const.statement Cert.KernelIdeal.κ "inv_fp8_max" .f32 0x3B124925#32 ((1 / 448 : ℝ) : EReal) rfl,
    IdealRules.named_const.statement Cert.KernelIdeal.κ "score_over_softcap" .f32 0x3AE7B46A#32
      (((Real.sqrt 128)⁻¹ * (1 / 50) : ℝ) : EReal) rfl,
    IdealRules.named_const.statement Cert.KernelIdeal.κ "softcap_log2_e" .f32 0x429044FE#32
      ((50 * (Real.log 2)⁻¹ : ℝ) : EReal) rfl⟩

/-- The reference's named literals. -/
theorem preserves_reference : Cert.preserves_Reference_ReferenceIdeal :=
  ⟨IdealRules.named_const.statement Cert.ReferenceIdeal.κ "inv_fp8_max" .f32 0x3B124925#32 ((1 / 448 : ℝ) : EReal) rfl,
    IdealRules.named_const.statement Cert.ReferenceIdeal.κ "score_scale" .f32 0x3DB504F3#32
      (((Real.sqrt 128)⁻¹ : ℝ) : EReal) rfl⟩

theorem claim : Cert.Claim :=
  ⟨Cert.Kernel.Gen.facts, Cert.KernelIdeal.Gen.facts, Cert.ReferenceIdeal.Gen.facts, Cert.Reference.Gen.facts, Cert.InRange.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    fun m ρ _ => Cert.Reference.Gen.frame m ρ,
    preserves_kernel, preserves_reference, Cert.Same.algebraic⟩

end Cert.Proof

end
